-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_usable (hKernelIdeal := hKernelIdeal) (hReferenceIdeal := hReferenceIdeal) (hPre_usable := hPre_usable)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_usable.lean ====
abbrev S16896x1024 : Shape := ⟨2, ![16896, 1024]⟩
abbrev S16896x2048 : Shape := ⟨2, ![16896, 2048]⟩
abbrev S1x16x15x31 : Shape := ⟨4, ![1, 16, 15, 31]⟩
abbrev S_ : Shape := ⟨0, ![]⟩
abbrev S16896x8x256 : Shape := ⟨3, ![16896, 8, 256]⟩
abbrev S16896x8x128 : Shape := ⟨3, ![16896, 8, 128]⟩

class Facts : Prop where
  bitsLt_bf16_f32 : FTy.bits .bf16 < FTy.bits .f32
  bcast_S_S16896x1024 : S_.BroadcastsInDim S16896x1024 (![] : Fin 0 → Fin S16896x1024.rank)
  bcast_S_S1x16x15x31 : S_.BroadcastsInDim S1x16x15x31 (![] : Fin 0 → Fin S1x16x15x31.rank)
  shapeCasts_S16896x2048_S16896x8x256 : S16896x2048.ShapeCasts S16896x8x256
  slices_S16896x8x256_S16896x8x128_0_0_128 : S16896x8x256.Slices ![0, 0, 128] S16896x8x128
  bcast_S_S16896x8x128 : S_.BroadcastsInDim S16896x8x128 (![] : Fin 0 → Fin S16896x8x128.rank)

variable [Facts]

def fn {F : FTy → Type} [FloatOps F] (main_arg0 : FVec F S16896x1024 .bf16) (main_arg1 : FVec F S16896x1024 .bf16) (main_arg2 : FVec F S16896x2048 .bf16) (main_arg3 : FVec F S1x16x15x31 .f32) : IVec S16896x1024 1 × IVec S16896x1024 1 × IVec S1x16x15x31 1 × IVec S16896x8x128 1 :=
  let main_v0 : FVec F S16896x1024 .f32 := (extf .f32 · bitsLt_bf16_f32) main_arg0
  let main_v1 : FVec F S16896x1024 .f32 := Host.absf main_v0
  let main_cst : FVec F S_ .f32 := constant S_ .f32 0x7F800000#32
  let main_v2 : FVec F S16896x1024 .f32 := broadcastInDim S16896x1024 ![] bcast_S_S16896x1024 main_cst
  let main_v3 : IVec S16896x1024 1 := cmpf .olt main_v1 main_v2
  let main_v4 : FVec F S16896x1024 .f32 := (extf .f32 · bitsLt_bf16_f32) main_arg1
  let main_v5 : FVec F S16896x1024 .f32 := Host.absf main_v4
  let main_cst_0 : FVec F S_ .f32 := constant S_ .f32 0x7F800000#32
  let main_v6 : FVec F S16896x1024 .f32 := broadcastInDim S16896x1024 ![] bcast_S_S16896x1024 main_cst_0
  let main_v7 : IVec S16896x1024 1 := cmpf .olt main_v5 main_v6
  let main_v8 : FVec F S1x16x15x31 .f32 := Host.absf main_arg3
  let main_cst_1 : FVec F S_ .f32 := constant S_ .f32 0x7F800000#32
  let main_v9 : FVec F S1x16x15x31 .f32 := broadcastInDim S1x16x15x31 ![] bcast_S_S1x16x15x31 main_cst_1
  let main_v10 : IVec S1x16x15x31 1 := cmpf .olt main_v8 main_v9
  let main_v11 : FVec F S16896x8x256 .bf16 := shapeCast S16896x8x256 main_arg2 shapeCasts_S16896x2048_S16896x8x256
  let main_v12 : FVec F S16896x8x128 .bf16 := (extractStridedSlice S16896x8x128 ![0, 0, 128] · slices_S16896x8x256_S16896x8x128_0_0_128) main_v11
  let main_v13 : FVec F S16896x8x128 .f32 := (extf .f32 · bitsLt_bf16_f32) main_v12
  let main_cst_2 : FVec F S_ .f32 := constant S_ .f32 0x3F800000#32
  let main_v14 : FVec F S16896x8x128 .f32 := broadcastInDim S16896x8x128 ![] bcast_S_S16896x8x128 main_cst_2
  let main_v15 : IVec S16896x8x128 1 := cmpf .oeq main_v13 main_v14
  (main_v3, main_v7, main_v10, main_v15)
-- ==== Kernel.lean ====
abbrev S16896x1024 : Shape := ⟨2, ![16896, 1024]⟩
abbrev S16896x2048 : Shape := ⟨2, ![16896, 2048]⟩
abbrev S1x16x15x31 : Shape := ⟨4, ![1, 16, 15, 31]⟩
abbrev S16x15x31 : Shape := ⟨3, ![16, 15, 31]⟩
abbrev S16x14x31 : Shape := ⟨3, ![16, 14, 31]⟩
abbrev S_ : Shape := ⟨0, ![]⟩
abbrev S16x16x128 : Shape := ⟨3, ![16, 16, 128]⟩
abbrev S16384x1024 : Shape := ⟨2, ![16384, 1024]⟩
abbrev S8192x128 : Shape := ⟨2, ![8192, 128]⟩
abbrev S8192x256 : Shape := ⟨2, ![8192, 256]⟩
abbrev S256x128 : Shape := ⟨2, ![256, 128]⟩
abbrev S256x256 : Shape := ⟨2, ![256, 256]⟩
abbrev S2x16x128 : Shape := ⟨3, ![2, 16, 128]⟩
abbrev S8x128x512 : Shape := ⟨3, ![8, 128, 512]⟩
abbrev S1024x768 : Shape := ⟨2, ![1024, 768]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩
abbrev S128x256 : Shape := ⟨2, ![128, 256]⟩
abbrev S128 : Shape := ⟨1, ![128]⟩
abbrev S128x1 : Shape := ⟨2, ![128, 1]⟩
abbrev S512x256 : Shape := ⟨2, ![512, 256]⟩

abbrev nBuf : Space → Nat
  | .hbm => 15
  | .vmem => 17
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .bf16⟩
  | .hbm, ⟨3, _⟩ => ⟨S1x16x15x31, .f32⟩
  | .hbm, ⟨4, _⟩ => ⟨S16x15x31, .f32⟩
  | .hbm, ⟨5, _⟩ => ⟨S16x14x31, .f32⟩
  | .hbm, ⟨6, _⟩ => ⟨S_, .i32⟩
  | .hbm, ⟨7, _⟩ => ⟨S_, .f32⟩
  | .hbm, ⟨8, _⟩ => ⟨S16x16x128, .f32⟩
  | .hbm, ⟨9, _⟩ => ⟨S16x14x31, .f32⟩
  | .hbm, ⟨10, _⟩ => ⟨S_, .i32⟩
  | .hbm, ⟨11, _⟩ => ⟨S_, .f32⟩
  | .hbm, ⟨12, _⟩ => ⟨S16x16x128, .f32⟩
  | .hbm, ⟨13, _⟩ => ⟨S16x16x128, .f32⟩
  | .hbm, ⟨14, _⟩ => ⟨S16384x1024, .bf16⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S8192x256, .bf16⟩
  | .local _ .vmem, ⟨5, _⟩ => ⟨S8192x256, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S2x16x128, .f32⟩
  | .local _ .vmem, ⟨11, _⟩ => ⟨S2x16x128, .f32⟩
  | .local _ .vmem, ⟨12, _⟩ => ⟨S8192x128, .bf16⟩
  | .local _ .vmem, ⟨13, _⟩ => ⟨S8192x128, .bf16⟩
  | .local _ .vmem, ⟨14, _⟩ => ⟨S8x128x512, .f32⟩
  | .local _ .vmem, ⟨15, _⟩ => ⟨S1024x768, .bf16⟩
  | .local _ .vmem, ⟨16, _⟩ => ⟨S1024x768, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_mult1 : BitVec 32 :=
  let c0_i32_2 : BitVec 32 := 0#32
  c0_i32_2
def k0_mult2 : BitVec 32 :=
  let c64_i32_4 : BitVec 32 := 64#32
  c64_i32_4
def k0_mult3 : BitVec 32 :=
  let c120_i32 : BitVec 32 := 120#32
  let c0_i32_8 : BitVec 32 := 0#32
  let c_m4_i32 : BitVec 32 := 4294967292#32
  let v23 : BitVec 32 := Scalar.maxsi c0_i32_8 c_m4_i32
  let v24 : BitVec 32 := Scalar.minsi c120_i32 v23
  let c64_i32_10 : BitVec 32 := 64#32
  let v27 : BitVec 32 := Scalar.muli v24 c64_i32_10
  v27
def k0_off1 (c_m4_i32 : BitVec 32) : Fin 2 → Nat :=
  let c120_i32 : BitVec 32 := 120#32
  let c0_i32_8 : BitVec 32 := 0#32
  let v23 : BitVec 32 := Scalar.maxsi c0_i32_8 c_m4_i32
  let v24 : BitVec 32 := Scalar.minsi c120_i32 v23
  let c64_i32_10 : BitVec 32 := 64#32
  let v27 : BitVec 32 := Scalar.muli v24 c64_i32_10
  let v28 : BitVec 32 := v27
  let v29 : Index := Scalar.indexCast v28
  let c0_11 : Index := 0#32
  ![v29.toNat, 0]
def k0_off1_at (r : Fin 16) : BitVec 32 :=
  if r.val < 8 then
    if r.val < 4 then
      if r.val < 2 then
        if r.val < 1 then
          4294967292#32
        else
          4294967293#32
      else
        if r.val < 3 then
          4294967294#32
        else
          4294967295#32
    else
      if r.val < 6 then
        if r.val < 5 then
          0#32
        else
          1#32
      else
        if r.val < 7 then
          2#32
        else
          3#32
  else
    if r.val < 12 then
      if r.val < 10 then
        if r.val < 9 then
          116#32
        else
          117#32
      else
        if r.val < 11 then
          118#32
        else
          119#32
    else
      if r.val < 14 then
        if r.val < 13 then
          120#32
        else
          121#32
      else
        if r.val < 15 then
          122#32
        else
          123#32
def k0_off2 (c_m4_i32 : BitVec 32) (c0_i32_9 : BitVec 32) : Fin 3 → Nat :=
  let c120_i32 : BitVec 32 := 120#32
  let c0_i32_8 : BitVec 32 := 0#32
  let v23 : BitVec 32 := Scalar.maxsi c0_i32_8 c_m4_i32
  let v24 : BitVec 32 := Scalar.minsi c120_i32 v23
  let v25 : BitVec 32 := Scalar.subi v24 c0_i32_9
  let c7_i32 : BitVec 32 := 7#32
  let v26 : BitVec 32 := Scalar.addi v25 c7_i32
  let v32 : Index := Scalar.indexCast v26
  let c0_13 : Index := 0#32
  let c0_14 : Index := 0#32
  ![v32.toNat, 0, 0]
def k0_off2_at (r : Fin 16) : BitVec 32 × BitVec 32 :=
  if r.val < 8 then
    if r.val < 4 then
      if r.val < 2 then
        if r.val < 1 then
          (4294967292#32, 0#32)
        else
          (4294967293#32, 1#32)
      else
        if r.val < 3 then
          (4294967294#32, 2#32)
        else
          (4294967295#32, 3#32)
    else
      if r.val < 6 then
        if r.val < 5 then
          (0#32, 4#32)
        else
          (1#32, 5#32)
      else
        if r.val < 7 then
          (2#32, 6#32)
        else
          (3#32, 7#32)
  else
    if r.val < 12 then
      if r.val < 10 then
        if r.val < 9 then
          (116#32, 120#32)
        else
          (117#32, 121#32)
      else
        if r.val < 11 then
          (118#32, 122#32)
        else
          (119#32, 123#32)
    else
      if r.val < 14 then
        if r.val < 13 then
          (120#32, 124#32)
        else
          (121#32, 125#32)
      else
        if r.val < 15 then
          (122#32, 126#32)
        else
          (123#32, 127#32)
def k0_mult4 : BitVec 32 :=
  let c120_i32_21 : BitVec 32 := 120#32
  let c0_i32_20 : BitVec 32 := 0#32
  let c_m3_i32 : BitVec 32 := 4294967293#32
  let v56 : BitVec 32 := Scalar.maxsi c0_i32_20 c_m3_i32
  let v57 : BitVec 32 := Scalar.minsi c120_i32_21 v56
  let c64_i32_23 : BitVec 32 := 64#32
  let v60 : BitVec 32 := Scalar.muli v57 c64_i32_23
  v60
def k0_mult5 : BitVec 32 :=
  let c128_i32 : BitVec 32 := 128#32
  c128_i32
def k0_mult6 : BitVec 32 :=
  let c192_i32 : BitVec 32 := 192#32
  c192_i32
def k0_mult7 : BitVec 32 :=
  let c120_i32_39 : BitVec 32 := 120#32
  let c0_i32_38 : BitVec 32 := 0#32
  let c_m2_i32 : BitVec 32 := 4294967294#32
  let v105 : BitVec 32 := Scalar.maxsi c0_i32_38 c_m2_i32
  let v106 : BitVec 32 := Scalar.minsi c120_i32_39 v105
  let c64_i32_41 : BitVec 32 := 64#32
  let v109 : BitVec 32 := Scalar.muli v106 c64_i32_41
  v109
def k0_mult8 : BitVec 32 :=
  let c120_i32_52 : BitVec 32 := 120#32
  let c0_i32_51 : BitVec 32 := 0#32
  let c_m1_i32 : BitVec 32 := 4294967295#32
  let v138 : BitVec 32 := Scalar.maxsi c0_i32_51 c_m1_i32
  let v139 : BitVec 32 := Scalar.minsi c120_i32_52 v138
  let c64_i32_54 : BitVec 32 := 64#32
  let v142 : BitVec 32 := Scalar.muli v139 c64_i32_54
  v142
def k0_mult9 : BitVec 32 :=
  let c256_i32 : BitVec 32 := 256#32
  c256_i32
def k0_mult10 : BitVec 32 :=
  let c320_i32 : BitVec 32 := 320#32
  c320_i32
def k0_mult11 : BitVec 32 :=
  let c120_i32_71 : BitVec 32 := 120#32
  let c0_i32_70 : BitVec 32 := 0#32
  let c0_i32_69 : BitVec 32 := 0#32
  let v187 : BitVec 32 := Scalar.maxsi c0_i32_70 c0_i32_69
  let v188 : BitVec 32 := Scalar.minsi c120_i32_71 v187
  let c64_i32_73 : BitVec 32 := 64#32
  let v191 : BitVec 32 := Scalar.muli v188 c64_i32_73
  v191
def k0_mult12 : BitVec 32 :=
  let c120_i32_86 : BitVec 32 := 120#32
  let c0_i32_85 : BitVec 32 := 0#32
  let c1_i32_84 : BitVec 32 := 1#32
  let v220 : BitVec 32 := Scalar.maxsi c0_i32_85 c1_i32_84
  let v221 : BitVec 32 := Scalar.minsi c120_i32_86 v220
  let c64_i32_88 : BitVec 32 := 64#32
  let v224 : BitVec 32 := Scalar.muli v221 c64_i32_88
  v224
def k0_mult13 : BitVec 32 :=
  let c384_i32 : BitVec 32 := 384#32
  c384_i32
def k0_mult14 : BitVec 32 :=
  let c448_i32 : BitVec 32 := 448#32
  c448_i32
def k0_mult15 : BitVec 32 :=
  let c120_i32_105 : BitVec 32 := 120#32
  let c0_i32_104 : BitVec 32 := 0#32
  let c2_i32_103 : BitVec 32 := 2#32
  let v269 : BitVec 32 := Scalar.maxsi c0_i32_104 c2_i32_103
  let v270 : BitVec 32 := Scalar.minsi c120_i32_105 v269
  let c64_i32_107 : BitVec 32 := 64#32
  let v273 : BitVec 32 := Scalar.muli v270 c64_i32_107
  v273
def k0_mult16 : BitVec 32 :=
  let c120_i32_119 : BitVec 32 := 120#32
  let c0_i32_118 : BitVec 32 := 0#32
  let c3_i32_117 : BitVec 32 := 3#32
  let v302 : BitVec 32 := Scalar.maxsi c0_i32_118 c3_i32_117
  let v303 : BitVec 32 := Scalar.minsi c120_i32_119 v302
  let c64_i32_122 : BitVec 32 := 64#32
  let v306 : BitVec 32 := Scalar.muli v303 c64_i32_122
  v306
@[reducible] def k0_t1_loop : Scf.Loop 32 :=
  let c0_i32_132 : BitVec 32 := 0#32
  let c7_i32_133 : BitVec 32 := 7#32
  let v335 : BitVec 32 := Scalar.addi c0_i32_132 c7_i32_133
  let c1_i32_134 : BitVec 32 := 1#32
  ⟨c0_i32_132, v335, c1_i32_134⟩
def k0_mult17 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_458 : BitVec 32 := 1#32
  let v1009 : BitVec 32 := Scalar.addi v1008 c1_i32_458
  let c8_i32 : BitVec 32 := 8#32
  let v1010 : BitVec 32 := Scalar.muli v1009 c8_i32
  let c0_i32_459 : BitVec 32 := 0#32
  let v1011 : BitVec 32 := Scalar.addi v1010 c0_i32_459
  let c64_i32_460 : BitVec 32 := 64#32
  let v1012 : BitVec 32 := Scalar.muli v1011 c64_i32_460
  v1012
def k0_off3 (k0_t1 : Fin k0_t1_loop.trips) (c1_i32_458 : BitVec 32) (c0_i32_459 : BitVec 32) : Fin 2 → Nat :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let v1009 : BitVec 32 := Scalar.addi v1008 c1_i32_458
  let c8_i32 : BitVec 32 := 8#32
  let v1010 : BitVec 32 := Scalar.muli v1009 c8_i32
  let v1011 : BitVec 32 := Scalar.addi v1010 c0_i32_459
  let c64_i32_460 : BitVec 32 := 64#32
  let v1012 : BitVec 32 := Scalar.muli v1011 c64_i32_460
  let v1013 : BitVec 32 := v1012
  let v1014 : Index := Scalar.indexCast v1013
  let c0_461 : Index := 0#32
  ![v1014.toNat, 0]
def k0_mult18 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_458 : BitVec 32 := 1#32
  let v1009 : BitVec 32 := Scalar.addi v1008 c1_i32_458
  let c8_i32_463 : BitVec 32 := 8#32
  let v1020 : BitVec 32 := Scalar.muli v1009 c8_i32_463
  let c1_i32_464 : BitVec 32 := 1#32
  let v1021 : BitVec 32 := Scalar.addi v1020 c1_i32_464
  let c64_i32_465 : BitVec 32 := 64#32
  let v1022 : BitVec 32 := Scalar.muli v1021 c64_i32_465
  v1022
def k0_mult19 (k0_t1 : Fin k0_t1_loop.trips) : BitVec 32 :=
  let c120_i32_473 : BitVec 32 := 120#32
  let c0_i32_472 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_458 : BitVec 32 := 1#32
  let v1009 : BitVec 32 := Scalar.addi v1008 c1_i32_458
  let c8_i32_469 : BitVec 32 := 8#32
  let v1032 : BitVec 32 := Scalar.muli v1009 c8_i32_469
  let c0_i32_470 : BitVec 32 := 0#32
  let v1033 : BitVec 32 := Scalar.addi v1032 c0_i32_470
  let c4_i32_471 : BitVec 32 := 4#32
  let v1034 : BitVec 32 := Scalar.subi v1033 c4_i32_471
  let v1035 : BitVec 32 := Scalar.maxsi c0_i32_472 v1034
  let v1036 : BitVec 32 := Scalar.minsi c120_i32_473 v1035
  let c64_i32_475 : BitVec 32 := 64#32
  let v1039 : BitVec 32 := Scalar.muli v1036 c64_i32_475
  v1039
def k0_off4 (k0_t1 : Fin k0_t1_loop.trips) (c1_i32_458 : BitVec 32) (c0_i32_470 : BitVec 32) : Fin 2 → Nat :=
  let c120_i32_473 : BitVec 32 := 120#32
  let c0_i32_472 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let v1009 : BitVec 32 := Scalar.addi v1008 c1_i32_458
  let c8_i32_469 : BitVec 32 := 8#32
  let v1032 : BitVec 32 := Scalar.muli v1009 c8_i32_469
  let v1033 : BitVec 32 := Scalar.addi v1032 c0_i32_470
  let c4_i32_471 : BitVec 32 := 4#32
  let v1034 : BitVec 32 := Scalar.subi v1033 c4_i32_471
  let v1035 : BitVec 32 := Scalar.maxsi c0_i32_472 v1034
  let v1036 : BitVec 32 := Scalar.minsi c120_i32_473 v1035
  let c64_i32_475 : BitVec 32 := 64#32
  let v1039 : BitVec 32 := Scalar.muli v1036 c64_i32_475
  let v1040 : BitVec 32 := v1039
  let v1041 : Index := Scalar.indexCast v1040
  let c0_476 : Index := 0#32
  ![v1041.toNat, 0]
def k0_off5 (k0_t1 : Fin k0_t1_loop.trips) (c1_i32_458 : BitVec 32) (c0_i32_470 : BitVec 32) : Fin 3 → Nat :=
  let c120_i32_473 : BitVec 32 := 120#32
  let c0_i32_472 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let v1009 : BitVec 32 := Scalar.addi v1008 c1_i32_458
  let c8_i32_469 : BitVec 32 := 8#32
  let v1032 : BitVec 32 := Scalar.muli v1009 c8_i32_469
  let v1033 : BitVec 32 := Scalar.addi v1032 c0_i32_470
  let c4_i32_471 : BitVec 32 := 4#32
  let v1034 : BitVec 32 := Scalar.subi v1033 c4_i32_471
  let v1035 : BitVec 32 := Scalar.maxsi c0_i32_472 v1034
  let v1036 : BitVec 32 := Scalar.minsi c120_i32_473 v1035
  let v1037 : BitVec 32 := Scalar.subi v1036 v1033
  let c7_i32_474 : BitVec 32 := 7#32
  let v1038 : BitVec 32 := Scalar.addi v1037 c7_i32_474
  let v1044 : Index := Scalar.indexCast v1038
  let c0_478 : Index := 0#32
  let c0_479 : Index := 0#32
  ![v1044.toNat, 0, 0]
def k0_mult20 (k0_t1 : Fin k0_t1_loop.trips) : BitVec 32 :=
  let c120_i32_490 : BitVec 32 := 120#32
  let c0_i32_489 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_458 : BitVec 32 := 1#32
  let v1009 : BitVec 32 := Scalar.addi v1008 c1_i32_458
  let c8_i32_486 : BitVec 32 := 8#32
  let v1068 : BitVec 32 := Scalar.muli v1009 c8_i32_486
  let c1_i32_487 : BitVec 32 := 1#32
  let v1069 : BitVec 32 := Scalar.addi v1068 c1_i32_487
  let c4_i32_488 : BitVec 32 := 4#32
  let v1070 : BitVec 32 := Scalar.subi v1069 c4_i32_488
  let v1071 : BitVec 32 := Scalar.maxsi c0_i32_489 v1070
  let v1072 : BitVec 32 := Scalar.minsi c120_i32_490 v1071
  let c64_i32_492 : BitVec 32 := 64#32
  let v1075 : BitVec 32 := Scalar.muli v1072 c64_i32_492
  v1075
def k0_mult21 (k0_t1 : Fin k0_t1_loop.trips) : BitVec 32 :=
  let c120_i32_512 : BitVec 32 := 120#32
  let c0_i32_511 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_508 : BitVec 32 := 8#32
  let v1107 : BitVec 32 := Scalar.muli v1008 c8_i32_508
  let c0_i32_509 : BitVec 32 := 0#32
  let v1108 : BitVec 32 := Scalar.addi v1107 c0_i32_509
  let c4_i32_510 : BitVec 32 := 4#32
  let v1109 : BitVec 32 := Scalar.subi v1108 c4_i32_510
  let v1110 : BitVec 32 := Scalar.maxsi c0_i32_511 v1109
  let v1111 : BitVec 32 := Scalar.minsi c120_i32_512 v1110
  let c64_i32_513 : BitVec 32 := 64#32
  let v1112 : BitVec 32 := Scalar.muli v1111 c64_i32_513
  v1112
def k0_off6 (k0_t1 : Fin k0_t1_loop.trips) (c0_i32_509 : BitVec 32) : Fin 2 → Nat :=
  let c120_i32_512 : BitVec 32 := 120#32
  let c0_i32_511 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_508 : BitVec 32 := 8#32
  let v1107 : BitVec 32 := Scalar.muli v1008 c8_i32_508
  let v1108 : BitVec 32 := Scalar.addi v1107 c0_i32_509
  let c4_i32_510 : BitVec 32 := 4#32
  let v1109 : BitVec 32 := Scalar.subi v1108 c4_i32_510
  let v1110 : BitVec 32 := Scalar.maxsi c0_i32_511 v1109
  let v1111 : BitVec 32 := Scalar.minsi c120_i32_512 v1110
  let c64_i32_513 : BitVec 32 := 64#32
  let v1112 : BitVec 32 := Scalar.muli v1111 c64_i32_513
  let v1113 : BitVec 32 := v1112
  let v1114 : Index := Scalar.indexCast v1113
  let c0_514 : Index := 0#32
  ![v1114.toNat, 0]
def k0_mult22 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_508 : BitVec 32 := 8#32
  let v1107 : BitVec 32 := Scalar.muli v1008 c8_i32_508
  let c0_i32_509 : BitVec 32 := 0#32
  let v1108 : BitVec 32 := Scalar.addi v1107 c0_i32_509
  let c64_i32_518 : BitVec 32 := 64#32
  let v1123 : BitVec 32 := Scalar.muli v1108 c64_i32_518
  v1123
def k0_off7 (k0_t1 : Fin k0_t1_loop.trips) (c0_i32_509 : BitVec 32) : Fin 2 → Nat :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_508 : BitVec 32 := 8#32
  let v1107 : BitVec 32 := Scalar.muli v1008 c8_i32_508
  let v1108 : BitVec 32 := Scalar.addi v1107 c0_i32_509
  let c64_i32_518 : BitVec 32 := 64#32
  let v1123 : BitVec 32 := Scalar.muli v1108 c64_i32_518
  let v1124 : BitVec 32 := v1123
  let v1129 : Index := Scalar.indexCast v1124
  let c0_519 : Index := 0#32
  ![v1129.toNat, 0]
def k0_mult23 (k0_t1 : Fin k0_t1_loop.trips) : BitVec 32 :=
  let c120_i32_524 : BitVec 32 := 120#32
  let c0_i32_523 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_520 : BitVec 32 := 8#32
  let v1131 : BitVec 32 := Scalar.muli v1008 c8_i32_520
  let c1_i32_521 : BitVec 32 := 1#32
  let v1132 : BitVec 32 := Scalar.addi v1131 c1_i32_521
  let c4_i32_522 : BitVec 32 := 4#32
  let v1133 : BitVec 32 := Scalar.subi v1132 c4_i32_522
  let v1134 : BitVec 32 := Scalar.maxsi c0_i32_523 v1133
  let v1135 : BitVec 32 := Scalar.minsi c120_i32_524 v1134
  let c64_i32_525 : BitVec 32 := 64#32
  let v1136 : BitVec 32 := Scalar.muli v1135 c64_i32_525
  v1136
def k0_mult24 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_520 : BitVec 32 := 8#32
  let v1131 : BitVec 32 := Scalar.muli v1008 c8_i32_520
  let c1_i32_521 : BitVec 32 := 1#32
  let v1132 : BitVec 32 := Scalar.addi v1131 c1_i32_521
  let c64_i32_530 : BitVec 32 := 64#32
  let v1147 : BitVec 32 := Scalar.muli v1132 c64_i32_530
  v1147
def k0_mult25 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_532 : BitVec 32 := 1#32
  let v1155 : BitVec 32 := Scalar.addi v1008 c1_i32_532
  let c8_i32_533 : BitVec 32 := 8#32
  let v1156 : BitVec 32 := Scalar.muli v1155 c8_i32_533
  let c2_i32_534 : BitVec 32 := 2#32
  let v1157 : BitVec 32 := Scalar.addi v1156 c2_i32_534
  let c64_i32_535 : BitVec 32 := 64#32
  let v1158 : BitVec 32 := Scalar.muli v1157 c64_i32_535
  v1158
def k0_mult26 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_532 : BitVec 32 := 1#32
  let v1155 : BitVec 32 := Scalar.addi v1008 c1_i32_532
  let c8_i32_538 : BitVec 32 := 8#32
  let v1166 : BitVec 32 := Scalar.muli v1155 c8_i32_538
  let c3_i32_539 : BitVec 32 := 3#32
  let v1167 : BitVec 32 := Scalar.addi v1166 c3_i32_539
  let c64_i32_540 : BitVec 32 := 64#32
  let v1168 : BitVec 32 := Scalar.muli v1167 c64_i32_540
  v1168
def k0_mult27 (k0_t1 : Fin k0_t1_loop.trips) : BitVec 32 :=
  let c120_i32_548 : BitVec 32 := 120#32
  let c0_i32_547 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_532 : BitVec 32 := 1#32
  let v1155 : BitVec 32 := Scalar.addi v1008 c1_i32_532
  let c8_i32_544 : BitVec 32 := 8#32
  let v1178 : BitVec 32 := Scalar.muli v1155 c8_i32_544
  let c2_i32_545 : BitVec 32 := 2#32
  let v1179 : BitVec 32 := Scalar.addi v1178 c2_i32_545
  let c4_i32_546 : BitVec 32 := 4#32
  let v1180 : BitVec 32 := Scalar.subi v1179 c4_i32_546
  let v1181 : BitVec 32 := Scalar.maxsi c0_i32_547 v1180
  let v1182 : BitVec 32 := Scalar.minsi c120_i32_548 v1181
  let c64_i32_550 : BitVec 32 := 64#32
  let v1185 : BitVec 32 := Scalar.muli v1182 c64_i32_550
  v1185
def k0_mult28 (k0_t1 : Fin k0_t1_loop.trips) : BitVec 32 :=
  let c120_i32_565 : BitVec 32 := 120#32
  let c0_i32_564 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_532 : BitVec 32 := 1#32
  let v1155 : BitVec 32 := Scalar.addi v1008 c1_i32_532
  let c8_i32_561 : BitVec 32 := 8#32
  let v1214 : BitVec 32 := Scalar.muli v1155 c8_i32_561
  let c3_i32_562 : BitVec 32 := 3#32
  let v1215 : BitVec 32 := Scalar.addi v1214 c3_i32_562
  let c4_i32_563 : BitVec 32 := 4#32
  let v1216 : BitVec 32 := Scalar.subi v1215 c4_i32_563
  let v1217 : BitVec 32 := Scalar.maxsi c0_i32_564 v1216
  let v1218 : BitVec 32 := Scalar.minsi c120_i32_565 v1217
  let c64_i32_567 : BitVec 32 := 64#32
  let v1221 : BitVec 32 := Scalar.muli v1218 c64_i32_567
  v1221
def k0_mult29 (k0_t1 : Fin k0_t1_loop.trips) : BitVec 32 :=
  let c120_i32_587 : BitVec 32 := 120#32
  let c0_i32_586 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_583 : BitVec 32 := 8#32
  let v1253 : BitVec 32 := Scalar.muli v1008 c8_i32_583
  let c2_i32_584 : BitVec 32 := 2#32
  let v1254 : BitVec 32 := Scalar.addi v1253 c2_i32_584
  let c4_i32_585 : BitVec 32 := 4#32
  let v1255 : BitVec 32 := Scalar.subi v1254 c4_i32_585
  let v1256 : BitVec 32 := Scalar.maxsi c0_i32_586 v1255
  let v1257 : BitVec 32 := Scalar.minsi c120_i32_587 v1256
  let c64_i32_588 : BitVec 32 := 64#32
  let v1258 : BitVec 32 := Scalar.muli v1257 c64_i32_588
  v1258
def k0_mult30 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_583 : BitVec 32 := 8#32
  let v1253 : BitVec 32 := Scalar.muli v1008 c8_i32_583
  let c2_i32_584 : BitVec 32 := 2#32
  let v1254 : BitVec 32 := Scalar.addi v1253 c2_i32_584
  let c64_i32_593 : BitVec 32 := 64#32
  let v1269 : BitVec 32 := Scalar.muli v1254 c64_i32_593
  v1269
def k0_mult31 (k0_t1 : Fin k0_t1_loop.trips) : BitVec 32 :=
  let c120_i32_599 : BitVec 32 := 120#32
  let c0_i32_598 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_595 : BitVec 32 := 8#32
  let v1277 : BitVec 32 := Scalar.muli v1008 c8_i32_595
  let c3_i32_596 : BitVec 32 := 3#32
  let v1278 : BitVec 32 := Scalar.addi v1277 c3_i32_596
  let c4_i32_597 : BitVec 32 := 4#32
  let v1279 : BitVec 32 := Scalar.subi v1278 c4_i32_597
  let v1280 : BitVec 32 := Scalar.maxsi c0_i32_598 v1279
  let v1281 : BitVec 32 := Scalar.minsi c120_i32_599 v1280
  let c64_i32_600 : BitVec 32 := 64#32
  let v1282 : BitVec 32 := Scalar.muli v1281 c64_i32_600
  v1282
def k0_mult32 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_595 : BitVec 32 := 8#32
  let v1277 : BitVec 32 := Scalar.muli v1008 c8_i32_595
  let c3_i32_596 : BitVec 32 := 3#32
  let v1278 : BitVec 32 := Scalar.addi v1277 c3_i32_596
  let c64_i32_605 : BitVec 32 := 64#32
  let v1293 : BitVec 32 := Scalar.muli v1278 c64_i32_605
  v1293
def k0_mult33 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_607 : BitVec 32 := 1#32
  let v1301 : BitVec 32 := Scalar.addi v1008 c1_i32_607
  let c8_i32_608 : BitVec 32 := 8#32
  let v1302 : BitVec 32 := Scalar.muli v1301 c8_i32_608
  let c4_i32_609 : BitVec 32 := 4#32
  let v1303 : BitVec 32 := Scalar.addi v1302 c4_i32_609
  let c64_i32_610 : BitVec 32 := 64#32
  let v1304 : BitVec 32 := Scalar.muli v1303 c64_i32_610
  v1304
def k0_mult34 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_607 : BitVec 32 := 1#32
  let v1301 : BitVec 32 := Scalar.addi v1008 c1_i32_607
  let c8_i32_613 : BitVec 32 := 8#32
  let v1312 : BitVec 32 := Scalar.muli v1301 c8_i32_613
  let c5_i32_614 : BitVec 32 := 5#32
  let v1313 : BitVec 32 := Scalar.addi v1312 c5_i32_614
  let c64_i32_615 : BitVec 32 := 64#32
  let v1314 : BitVec 32 := Scalar.muli v1313 c64_i32_615
  v1314
def k0_mult35 (k0_t1 : Fin k0_t1_loop.trips) : BitVec 32 :=
  let c120_i32_623 : BitVec 32 := 120#32
  let c0_i32_622 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_607 : BitVec 32 := 1#32
  let v1301 : BitVec 32 := Scalar.addi v1008 c1_i32_607
  let c8_i32_619 : BitVec 32 := 8#32
  let v1324 : BitVec 32 := Scalar.muli v1301 c8_i32_619
  let c4_i32_620 : BitVec 32 := 4#32
  let v1325 : BitVec 32 := Scalar.addi v1324 c4_i32_620
  let c4_i32_621 : BitVec 32 := 4#32
  let v1326 : BitVec 32 := Scalar.subi v1325 c4_i32_621
  let v1327 : BitVec 32 := Scalar.maxsi c0_i32_622 v1326
  let v1328 : BitVec 32 := Scalar.minsi c120_i32_623 v1327
  let c64_i32_625 : BitVec 32 := 64#32
  let v1331 : BitVec 32 := Scalar.muli v1328 c64_i32_625
  v1331
def k0_mult36 (k0_t1 : Fin k0_t1_loop.trips) : BitVec 32 :=
  let c120_i32_640 : BitVec 32 := 120#32
  let c0_i32_639 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_607 : BitVec 32 := 1#32
  let v1301 : BitVec 32 := Scalar.addi v1008 c1_i32_607
  let c8_i32_636 : BitVec 32 := 8#32
  let v1360 : BitVec 32 := Scalar.muli v1301 c8_i32_636
  let c5_i32_637 : BitVec 32 := 5#32
  let v1361 : BitVec 32 := Scalar.addi v1360 c5_i32_637
  let c4_i32_638 : BitVec 32 := 4#32
  let v1362 : BitVec 32 := Scalar.subi v1361 c4_i32_638
  let v1363 : BitVec 32 := Scalar.maxsi c0_i32_639 v1362
  let v1364 : BitVec 32 := Scalar.minsi c120_i32_640 v1363
  let c64_i32_642 : BitVec 32 := 64#32
  let v1367 : BitVec 32 := Scalar.muli v1364 c64_i32_642
  v1367
def k0_mult37 (k0_t1 : Fin k0_t1_loop.trips) : BitVec 32 :=
  let c120_i32_662 : BitVec 32 := 120#32
  let c0_i32_661 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_658 : BitVec 32 := 8#32
  let v1399 : BitVec 32 := Scalar.muli v1008 c8_i32_658
  let c4_i32_659 : BitVec 32 := 4#32
  let v1400 : BitVec 32 := Scalar.addi v1399 c4_i32_659
  let c4_i32_660 : BitVec 32 := 4#32
  let v1401 : BitVec 32 := Scalar.subi v1400 c4_i32_660
  let v1402 : BitVec 32 := Scalar.maxsi c0_i32_661 v1401
  let v1403 : BitVec 32 := Scalar.minsi c120_i32_662 v1402
  let c64_i32_663 : BitVec 32 := 64#32
  let v1404 : BitVec 32 := Scalar.muli v1403 c64_i32_663
  v1404
def k0_mult38 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_658 : BitVec 32 := 8#32
  let v1399 : BitVec 32 := Scalar.muli v1008 c8_i32_658
  let c4_i32_659 : BitVec 32 := 4#32
  let v1400 : BitVec 32 := Scalar.addi v1399 c4_i32_659
  let c64_i32_668 : BitVec 32 := 64#32
  let v1415 : BitVec 32 := Scalar.muli v1400 c64_i32_668
  v1415
def k0_mult39 (k0_t1 : Fin k0_t1_loop.trips) : BitVec 32 :=
  let c120_i32_674 : BitVec 32 := 120#32
  let c0_i32_673 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_670 : BitVec 32 := 8#32
  let v1423 : BitVec 32 := Scalar.muli v1008 c8_i32_670
  let c5_i32_671 : BitVec 32 := 5#32
  let v1424 : BitVec 32 := Scalar.addi v1423 c5_i32_671
  let c4_i32_672 : BitVec 32 := 4#32
  let v1425 : BitVec 32 := Scalar.subi v1424 c4_i32_672
  let v1426 : BitVec 32 := Scalar.maxsi c0_i32_673 v1425
  let v1427 : BitVec 32 := Scalar.minsi c120_i32_674 v1426
  let c64_i32_675 : BitVec 32 := 64#32
  let v1428 : BitVec 32 := Scalar.muli v1427 c64_i32_675
  v1428
def k0_mult40 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_670 : BitVec 32 := 8#32
  let v1423 : BitVec 32 := Scalar.muli v1008 c8_i32_670
  let c5_i32_671 : BitVec 32 := 5#32
  let v1424 : BitVec 32 := Scalar.addi v1423 c5_i32_671
  let c64_i32_680 : BitVec 32 := 64#32
  let v1439 : BitVec 32 := Scalar.muli v1424 c64_i32_680
  v1439
def k0_mult41 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_682 : BitVec 32 := 1#32
  let v1447 : BitVec 32 := Scalar.addi v1008 c1_i32_682
  let c8_i32_683 : BitVec 32 := 8#32
  let v1448 : BitVec 32 := Scalar.muli v1447 c8_i32_683
  let c6_i32_684 : BitVec 32 := 6#32
  let v1449 : BitVec 32 := Scalar.addi v1448 c6_i32_684
  let c64_i32_685 : BitVec 32 := 64#32
  let v1450 : BitVec 32 := Scalar.muli v1449 c64_i32_685
  v1450
def k0_mult42 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_682 : BitVec 32 := 1#32
  let v1447 : BitVec 32 := Scalar.addi v1008 c1_i32_682
  let c8_i32_688 : BitVec 32 := 8#32
  let v1458 : BitVec 32 := Scalar.muli v1447 c8_i32_688
  let c7_i32_689 : BitVec 32 := 7#32
  let v1459 : BitVec 32 := Scalar.addi v1458 c7_i32_689
  let c64_i32_690 : BitVec 32 := 64#32
  let v1460 : BitVec 32 := Scalar.muli v1459 c64_i32_690
  v1460
def k0_mult43 (k0_t1 : Fin k0_t1_loop.trips) : BitVec 32 :=
  let c120_i32_698 : BitVec 32 := 120#32
  let c0_i32_697 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_682 : BitVec 32 := 1#32
  let v1447 : BitVec 32 := Scalar.addi v1008 c1_i32_682
  let c8_i32_694 : BitVec 32 := 8#32
  let v1470 : BitVec 32 := Scalar.muli v1447 c8_i32_694
  let c6_i32_695 : BitVec 32 := 6#32
  let v1471 : BitVec 32 := Scalar.addi v1470 c6_i32_695
  let c4_i32_696 : BitVec 32 := 4#32
  let v1472 : BitVec 32 := Scalar.subi v1471 c4_i32_696
  let v1473 : BitVec 32 := Scalar.maxsi c0_i32_697 v1472
  let v1474 : BitVec 32 := Scalar.minsi c120_i32_698 v1473
  let c64_i32_700 : BitVec 32 := 64#32
  let v1477 : BitVec 32 := Scalar.muli v1474 c64_i32_700
  v1477
def k0_mult44 (k0_t1 : Fin k0_t1_loop.trips) : BitVec 32 :=
  let c120_i32_715 : BitVec 32 := 120#32
  let c0_i32_714 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_682 : BitVec 32 := 1#32
  let v1447 : BitVec 32 := Scalar.addi v1008 c1_i32_682
  let c8_i32_711 : BitVec 32 := 8#32
  let v1506 : BitVec 32 := Scalar.muli v1447 c8_i32_711
  let c7_i32_712 : BitVec 32 := 7#32
  let v1507 : BitVec 32 := Scalar.addi v1506 c7_i32_712
  let c4_i32_713 : BitVec 32 := 4#32
  let v1508 : BitVec 32 := Scalar.subi v1507 c4_i32_713
  let v1509 : BitVec 32 := Scalar.maxsi c0_i32_714 v1508
  let v1510 : BitVec 32 := Scalar.minsi c120_i32_715 v1509
  let c64_i32_717 : BitVec 32 := 64#32
  let v1513 : BitVec 32 := Scalar.muli v1510 c64_i32_717
  v1513
def k0_mult45 (k0_t1 : Fin k0_t1_loop.trips) : BitVec 32 :=
  let c120_i32_737 : BitVec 32 := 120#32
  let c0_i32_736 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_733 : BitVec 32 := 8#32
  let v1545 : BitVec 32 := Scalar.muli v1008 c8_i32_733
  let c6_i32_734 : BitVec 32 := 6#32
  let v1546 : BitVec 32 := Scalar.addi v1545 c6_i32_734
  let c4_i32_735 : BitVec 32 := 4#32
  let v1547 : BitVec 32 := Scalar.subi v1546 c4_i32_735
  let v1548 : BitVec 32 := Scalar.maxsi c0_i32_736 v1547
  let v1549 : BitVec 32 := Scalar.minsi c120_i32_737 v1548
  let c64_i32_738 : BitVec 32 := 64#32
  let v1550 : BitVec 32 := Scalar.muli v1549 c64_i32_738
  v1550
def k0_mult46 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_733 : BitVec 32 := 8#32
  let v1545 : BitVec 32 := Scalar.muli v1008 c8_i32_733
  let c6_i32_734 : BitVec 32 := 6#32
  let v1546 : BitVec 32 := Scalar.addi v1545 c6_i32_734
  let c64_i32_743 : BitVec 32 := 64#32
  let v1561 : BitVec 32 := Scalar.muli v1546 c64_i32_743
  v1561
def k0_mult47 (k0_t1 : Fin k0_t1_loop.trips) : BitVec 32 :=
  let c120_i32_749 : BitVec 32 := 120#32
  let c0_i32_748 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_745 : BitVec 32 := 8#32
  let v1569 : BitVec 32 := Scalar.muli v1008 c8_i32_745
  let c7_i32_746 : BitVec 32 := 7#32
  let v1570 : BitVec 32 := Scalar.addi v1569 c7_i32_746
  let c4_i32_747 : BitVec 32 := 4#32
  let v1571 : BitVec 32 := Scalar.subi v1570 c4_i32_747
  let v1572 : BitVec 32 := Scalar.maxsi c0_i32_748 v1571
  let v1573 : BitVec 32 := Scalar.minsi c120_i32_749 v1572
  let c64_i32_750 : BitVec 32 := 64#32
  let v1574 : BitVec 32 := Scalar.muli v1573 c64_i32_750
  v1574
def k0_mult48 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c8_i32_745 : BitVec 32 := 8#32
  let v1569 : BitVec 32 := Scalar.muli v1008 c8_i32_745
  let c7_i32_746 : BitVec 32 := 7#32
  let v1570 : BitVec 32 := Scalar.addi v1569 c7_i32_746
  let c64_i32_755 : BitVec 32 := 64#32
  let v1585 : BitVec 32 := Scalar.muli v1570 c64_i32_755
  v1585
def k0_mult49 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_757 : BitVec 32 := 2#32
  let v1593 : BitVec 32 := Scalar.addi v1008 c2_i32_757
  let c8_i32_758 : BitVec 32 := 8#32
  let v1594 : BitVec 32 := Scalar.muli v1593 c8_i32_758
  let c0_i32_759 : BitVec 32 := 0#32
  let v1595 : BitVec 32 := Scalar.addi v1594 c0_i32_759
  let c64_i32_760 : BitVec 32 := 64#32
  let v1596 : BitVec 32 := Scalar.muli v1595 c64_i32_760
  v1596
def k0_mult50 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_757 : BitVec 32 := 2#32
  let v1593 : BitVec 32 := Scalar.addi v1008 c2_i32_757
  let c8_i32_763 : BitVec 32 := 8#32
  let v1604 : BitVec 32 := Scalar.muli v1593 c8_i32_763
  let c1_i32_764 : BitVec 32 := 1#32
  let v1605 : BitVec 32 := Scalar.addi v1604 c1_i32_764
  let c64_i32_765 : BitVec 32 := 64#32
  let v1606 : BitVec 32 := Scalar.muli v1605 c64_i32_765
  v1606
def k0_mult51 (k0_t1 : Fin k0_t1_loop.trips) : BitVec 32 :=
  let c120_i32_773 : BitVec 32 := 120#32
  let c0_i32_772 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_757 : BitVec 32 := 2#32
  let v1593 : BitVec 32 := Scalar.addi v1008 c2_i32_757
  let c8_i32_769 : BitVec 32 := 8#32
  let v1616 : BitVec 32 := Scalar.muli v1593 c8_i32_769
  let c0_i32_770 : BitVec 32 := 0#32
  let v1617 : BitVec 32 := Scalar.addi v1616 c0_i32_770
  let c4_i32_771 : BitVec 32 := 4#32
  let v1618 : BitVec 32 := Scalar.subi v1617 c4_i32_771
  let v1619 : BitVec 32 := Scalar.maxsi c0_i32_772 v1618
  let v1620 : BitVec 32 := Scalar.minsi c120_i32_773 v1619
  let c64_i32_775 : BitVec 32 := 64#32
  let v1623 : BitVec 32 := Scalar.muli v1620 c64_i32_775
  v1623
def k0_mult52 (k0_t1 : Fin k0_t1_loop.trips) : BitVec 32 :=
  let c120_i32_790 : BitVec 32 := 120#32
  let c0_i32_789 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_757 : BitVec 32 := 2#32
  let v1593 : BitVec 32 := Scalar.addi v1008 c2_i32_757
  let c8_i32_786 : BitVec 32 := 8#32
  let v1652 : BitVec 32 := Scalar.muli v1593 c8_i32_786
  let c1_i32_787 : BitVec 32 := 1#32
  let v1653 : BitVec 32 := Scalar.addi v1652 c1_i32_787
  let c4_i32_788 : BitVec 32 := 4#32
  let v1654 : BitVec 32 := Scalar.subi v1653 c4_i32_788
  let v1655 : BitVec 32 := Scalar.maxsi c0_i32_789 v1654
  let v1656 : BitVec 32 := Scalar.minsi c120_i32_790 v1655
  let c64_i32_792 : BitVec 32 := 64#32
  let v1659 : BitVec 32 := Scalar.muli v1656 c64_i32_792
  v1659
def k0_mult53 (k0_t1 : Fin k0_t1_loop.trips) : BitVec 32 :=
  let c120_i32_813 : BitVec 32 := 120#32
  let c0_i32_812 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_803 : BitVec 32 := 1#32
  let v1688 : BitVec 32 := Scalar.addi v1008 c1_i32_803
  let c8_i32_809 : BitVec 32 := 8#32
  let v1692 : BitVec 32 := Scalar.muli v1688 c8_i32_809
  let c0_i32_810 : BitVec 32 := 0#32
  let v1693 : BitVec 32 := Scalar.addi v1692 c0_i32_810
  let c4_i32_811 : BitVec 32 := 4#32
  let v1694 : BitVec 32 := Scalar.subi v1693 c4_i32_811
  let v1695 : BitVec 32 := Scalar.maxsi c0_i32_812 v1694
  let v1696 : BitVec 32 := Scalar.minsi c120_i32_813 v1695
  let c64_i32_814 : BitVec 32 := 64#32
  let v1697 : BitVec 32 := Scalar.muli v1696 c64_i32_814
  v1697
def k0_off8 (k0_t1 : Fin k0_t1_loop.trips) (c0_i32_810 : BitVec 32) : Fin 2 → Nat :=
  let c120_i32_813 : BitVec 32 := 120#32
  let c0_i32_812 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_803 : BitVec 32 := 1#32
  let v1688 : BitVec 32 := Scalar.addi v1008 c1_i32_803
  let c8_i32_809 : BitVec 32 := 8#32
  let v1692 : BitVec 32 := Scalar.muli v1688 c8_i32_809
  let v1693 : BitVec 32 := Scalar.addi v1692 c0_i32_810
  let c4_i32_811 : BitVec 32 := 4#32
  let v1694 : BitVec 32 := Scalar.subi v1693 c4_i32_811
  let v1695 : BitVec 32 := Scalar.maxsi c0_i32_812 v1694
  let v1696 : BitVec 32 := Scalar.minsi c120_i32_813 v1695
  let c64_i32_814 : BitVec 32 := 64#32
  let v1697 : BitVec 32 := Scalar.muli v1696 c64_i32_814
  let v1698 : BitVec 32 := v1697
  let v1699 : Index := Scalar.indexCast v1698
  let c0_815 : Index := 0#32
  ![v1699.toNat, 0]
def k0_mult54 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_803 : BitVec 32 := 1#32
  let v1688 : BitVec 32 := Scalar.addi v1008 c1_i32_803
  let c8_i32_809 : BitVec 32 := 8#32
  let v1692 : BitVec 32 := Scalar.muli v1688 c8_i32_809
  let c0_i32_810 : BitVec 32 := 0#32
  let v1693 : BitVec 32 := Scalar.addi v1692 c0_i32_810
  let c64_i32_819 : BitVec 32 := 64#32
  let v1708 : BitVec 32 := Scalar.muli v1693 c64_i32_819
  v1708
def k0_mult55 (k0_t1 : Fin k0_t1_loop.trips) : BitVec 32 :=
  let c120_i32_825 : BitVec 32 := 120#32
  let c0_i32_824 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_803 : BitVec 32 := 1#32
  let v1688 : BitVec 32 := Scalar.addi v1008 c1_i32_803
  let c8_i32_821 : BitVec 32 := 8#32
  let v1716 : BitVec 32 := Scalar.muli v1688 c8_i32_821
  let c1_i32_822 : BitVec 32 := 1#32
  let v1717 : BitVec 32 := Scalar.addi v1716 c1_i32_822
  let c4_i32_823 : BitVec 32 := 4#32
  let v1718 : BitVec 32 := Scalar.subi v1717 c4_i32_823
  let v1719 : BitVec 32 := Scalar.maxsi c0_i32_824 v1718
  let v1720 : BitVec 32 := Scalar.minsi c120_i32_825 v1719
  let c64_i32_826 : BitVec 32 := 64#32
  let v1721 : BitVec 32 := Scalar.muli v1720 c64_i32_826
  v1721
def k0_mult56 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_803 : BitVec 32 := 1#32
  let v1688 : BitVec 32 := Scalar.addi v1008 c1_i32_803
  let c8_i32_821 : BitVec 32 := 8#32
  let v1716 : BitVec 32 := Scalar.muli v1688 c8_i32_821
  let c1_i32_822 : BitVec 32 := 1#32
  let v1717 : BitVec 32 := Scalar.addi v1716 c1_i32_822
  let c64_i32_831 : BitVec 32 := 64#32
  let v1732 : BitVec 32 := Scalar.muli v1717 c64_i32_831
  v1732
def k0_mult57 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_833 : BitVec 32 := 2#32
  let v1740 : BitVec 32 := Scalar.addi v1008 c2_i32_833
  let c8_i32_834 : BitVec 32 := 8#32
  let v1741 : BitVec 32 := Scalar.muli v1740 c8_i32_834
  let c2_i32_835 : BitVec 32 := 2#32
  let v1742 : BitVec 32 := Scalar.addi v1741 c2_i32_835
  let c64_i32_836 : BitVec 32 := 64#32
  let v1743 : BitVec 32 := Scalar.muli v1742 c64_i32_836
  v1743
def k0_mult58 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_833 : BitVec 32 := 2#32
  let v1740 : BitVec 32 := Scalar.addi v1008 c2_i32_833
  let c8_i32_839 : BitVec 32 := 8#32
  let v1751 : BitVec 32 := Scalar.muli v1740 c8_i32_839
  let c3_i32_840 : BitVec 32 := 3#32
  let v1752 : BitVec 32 := Scalar.addi v1751 c3_i32_840
  let c64_i32_841 : BitVec 32 := 64#32
  let v1753 : BitVec 32 := Scalar.muli v1752 c64_i32_841
  v1753
def k0_mult59 (k0_t1 : Fin k0_t1_loop.trips) : BitVec 32 :=
  let c120_i32_849 : BitVec 32 := 120#32
  let c0_i32_848 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_833 : BitVec 32 := 2#32
  let v1740 : BitVec 32 := Scalar.addi v1008 c2_i32_833
  let c8_i32_845 : BitVec 32 := 8#32
  let v1763 : BitVec 32 := Scalar.muli v1740 c8_i32_845
  let c2_i32_846 : BitVec 32 := 2#32
  let v1764 : BitVec 32 := Scalar.addi v1763 c2_i32_846
  let c4_i32_847 : BitVec 32 := 4#32
  let v1765 : BitVec 32 := Scalar.subi v1764 c4_i32_847
  let v1766 : BitVec 32 := Scalar.maxsi c0_i32_848 v1765
  let v1767 : BitVec 32 := Scalar.minsi c120_i32_849 v1766
  let c64_i32_851 : BitVec 32 := 64#32
  let v1770 : BitVec 32 := Scalar.muli v1767 c64_i32_851
  v1770
def k0_mult60 (k0_t1 : Fin k0_t1_loop.trips) : BitVec 32 :=
  let c120_i32_866 : BitVec 32 := 120#32
  let c0_i32_865 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_833 : BitVec 32 := 2#32
  let v1740 : BitVec 32 := Scalar.addi v1008 c2_i32_833
  let c8_i32_862 : BitVec 32 := 8#32
  let v1799 : BitVec 32 := Scalar.muli v1740 c8_i32_862
  let c3_i32_863 : BitVec 32 := 3#32
  let v1800 : BitVec 32 := Scalar.addi v1799 c3_i32_863
  let c4_i32_864 : BitVec 32 := 4#32
  let v1801 : BitVec 32 := Scalar.subi v1800 c4_i32_864
  let v1802 : BitVec 32 := Scalar.maxsi c0_i32_865 v1801
  let v1803 : BitVec 32 := Scalar.minsi c120_i32_866 v1802
  let c64_i32_868 : BitVec 32 := 64#32
  let v1806 : BitVec 32 := Scalar.muli v1803 c64_i32_868
  v1806
def k0_mult61 (k0_t1 : Fin k0_t1_loop.trips) : BitVec 32 :=
  let c120_i32_889 : BitVec 32 := 120#32
  let c0_i32_888 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_879 : BitVec 32 := 1#32
  let v1835 : BitVec 32 := Scalar.addi v1008 c1_i32_879
  let c8_i32_885 : BitVec 32 := 8#32
  let v1839 : BitVec 32 := Scalar.muli v1835 c8_i32_885
  let c2_i32_886 : BitVec 32 := 2#32
  let v1840 : BitVec 32 := Scalar.addi v1839 c2_i32_886
  let c4_i32_887 : BitVec 32 := 4#32
  let v1841 : BitVec 32 := Scalar.subi v1840 c4_i32_887
  let v1842 : BitVec 32 := Scalar.maxsi c0_i32_888 v1841
  let v1843 : BitVec 32 := Scalar.minsi c120_i32_889 v1842
  let c64_i32_890 : BitVec 32 := 64#32
  let v1844 : BitVec 32 := Scalar.muli v1843 c64_i32_890
  v1844
def k0_mult62 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_879 : BitVec 32 := 1#32
  let v1835 : BitVec 32 := Scalar.addi v1008 c1_i32_879
  let c8_i32_885 : BitVec 32 := 8#32
  let v1839 : BitVec 32 := Scalar.muli v1835 c8_i32_885
  let c2_i32_886 : BitVec 32 := 2#32
  let v1840 : BitVec 32 := Scalar.addi v1839 c2_i32_886
  let c64_i32_895 : BitVec 32 := 64#32
  let v1855 : BitVec 32 := Scalar.muli v1840 c64_i32_895
  v1855
def k0_mult63 (k0_t1 : Fin k0_t1_loop.trips) : BitVec 32 :=
  let c120_i32_901 : BitVec 32 := 120#32
  let c0_i32_900 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_879 : BitVec 32 := 1#32
  let v1835 : BitVec 32 := Scalar.addi v1008 c1_i32_879
  let c8_i32_897 : BitVec 32 := 8#32
  let v1863 : BitVec 32 := Scalar.muli v1835 c8_i32_897
  let c3_i32_898 : BitVec 32 := 3#32
  let v1864 : BitVec 32 := Scalar.addi v1863 c3_i32_898
  let c4_i32_899 : BitVec 32 := 4#32
  let v1865 : BitVec 32 := Scalar.subi v1864 c4_i32_899
  let v1866 : BitVec 32 := Scalar.maxsi c0_i32_900 v1865
  let v1867 : BitVec 32 := Scalar.minsi c120_i32_901 v1866
  let c64_i32_902 : BitVec 32 := 64#32
  let v1868 : BitVec 32 := Scalar.muli v1867 c64_i32_902
  v1868
def k0_mult64 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_879 : BitVec 32 := 1#32
  let v1835 : BitVec 32 := Scalar.addi v1008 c1_i32_879
  let c8_i32_897 : BitVec 32 := 8#32
  let v1863 : BitVec 32 := Scalar.muli v1835 c8_i32_897
  let c3_i32_898 : BitVec 32 := 3#32
  let v1864 : BitVec 32 := Scalar.addi v1863 c3_i32_898
  let c64_i32_907 : BitVec 32 := 64#32
  let v1879 : BitVec 32 := Scalar.muli v1864 c64_i32_907
  v1879
def k0_mult65 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_909 : BitVec 32 := 2#32
  let v1887 : BitVec 32 := Scalar.addi v1008 c2_i32_909
  let c8_i32_910 : BitVec 32 := 8#32
  let v1888 : BitVec 32 := Scalar.muli v1887 c8_i32_910
  let c4_i32_911 : BitVec 32 := 4#32
  let v1889 : BitVec 32 := Scalar.addi v1888 c4_i32_911
  let c64_i32_912 : BitVec 32 := 64#32
  let v1890 : BitVec 32 := Scalar.muli v1889 c64_i32_912
  v1890
def k0_mult66 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_909 : BitVec 32 := 2#32
  let v1887 : BitVec 32 := Scalar.addi v1008 c2_i32_909
  let c8_i32_915 : BitVec 32 := 8#32
  let v1898 : BitVec 32 := Scalar.muli v1887 c8_i32_915
  let c5_i32_916 : BitVec 32 := 5#32
  let v1899 : BitVec 32 := Scalar.addi v1898 c5_i32_916
  let c64_i32_917 : BitVec 32 := 64#32
  let v1900 : BitVec 32 := Scalar.muli v1899 c64_i32_917
  v1900
def k0_mult67 (k0_t1 : Fin k0_t1_loop.trips) : BitVec 32 :=
  let c120_i32_925 : BitVec 32 := 120#32
  let c0_i32_924 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_909 : BitVec 32 := 2#32
  let v1887 : BitVec 32 := Scalar.addi v1008 c2_i32_909
  let c8_i32_921 : BitVec 32 := 8#32
  let v1910 : BitVec 32 := Scalar.muli v1887 c8_i32_921
  let c4_i32_922 : BitVec 32 := 4#32
  let v1911 : BitVec 32 := Scalar.addi v1910 c4_i32_922
  let c4_i32_923 : BitVec 32 := 4#32
  let v1912 : BitVec 32 := Scalar.subi v1911 c4_i32_923
  let v1913 : BitVec 32 := Scalar.maxsi c0_i32_924 v1912
  let v1914 : BitVec 32 := Scalar.minsi c120_i32_925 v1913
  let c64_i32_927 : BitVec 32 := 64#32
  let v1917 : BitVec 32 := Scalar.muli v1914 c64_i32_927
  v1917
def k0_mult68 (k0_t1 : Fin k0_t1_loop.trips) : BitVec 32 :=
  let c120_i32_942 : BitVec 32 := 120#32
  let c0_i32_941 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_909 : BitVec 32 := 2#32
  let v1887 : BitVec 32 := Scalar.addi v1008 c2_i32_909
  let c8_i32_938 : BitVec 32 := 8#32
  let v1946 : BitVec 32 := Scalar.muli v1887 c8_i32_938
  let c5_i32_939 : BitVec 32 := 5#32
  let v1947 : BitVec 32 := Scalar.addi v1946 c5_i32_939
  let c4_i32_940 : BitVec 32 := 4#32
  let v1948 : BitVec 32 := Scalar.subi v1947 c4_i32_940
  let v1949 : BitVec 32 := Scalar.maxsi c0_i32_941 v1948
  let v1950 : BitVec 32 := Scalar.minsi c120_i32_942 v1949
  let c64_i32_944 : BitVec 32 := 64#32
  let v1953 : BitVec 32 := Scalar.muli v1950 c64_i32_944
  v1953
def k0_mult69 (k0_t1 : Fin k0_t1_loop.trips) : BitVec 32 :=
  let c120_i32_965 : BitVec 32 := 120#32
  let c0_i32_964 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_955 : BitVec 32 := 1#32
  let v1982 : BitVec 32 := Scalar.addi v1008 c1_i32_955
  let c8_i32_961 : BitVec 32 := 8#32
  let v1986 : BitVec 32 := Scalar.muli v1982 c8_i32_961
  let c4_i32_962 : BitVec 32 := 4#32
  let v1987 : BitVec 32 := Scalar.addi v1986 c4_i32_962
  let c4_i32_963 : BitVec 32 := 4#32
  let v1988 : BitVec 32 := Scalar.subi v1987 c4_i32_963
  let v1989 : BitVec 32 := Scalar.maxsi c0_i32_964 v1988
  let v1990 : BitVec 32 := Scalar.minsi c120_i32_965 v1989
  let c64_i32_966 : BitVec 32 := 64#32
  let v1991 : BitVec 32 := Scalar.muli v1990 c64_i32_966
  v1991
def k0_mult70 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_955 : BitVec 32 := 1#32
  let v1982 : BitVec 32 := Scalar.addi v1008 c1_i32_955
  let c8_i32_961 : BitVec 32 := 8#32
  let v1986 : BitVec 32 := Scalar.muli v1982 c8_i32_961
  let c4_i32_962 : BitVec 32 := 4#32
  let v1987 : BitVec 32 := Scalar.addi v1986 c4_i32_962
  let c64_i32_971 : BitVec 32 := 64#32
  let v2002 : BitVec 32 := Scalar.muli v1987 c64_i32_971
  v2002
def k0_mult71 (k0_t1 : Fin k0_t1_loop.trips) : BitVec 32 :=
  let c120_i32_977 : BitVec 32 := 120#32
  let c0_i32_976 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_955 : BitVec 32 := 1#32
  let v1982 : BitVec 32 := Scalar.addi v1008 c1_i32_955
  let c8_i32_973 : BitVec 32 := 8#32
  let v2010 : BitVec 32 := Scalar.muli v1982 c8_i32_973
  let c5_i32_974 : BitVec 32 := 5#32
  let v2011 : BitVec 32 := Scalar.addi v2010 c5_i32_974
  let c4_i32_975 : BitVec 32 := 4#32
  let v2012 : BitVec 32 := Scalar.subi v2011 c4_i32_975
  let v2013 : BitVec 32 := Scalar.maxsi c0_i32_976 v2012
  let v2014 : BitVec 32 := Scalar.minsi c120_i32_977 v2013
  let c64_i32_978 : BitVec 32 := 64#32
  let v2015 : BitVec 32 := Scalar.muli v2014 c64_i32_978
  v2015
def k0_mult72 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_955 : BitVec 32 := 1#32
  let v1982 : BitVec 32 := Scalar.addi v1008 c1_i32_955
  let c8_i32_973 : BitVec 32 := 8#32
  let v2010 : BitVec 32 := Scalar.muli v1982 c8_i32_973
  let c5_i32_974 : BitVec 32 := 5#32
  let v2011 : BitVec 32 := Scalar.addi v2010 c5_i32_974
  let c64_i32_983 : BitVec 32 := 64#32
  let v2026 : BitVec 32 := Scalar.muli v2011 c64_i32_983
  v2026
def k0_mult73 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_985 : BitVec 32 := 2#32
  let v2034 : BitVec 32 := Scalar.addi v1008 c2_i32_985
  let c8_i32_986 : BitVec 32 := 8#32
  let v2035 : BitVec 32 := Scalar.muli v2034 c8_i32_986
  let c6_i32_987 : BitVec 32 := 6#32
  let v2036 : BitVec 32 := Scalar.addi v2035 c6_i32_987
  let c64_i32_988 : BitVec 32 := 64#32
  let v2037 : BitVec 32 := Scalar.muli v2036 c64_i32_988
  v2037
def k0_mult74 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_985 : BitVec 32 := 2#32
  let v2034 : BitVec 32 := Scalar.addi v1008 c2_i32_985
  let c8_i32_991 : BitVec 32 := 8#32
  let v2045 : BitVec 32 := Scalar.muli v2034 c8_i32_991
  let c7_i32_992 : BitVec 32 := 7#32
  let v2046 : BitVec 32 := Scalar.addi v2045 c7_i32_992
  let c64_i32_993 : BitVec 32 := 64#32
  let v2047 : BitVec 32 := Scalar.muli v2046 c64_i32_993
  v2047
def k0_mult75 (k0_t1 : Fin k0_t1_loop.trips) : BitVec 32 :=
  let c120_i32_1001 : BitVec 32 := 120#32
  let c0_i32_1000 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_985 : BitVec 32 := 2#32
  let v2034 : BitVec 32 := Scalar.addi v1008 c2_i32_985
  let c8_i32_997 : BitVec 32 := 8#32
  let v2057 : BitVec 32 := Scalar.muli v2034 c8_i32_997
  let c6_i32_998 : BitVec 32 := 6#32
  let v2058 : BitVec 32 := Scalar.addi v2057 c6_i32_998
  let c4_i32_999 : BitVec 32 := 4#32
  let v2059 : BitVec 32 := Scalar.subi v2058 c4_i32_999
  let v2060 : BitVec 32 := Scalar.maxsi c0_i32_1000 v2059
  let v2061 : BitVec 32 := Scalar.minsi c120_i32_1001 v2060
  let c64_i32_1003 : BitVec 32 := 64#32
  let v2064 : BitVec 32 := Scalar.muli v2061 c64_i32_1003
  v2064
def k0_mult76 (k0_t1 : Fin k0_t1_loop.trips) : BitVec 32 :=
  let c120_i32_1018 : BitVec 32 := 120#32
  let c0_i32_1017 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c2_i32_985 : BitVec 32 := 2#32
  let v2034 : BitVec 32 := Scalar.addi v1008 c2_i32_985
  let c8_i32_1014 : BitVec 32 := 8#32
  let v2093 : BitVec 32 := Scalar.muli v2034 c8_i32_1014
  let c7_i32_1015 : BitVec 32 := 7#32
  let v2094 : BitVec 32 := Scalar.addi v2093 c7_i32_1015
  let c4_i32_1016 : BitVec 32 := 4#32
  let v2095 : BitVec 32 := Scalar.subi v2094 c4_i32_1016
  let v2096 : BitVec 32 := Scalar.maxsi c0_i32_1017 v2095
  let v2097 : BitVec 32 := Scalar.minsi c120_i32_1018 v2096
  let c64_i32_1020 : BitVec 32 := 64#32
  let v2100 : BitVec 32 := Scalar.muli v2097 c64_i32_1020
  v2100
def k0_mult77 (k0_t1 : Fin k0_t1_loop.trips) : BitVec 32 :=
  let c120_i32_1041 : BitVec 32 := 120#32
  let c0_i32_1040 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_1031 : BitVec 32 := 1#32
  let v2129 : BitVec 32 := Scalar.addi v1008 c1_i32_1031
  let c8_i32_1037 : BitVec 32 := 8#32
  let v2133 : BitVec 32 := Scalar.muli v2129 c8_i32_1037
  let c6_i32_1038 : BitVec 32 := 6#32
  let v2134 : BitVec 32 := Scalar.addi v2133 c6_i32_1038
  let c4_i32_1039 : BitVec 32 := 4#32
  let v2135 : BitVec 32 := Scalar.subi v2134 c4_i32_1039
  let v2136 : BitVec 32 := Scalar.maxsi c0_i32_1040 v2135
  let v2137 : BitVec 32 := Scalar.minsi c120_i32_1041 v2136
  let c64_i32_1042 : BitVec 32 := 64#32
  let v2138 : BitVec 32 := Scalar.muli v2137 c64_i32_1042
  v2138
def k0_mult78 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_1031 : BitVec 32 := 1#32
  let v2129 : BitVec 32 := Scalar.addi v1008 c1_i32_1031
  let c8_i32_1037 : BitVec 32 := 8#32
  let v2133 : BitVec 32 := Scalar.muli v2129 c8_i32_1037
  let c6_i32_1038 : BitVec 32 := 6#32
  let v2134 : BitVec 32 := Scalar.addi v2133 c6_i32_1038
  let c64_i32_1047 : BitVec 32 := 64#32
  let v2149 : BitVec 32 := Scalar.muli v2134 c64_i32_1047
  v2149
def k0_mult79 (k0_t1 : Fin k0_t1_loop.trips) : BitVec 32 :=
  let c120_i32_1053 : BitVec 32 := 120#32
  let c0_i32_1052 : BitVec 32 := 0#32
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_1031 : BitVec 32 := 1#32
  let v2129 : BitVec 32 := Scalar.addi v1008 c1_i32_1031
  let c8_i32_1049 : BitVec 32 := 8#32
  let v2157 : BitVec 32 := Scalar.muli v2129 c8_i32_1049
  let c7_i32_1050 : BitVec 32 := 7#32
  let v2158 : BitVec 32 := Scalar.addi v2157 c7_i32_1050
  let c4_i32_1051 : BitVec 32 := 4#32
  let v2159 : BitVec 32 := Scalar.subi v2158 c4_i32_1051
  let v2160 : BitVec 32 := Scalar.maxsi c0_i32_1052 v2159
  let v2161 : BitVec 32 := Scalar.minsi c120_i32_1053 v2160
  let c64_i32_1054 : BitVec 32 := 64#32
  let v2162 : BitVec 32 := Scalar.muli v2161 c64_i32_1054
  v2162
def k0_mult80 (k0_t1 : Fin k0_t1_loop.trips) : BitVec 32 :=
  let c2_i32_457 : BitVec 32 := 2#32
  let c0_i32_132 : BitVec 32 := 0#32
  let c1_i32_134 : BitVec 32 := 1#32
  let arg12 : BitVec 32 := Scf.iv c0_i32_132 c1_i32_134 k0_t1
  let v1008 : BitVec 32 := Scalar.muli c2_i32_457 arg12
  let c1_i32_1031 : BitVec 32 := 1#32
  let v2129 : BitVec 32 := Scalar.addi v1008 c1_i32_1031
  let c8_i32_1049 : BitVec 32 := 8#32
  let v2157 : BitVec 32 := Scalar.muli v2129 c8_i32_1049
  let c7_i32_1050 : BitVec 32 := 7#32
  let v2158 : BitVec 32 := Scalar.addi v2157 c7_i32_1050
  let c64_i32_1059 : BitVec 32 := 64#32
  let v2173 : BitVec 32 := Scalar.muli v2158 c64_i32_1059
  v2173
def k0_mult81 : BitVec 32 :=
  let c7680_i32 : BitVec 32 := 7680#32
  c7680_i32
def k0_mult82 : BitVec 32 :=
  let c7744_i32 : BitVec 32 := 7744#32
  c7744_i32
def k0_mult83 : BitVec 32 :=
  let c120_i32_142 : BitVec 32 := 120#32
  let c0_i32_141 : BitVec 32 := 0#32
  let c116_i32 : BitVec 32 := 116#32
  let v352 : BitVec 32 := Scalar.maxsi c0_i32_141 c116_i32
  let v353 : BitVec 32 := Scalar.minsi c120_i32_142 v352
  let c64_i32_145 : BitVec 32 := 64#32
  let v356 : BitVec 32 := Scalar.muli v353 c64_i32_145
  v356
def k0_mult84 : BitVec 32 :=
  let c120_i32_157 : BitVec 32 := 120#32
  let c0_i32_156 : BitVec 32 := 0#32
  let c117_i32 : BitVec 32 := 117#32
  let v385 : BitVec 32 := Scalar.maxsi c0_i32_156 c117_i32
  let v386 : BitVec 32 := Scalar.minsi c120_i32_157 v385
  let c64_i32_159 : BitVec 32 := 64#32
  let v389 : BitVec 32 := Scalar.muli v386 c64_i32_159
  v389
def k0_mult85 : BitVec 32 :=
  let c120_i32_176 : BitVec 32 := 120#32
  let c0_i32_175 : BitVec 32 := 0#32
  let c108_i32 : BitVec 32 := 108#32
  let v421 : BitVec 32 := Scalar.maxsi c0_i32_175 c108_i32
  let v422 : BitVec 32 := Scalar.minsi c120_i32_176 v421
  let c64_i32_177 : BitVec 32 := 64#32
  let v423 : BitVec 32 := Scalar.muli v422 c64_i32_177
  v423
def k0_off9 (c108_i32 : BitVec 32) : Fin 2 → Nat :=
  let c120_i32_176 : BitVec 32 := 120#32
  let c0_i32_175 : BitVec 32 := 0#32
  let v421 : BitVec 32 := Scalar.maxsi c0_i32_175 c108_i32
  let v422 : BitVec 32 := Scalar.minsi c120_i32_176 v421
  let c64_i32_177 : BitVec 32 := 64#32
  let v423 : BitVec 32 := Scalar.muli v422 c64_i32_177
  let v424 : BitVec 32 := v423
  let v425 : Index := Scalar.indexCast v424
  let c0_178 : Index := 0#32
  ![v425.toNat, 0]
def k0_mult86 : BitVec 32 :=
  let c7168_i32 : BitVec 32 := 7168#32
  c7168_i32
def k0_mult87 : BitVec 32 :=
  let c120_i32_184 : BitVec 32 := 120#32
  let c0_i32_183 : BitVec 32 := 0#32
  let c109_i32 : BitVec 32 := 109#32
  let v441 : BitVec 32 := Scalar.maxsi c0_i32_183 c109_i32
  let v442 : BitVec 32 := Scalar.minsi c120_i32_184 v441
  let c64_i32_185 : BitVec 32 := 64#32
  let v443 : BitVec 32 := Scalar.muli v442 c64_i32_185
  v443
def k0_mult88 : BitVec 32 :=
  let c7232_i32 : BitVec 32 := 7232#32
  c7232_i32
def k0_mult89 : BitVec 32 :=
  let c7808_i32 : BitVec 32 := 7808#32
  c7808_i32
def k0_mult90 : BitVec 32 :=
  let c7872_i32 : BitVec 32 := 7872#32
  c7872_i32
def k0_mult91 : BitVec 32 :=
  let c120_i32_197 : BitVec 32 := 120#32
  let c0_i32_196 : BitVec 32 := 0#32
  let c118_i32 : BitVec 32 := 118#32
  let v477 : BitVec 32 := Scalar.maxsi c0_i32_196 c118_i32
  let v478 : BitVec 32 := Scalar.minsi c120_i32_197 v477
  let c64_i32_199 : BitVec 32 := 64#32
  let v481 : BitVec 32 := Scalar.muli v478 c64_i32_199
  v481
def k0_mult92 : BitVec 32 :=
  let c120_i32_211 : BitVec 32 := 120#32
  let c0_i32_210 : BitVec 32 := 0#32
  let c119_i32 : BitVec 32 := 119#32
  let v510 : BitVec 32 := Scalar.maxsi c0_i32_210 c119_i32
  let v511 : BitVec 32 := Scalar.minsi c120_i32_211 v510
  let c64_i32_213 : BitVec 32 := 64#32
  let v514 : BitVec 32 := Scalar.muli v511 c64_i32_213
  v514
def k0_mult93 : BitVec 32 :=
  let c120_i32_230 : BitVec 32 := 120#32
  let c0_i32_229 : BitVec 32 := 0#32
  let c110_i32 : BitVec 32 := 110#32
  let v546 : BitVec 32 := Scalar.maxsi c0_i32_229 c110_i32
  let v547 : BitVec 32 := Scalar.minsi c120_i32_230 v546
  let c64_i32_231 : BitVec 32 := 64#32
  let v548 : BitVec 32 := Scalar.muli v547 c64_i32_231
  v548
def k0_mult94 : BitVec 32 :=
  let c7296_i32 : BitVec 32 := 7296#32
  c7296_i32
def k0_mult95 : BitVec 32 :=
  let c120_i32_238 : BitVec 32 := 120#32
  let c0_i32_237 : BitVec 32 := 0#32
  let c111_i32 : BitVec 32 := 111#32
  let v566 : BitVec 32 := Scalar.maxsi c0_i32_237 c111_i32
  let v567 : BitVec 32 := Scalar.minsi c120_i32_238 v566
  let c64_i32_239 : BitVec 32 := 64#32
  let v568 : BitVec 32 := Scalar.muli v567 c64_i32_239
  v568
def k0_mult96 : BitVec 32 :=
  let c7360_i32 : BitVec 32 := 7360#32
  c7360_i32
def k0_mult97 : BitVec 32 :=
  let c7936_i32 : BitVec 32 := 7936#32
  c7936_i32
def k0_mult98 : BitVec 32 :=
  let c8000_i32 : BitVec 32 := 8000#32
  c8000_i32
def k0_mult99 : BitVec 32 :=
  let c120_i32_252 : BitVec 32 := 120#32
  let c0_i32_251 : BitVec 32 := 0#32
  let c120_i32_250 : BitVec 32 := 120#32
  let v602 : BitVec 32 := Scalar.maxsi c0_i32_251 c120_i32_250
  let v603 : BitVec 32 := Scalar.minsi c120_i32_252 v602
  let c64_i32_254 : BitVec 32 := 64#32
  let v606 : BitVec 32 := Scalar.muli v603 c64_i32_254
  v606
def k0_mult100 : BitVec 32 :=
  let c120_i32_267 : BitVec 32 := 120#32
  let c0_i32_266 : BitVec 32 := 0#32
  let c121_i32_265 : BitVec 32 := 121#32
  let v635 : BitVec 32 := Scalar.maxsi c0_i32_266 c121_i32_265
  let v636 : BitVec 32 := Scalar.minsi c120_i32_267 v635
  let c64_i32_269 : BitVec 32 := 64#32
  let v639 : BitVec 32 := Scalar.muli v636 c64_i32_269
  v639
def k0_mult101 : BitVec 32 :=
  let c120_i32_286 : BitVec 32 := 120#32
  let c0_i32_285 : BitVec 32 := 0#32
  let c112_i32 : BitVec 32 := 112#32
  let v671 : BitVec 32 := Scalar.maxsi c0_i32_285 c112_i32
  let v672 : BitVec 32 := Scalar.minsi c120_i32_286 v671
  let c64_i32_287 : BitVec 32 := 64#32
  let v673 : BitVec 32 := Scalar.muli v672 c64_i32_287
  v673
def k0_mult102 : BitVec 32 :=
  let c7424_i32 : BitVec 32 := 7424#32
  c7424_i32
def k0_mult103 : BitVec 32 :=
  let c120_i32_294 : BitVec 32 := 120#32
  let c0_i32_293 : BitVec 32 := 0#32
  let c113_i32 : BitVec 32 := 113#32
  let v691 : BitVec 32 := Scalar.maxsi c0_i32_293 c113_i32
  let v692 : BitVec 32 := Scalar.minsi c120_i32_294 v691
  let c64_i32_295 : BitVec 32 := 64#32
  let v693 : BitVec 32 := Scalar.muli v692 c64_i32_295
  v693
def k0_mult104 : BitVec 32 :=
  let c7488_i32 : BitVec 32 := 7488#32
  c7488_i32
def k0_mult105 : BitVec 32 :=
  let c8064_i32 : BitVec 32 := 8064#32
  c8064_i32
def k0_mult106 : BitVec 32 :=
  let c8128_i32 : BitVec 32 := 8128#32
  c8128_i32
def k0_mult107 : BitVec 32 :=
  let c120_i32_308 : BitVec 32 := 120#32
  let c0_i32_307 : BitVec 32 := 0#32
  let c122_i32_306 : BitVec 32 := 122#32
  let v727 : BitVec 32 := Scalar.maxsi c0_i32_307 c122_i32_306
  let v728 : BitVec 32 := Scalar.minsi c120_i32_308 v727
  let c64_i32_310 : BitVec 32 := 64#32
  let v731 : BitVec 32 := Scalar.muli v728 c64_i32_310
  v731
def k0_mult108 : BitVec 32 :=
  let c120_i32_323 : BitVec 32 := 120#32
  let c0_i32_322 : BitVec 32 := 0#32
  let c123_i32_321 : BitVec 32 := 123#32
  let v760 : BitVec 32 := Scalar.maxsi c0_i32_322 c123_i32_321
  let v761 : BitVec 32 := Scalar.minsi c120_i32_323 v760
  let c64_i32_325 : BitVec 32 := 64#32
  let v764 : BitVec 32 := Scalar.muli v761 c64_i32_325
  v764
def k0_mult109 : BitVec 32 :=
  let c120_i32_342 : BitVec 32 := 120#32
  let c0_i32_341 : BitVec 32 := 0#32
  let c114_i32 : BitVec 32 := 114#32
  let v796 : BitVec 32 := Scalar.maxsi c0_i32_341 c114_i32
  let v797 : BitVec 32 := Scalar.minsi c120_i32_342 v796
  let c64_i32_343 : BitVec 32 := 64#32
  let v798 : BitVec 32 := Scalar.muli v797 c64_i32_343
  v798
def k0_mult110 : BitVec 32 :=
  let c7552_i32 : BitVec 32 := 7552#32
  c7552_i32
def k0_mult111 : BitVec 32 :=
  let c120_i32_350 : BitVec 32 := 120#32
  let c0_i32_349 : BitVec 32 := 0#32
  let c115_i32 : BitVec 32 := 115#32
  let v816 : BitVec 32 := Scalar.maxsi c0_i32_349 c115_i32
  let v817 : BitVec 32 := Scalar.minsi c120_i32_350 v816
  let c64_i32_351 : BitVec 32 := 64#32
  let v818 : BitVec 32 := Scalar.muli v817 c64_i32_351
  v818
def k0_mult112 : BitVec 32 :=
  let c7616_i32 : BitVec 32 := 7616#32
  c7616_i32
def k0_mult113 : BitVec 32 :=
  let c120_i32_364 : BitVec 32 := 120#32
  let c0_i32_363 : BitVec 32 := 0#32
  let c116_i32_362 : BitVec 32 := 116#32
  let v839 : BitVec 32 := Scalar.maxsi c0_i32_363 c116_i32_362
  let v840 : BitVec 32 := Scalar.minsi c120_i32_364 v839
  let c64_i32_365 : BitVec 32 := 64#32
  let v841 : BitVec 32 := Scalar.muli v840 c64_i32_365
  v841
def k0_mult114 : BitVec 32 :=
  let c7680_i32_370 : BitVec 32 := 7680#32
  c7680_i32_370
def k0_mult115 : BitVec 32 :=
  let c120_i32_374 : BitVec 32 := 120#32
  let c0_i32_373 : BitVec 32 := 0#32
  let c117_i32_372 : BitVec 32 := 117#32
  let v859 : BitVec 32 := Scalar.maxsi c0_i32_373 c117_i32_372
  let v860 : BitVec 32 := Scalar.minsi c120_i32_374 v859
  let c64_i32_375 : BitVec 32 := 64#32
  let v861 : BitVec 32 := Scalar.muli v860 c64_i32_375
  v861
def k0_mult116 : BitVec 32 :=
  let c7744_i32_380 : BitVec 32 := 7744#32
  c7744_i32_380
def k0_mult117 : BitVec 32 :=
  let c120_i32_389 : BitVec 32 := 120#32
  let c0_i32_388 : BitVec 32 := 0#32
  let c118_i32_387 : BitVec 32 := 118#32
  let v882 : BitVec 32 := Scalar.maxsi c0_i32_388 c118_i32_387
  let v883 : BitVec 32 := Scalar.minsi c120_i32_389 v882
  let c64_i32_390 : BitVec 32 := 64#32
  let v884 : BitVec 32 := Scalar.muli v883 c64_i32_390
  v884
def k0_mult118 : BitVec 32 :=
  let c7808_i32_395 : BitVec 32 := 7808#32
  c7808_i32_395
def k0_mult119 : BitVec 32 :=
  let c120_i32_399 : BitVec 32 := 120#32
  let c0_i32_398 : BitVec 32 := 0#32
  let c119_i32_397 : BitVec 32 := 119#32
  let v902 : BitVec 32 := Scalar.maxsi c0_i32_398 c119_i32_397
  let v903 : BitVec 32 := Scalar.minsi c120_i32_399 v902
  let c64_i32_400 : BitVec 32 := 64#32
  let v904 : BitVec 32 := Scalar.muli v903 c64_i32_400
  v904
def k0_mult120 : BitVec 32 :=
  let c7872_i32_405 : BitVec 32 := 7872#32
  c7872_i32_405
def k0_mult121 : BitVec 32 :=
  let c120_i32_414 : BitVec 32 := 120#32
  let c0_i32_413 : BitVec 32 := 0#32
  let c120_i32_412 : BitVec 32 := 120#32
  let v925 : BitVec 32 := Scalar.maxsi c0_i32_413 c120_i32_412
  let v926 : BitVec 32 := Scalar.minsi c120_i32_414 v925
  let c64_i32_415 : BitVec 32 := 64#32
  let v927 : BitVec 32 := Scalar.muli v926 c64_i32_415
  v927
def k0_mult122 : BitVec 32 :=
  let c7936_i32_420 : BitVec 32 := 7936#32
  c7936_i32_420
def k0_mult123 : BitVec 32 :=
  let c120_i32_424 : BitVec 32 := 120#32
  let c0_i32_423 : BitVec 32 := 0#32
  let c121_i32_422 : BitVec 32 := 121#32
  let v945 : BitVec 32 := Scalar.maxsi c0_i32_423 c121_i32_422
  let v946 : BitVec 32 := Scalar.minsi c120_i32_424 v945
  let c64_i32_425 : BitVec 32 := 64#32
  let v947 : BitVec 32 := Scalar.muli v946 c64_i32_425
  v947
def k0_mult124 : BitVec 32 :=
  let c8000_i32_430 : BitVec 32 := 8000#32
  c8000_i32_430
def k0_mult125 : BitVec 32 :=
  let c120_i32_439 : BitVec 32 := 120#32
  let c0_i32_438 : BitVec 32 := 0#32
  let c122_i32_437 : BitVec 32 := 122#32
  let v968 : BitVec 32 := Scalar.maxsi c0_i32_438 c122_i32_437
  let v969 : BitVec 32 := Scalar.minsi c120_i32_439 v968
  let c64_i32_440 : BitVec 32 := 64#32
  let v970 : BitVec 32 := Scalar.muli v969 c64_i32_440
  v970
def k0_mult126 : BitVec 32 :=
  let c8064_i32_445 : BitVec 32 := 8064#32
  c8064_i32_445
def k0_mult127 : BitVec 32 :=
  let c120_i32_449 : BitVec 32 := 120#32
  let c0_i32_448 : BitVec 32 := 0#32
  let c123_i32_447 : BitVec 32 := 123#32
  let v988 : BitVec 32 := Scalar.maxsi c0_i32_448 c123_i32_447
  let v989 : BitVec 32 := Scalar.minsi c120_i32_449 v988
  let c64_i32_450 : BitVec 32 := 64#32
  let v990 : BitVec 32 := Scalar.muli v989 c64_i32_450
  v990
def k0_mult128 : BitVec 32 :=
  let c8128_i32_455 : BitVec 32 := 8128#32
  c8128_i32_455
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16896x1024 : Shape := ⟨2, ![16896, 1024]⟩
abbrev S16896x2048 : Shape := ⟨2, ![16896, 2048]⟩
abbrev S1x16x15x31 : Shape := ⟨4, ![1, 16, 15, 31]⟩
abbrev S16896x8x256 : Shape := ⟨3, ![16896, 8, 256]⟩
abbrev S16896x8x128 : Shape := ⟨3, ![16896, 8, 128]⟩
abbrev S16384x1024 : Shape := ⟨2, ![16384, 1024]⟩
abbrev S2x128x64x16x64 : Shape := ⟨5, ![2, 128, 64, 16, 64]⟩
abbrev S16384x8x128 : Shape := ⟨3, ![16384, 8, 128]⟩
abbrev S512x1024 : Shape := ⟨2, ![512, 1024]⟩
abbrev S2x256x16x64 : Shape := ⟨4, ![2, 256, 16, 64]⟩
abbrev S512x8x128 : Shape := ⟨3, ![512, 8, 128]⟩
abbrev S16x15x31 : Shape := ⟨3, ![16, 15, 31]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S128x64x8x16x1 : Shape := ⟨5, ![128, 64, 8, 16, 1]⟩
abbrev S128x64x8x16x2 : Shape := ⟨5, ![128, 64, 8, 16, 2]⟩
abbrev S16x128x64x8x16 : Shape := ⟨5, ![16, 128, 64, 8, 16]⟩
abbrev S2x128x64x8x16x16x64 : Shape := ⟨7, ![2, 128, 64, 8, 16, 16, 64]⟩
abbrev S2x16x128x64x8x16 : Shape := ⟨6, ![2, 16, 128, 64, 8, 16]⟩
abbrev S1x16x128x64x8x16 : Shape := ⟨6, ![1, 16, 128, 64, 8, 16]⟩
abbrev S2x16x128x64x256 : Shape := ⟨5, ![2, 16, 128, 64, 256]⟩
abbrev S2x16x128x64x128 : Shape := ⟨5, ![2, 16, 128, 64, 128]⟩
abbrev S2x16x128x64x384 : Shape := ⟨5, ![2, 16, 128, 64, 384]⟩
abbrev S2x16x128x64 : Shape := ⟨4, ![2, 16, 128, 64]⟩
abbrev S2x16x128x64x1 : Shape := ⟨5, ![2, 16, 128, 64, 1]⟩
abbrev S2x16x64x128x64 : Shape := ⟨5, ![2, 16, 64, 128, 64]⟩

abbrev nBuf : Space → Nat
  | .hbm => 160
  | .vmem => 0
  | .smem => 0
  | _ => 0

abbrev hbmTy0_0 (i : Nat) : BufTy := match i % 128 with
  | 0 => ⟨S16896x1024, .bf16⟩
  | 1 => ⟨S16896x1024, .bf16⟩
  | 2 => ⟨S16896x2048, .bf16⟩
  | 3 => ⟨S1x16x15x31, .f32⟩
  | 4 => ⟨S16896x8x256, .bf16⟩
  | 5 => ⟨S16896x8x128, .bf16⟩
  | 6 => ⟨S16384x1024, .bf16⟩
  | 7 => ⟨S2x128x64x16x64, .bf16⟩
  | 8 => ⟨S16384x1024, .bf16⟩
  | 9 => ⟨S2x128x64x16x64, .bf16⟩
  | 10 => ⟨S16384x8x128, .bf16⟩
  | 11 => ⟨S2x128x64x16x64, .bf16⟩
  | 12 => ⟨S512x1024, .bf16⟩
  | 13 => ⟨S2x256x16x64, .bf16⟩
  | 14 => ⟨S512x8x128, .bf16⟩
  | 15 => ⟨S2x256x16x64, .bf16⟩
  | 16 => ⟨S16x15x31, .f32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64x1, .i32⟩
  | 30 => ⟨S16, .i32⟩
  | 31 => ⟨S1x16, .i32⟩
  | 32 => ⟨S64x16, .i32⟩
  | 33 => ⟨S64x16, .i32⟩
  | 34 => ⟨S64x16, .i32⟩
  | 35 => ⟨S64x1, .i32⟩
  | 36 => ⟨S64x16, .i32⟩
  | 37 => ⟨S64x16, .i32⟩
  | 38 => ⟨S_, .i32⟩
  | 39 => ⟨S64x16, .i32⟩
  | 40 => ⟨S64x16, .i32⟩
  | 41 => ⟨S128, .i32⟩
  | 42 => ⟨S_, .i32⟩
  | 43 => ⟨S128, .i32⟩
  | 44 => ⟨S128, .i32⟩
  | 45 => ⟨S_, .i32⟩
  | 46 => ⟨S_, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128x1, .i32⟩
  | 54 => ⟨S8, .i32⟩
  | 55 => ⟨S1x8, .i32⟩
  | 56 => ⟨S128x8, .i32⟩
  | 57 => ⟨S128x8, .i32⟩
  | 58 => ⟨S128x8, .i32⟩
  | 59 => ⟨S128x1, .i32⟩
  | 60 => ⟨S128x8, .i32⟩
  | 61 => ⟨S128x8, .i32⟩
  | 62 => ⟨S_, .i32⟩
  | 63 => ⟨S128x8, .i32⟩
  | 64 => ⟨S128x8, .i32⟩
  | 65 => ⟨S128x1x8x1, .i32⟩
  | 66 => ⟨S1x64x1x16, .i32⟩
  | 67 => ⟨S_, .i32⟩
  | 68 => ⟨S128x1x8x1, .i32⟩
  | 69 => ⟨S128x1x8x1, .i1⟩
  | 70 => ⟨S_, .i32⟩
  | 71 => ⟨S128x1x8x1, .i32⟩
  | 72 => ⟨S128x1x8x1, .i32⟩
  | 73 => ⟨S128x1x8x1, .i32⟩
  | 74 => ⟨S_, .i32⟩
  | 75 => ⟨S1x64x1x16, .i32⟩
  | 76 => ⟨S1x64x1x16, .i1⟩
  | 77 => ⟨S_, .i32⟩
  | 78 => ⟨S1x64x1x16, .i32⟩
  | 79 => ⟨S1x64x1x16, .i32⟩
  | 80 => ⟨S1x64x1x16, .i32⟩
  | 81 => ⟨S128x64x8x16, .i32⟩
  | 82 => ⟨S128x64x8x16, .i32⟩
  | 83 => ⟨S128x64x8x16x1, .i32⟩
  | 84 => ⟨S128x64x8x16x1, .i32⟩
  | 85 => ⟨S128x64x8x16x2, .i32⟩
  | 86 => ⟨S16x128x64x8x16, .f32⟩
  | 87 => ⟨S128x1x8x1, .i32⟩
  | 88 => ⟨S1x64x1x16, .i32⟩
  | 89 => ⟨S_, .i32⟩
  | 90 => ⟨S128x1x8x1, .i32⟩
  | 91 => ⟨S128x1x8x1, .i1⟩
  | 92 => ⟨S_, .i32⟩
  | 93 => ⟨S128x1x8x1, .i32⟩
  | 94 => ⟨S128x1x8x1, .i32⟩
  | 95 => ⟨S128x1x8x1, .i32⟩
  | 96 => ⟨S_, .i32⟩
  | 97 => ⟨S1x64x1x16, .i32⟩
  | 98 => ⟨S1x64x1x16, .i1⟩
  | 99 => ⟨S_, .i32⟩
  | 100 => ⟨S1x64x1x16, .i32⟩
  | 101 => ⟨S1x64x1x16, .i32⟩
  | 102 => ⟨S1x64x1x16, .i32⟩
  | 103 => ⟨S128x64x8x16, .i32⟩
  | 104 => ⟨S128x64x8x16, .i32⟩
  | 105 => ⟨S128x64x8x16x1, .i32⟩
  | 106 => ⟨S128x64x8x16x1, .i32⟩
  | 107 => ⟨S128x64x8x16x2, .i32⟩
  | 108 => ⟨S2x128x64x8x16x16x64, .bf16⟩
  | 109 => ⟨S_, .i32⟩
  | 110 => ⟨S128x1x8x1, .i32⟩
  | 111 => ⟨S128x1x8x1, .i1⟩
  | 112 => ⟨S_, .i32⟩
  | 113 => ⟨S128x1x8x1, .i32⟩
  | 114 => ⟨S128x1x8x1, .i32⟩
  | 115 => ⟨S128x1x8x1, .i32⟩
  | 116 => ⟨S_, .i32⟩
  | 117 => ⟨S1x64x1x16, .i32⟩
  | 118 => ⟨S1x64x1x16, .i1⟩
  | 119 => ⟨S_, .i32⟩
  | 120 => ⟨S1x64x1x16, .i32⟩
  | 121 => ⟨S1x64x1x16, .i32⟩
  | 122 => ⟨S1x64x1x16, .i32⟩
  | 123 => ⟨S128x64x8x16, .i32⟩
  | 124 => ⟨S128x64x8x16, .i32⟩
  | 125 => ⟨S128x64x8x16x1, .i32⟩
  | 126 => ⟨S128x64x8x16x1, .i32⟩
  | 127 => ⟨S128x64x8x16x2, .i32⟩
  | _ => ⟨S16896x1024, .bf16⟩

abbrev hbmTy0_1 (i : Nat) : BufTy := match i % 128 with
  | 0 => ⟨S2x128x64x8x16x16x64, .bf16⟩
  | 1 => ⟨S2x16x128x64x8x16, .f32⟩
  | 2 => ⟨S1x16x128x64x8x16, .f32⟩
  | 3 => ⟨S2x16x128x64x8x16, .f32⟩
  | 4 => ⟨S2x16x128x64x8x16, .f32⟩
  | 5 => ⟨S2x16x128x64x256, .f32⟩
  | 6 => ⟨S2x16x128x64x128, .f32⟩
  | 7 => ⟨S2x16x128x64x384, .f32⟩
  | 8 => ⟨S_, .f32⟩
  | 9 => ⟨S2x16x128x64, .f32⟩
  | 10 => ⟨S_, .f32⟩
  | 11 => ⟨S2x16x128x64, .f32⟩
  | 12 => ⟨S2x16x128x64, .f32⟩
  | 13 => ⟨S2x16x128x64x1, .f32⟩
  | 14 => ⟨S2x16x128x64x384, .f32⟩
  | 15 => ⟨S2x16x128x64x384, .f32⟩
  | 16 => ⟨S2x16x128x64x384, .f32⟩
  | 17 => ⟨S_, .f32⟩
  | 18 => ⟨S2x16x128x64, .f32⟩
  | 19 => ⟨S2x16x128x64x1, .f32⟩
  | 20 => ⟨S2x16x128x64x384, .f32⟩
  | 21 => ⟨S2x16x128x64x384, .f32⟩
  | 22 => ⟨S2x16x128x64x384, .bf16⟩
  | 23 => ⟨S2x16x128x64x128, .bf16⟩
  | 24 => ⟨S2x16x128x64x8x16, .bf16⟩
  | 25 => ⟨S2x16x128x64x256, .bf16⟩
  | 26 => ⟨S2x128x64x16x64, .f32⟩
  | 27 => ⟨S2x16x64x128x64, .f32⟩
  | 28 => ⟨S2x128x64x16x64, .f32⟩
  | 29 => ⟨S2x128x64x16x64, .f32⟩
  | 30 => ⟨S16384x1024, .f32⟩
  | 31 => ⟨S16384x1024, .bf16⟩
  | _ => ⟨S16896x1024, .bf16⟩

abbrev hbmTy (i : Nat) : BufTy := match i / 128 with
  | 0 => hbmTy0_0 i
  | 1 => hbmTy0_1 i
  | _ => ⟨S16896x1024, .bf16⟩

abbrev bufTy : (tb : Table) → Fin (tcTables nBuf tb) → BufTy
  | .hbm, ⟨i, _⟩ => hbmTy i
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_11 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== Kernel2.lean ====
abbrev S33x512x1024 : Shape := ⟨3, ![33, 512, 1024]⟩
abbrev S32x512x1024 : Shape := ⟨3, ![32, 512, 1024]⟩
abbrev S8x1x1024 : Shape := ⟨3, ![8, 1, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S33x512x1024, .f32⟩
  | .hbm, ⟨1, _⟩ => ⟨S32x512x1024, .bf16⟩
  | .hbm, ⟨2, _⟩ => ⟨S8x1x1024, .f32⟩
  | .hbm, ⟨3, _⟩ => ⟨S1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1024x4096, .bf16⟩
  | .local _ .vmem, ⟨15, _⟩ => ⟨S4096x1024, .bf16⟩
  | .local _ .vmem, ⟨16, _⟩ => ⟨S1x512x1024, .f32⟩
  | .local _ .vmem, ⟨17, _⟩ => ⟨S1x512x1024, .f32⟩
  | _, _ => ⟨S33x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S33x512x1024 : Shape := ⟨3, ![33, 512, 1024]⟩
abbrev S32x512x1024 : Shape := ⟨3, ![32, 512, 1024]⟩
abbrev S8x1x1024 : Shape := ⟨3, ![8, 1, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S33x512x1024, .f32⟩
  | .hbm, ⟨1, _⟩ => ⟨S32x512x1024, .bf16⟩
  | .hbm, ⟨2, _⟩ => ⟨S8x1x1024, .f32⟩
  | .hbm, ⟨3, _⟩ => ⟨S1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S32x512x1024, .f32⟩
  | .hbm, ⟨11, _⟩ => ⟨S2x8192x1024, .f32⟩
  | .hbm, ⟨12, _⟩ => ⟨S2x8192x1024, .bf16⟩
  | .hbm, ⟨13, _⟩ => ⟨S2x1x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S2x1x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x1x1024, .f32⟩
  | .hbm, ⟨45, _⟩ => ⟨S1024x4096, .f32⟩
  | .hbm, ⟨46, _⟩ => ⟨S2x8192x4096, .f32⟩
  | .hbm, ⟨47, _⟩ => ⟨S_, .f32⟩
  | .hbm, ⟨48, _⟩ => ⟨S2x8192x4096, .f32⟩
  | .hbm, ⟨49, _⟩ => ⟨S2x8192x4096, .f32⟩
  | .hbm, ⟨50, _⟩ => ⟨S2x8192x4096, .f32⟩
  | .hbm, ⟨51, _⟩ => ⟨S4096x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S32x512x1024, .f32⟩
  | _, _ => ⟨S33x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel3.lean ====
abbrev S32x512x1024 : Shape := ⟨3, ![32, 512, 1024]⟩
abbrev S512x1024 : Shape := ⟨2, ![512, 1024]⟩
abbrev S33x512x512 : Shape := ⟨3, ![33, 512, 512]⟩
abbrev S2x64x136x512 : Shape := ⟨4, ![2, 64, 136, 512]⟩
abbrev S512x512 : Shape := ⟨2, ![512, 512]⟩
abbrev S8x512 : Shape := ⟨2, ![8, 512]⟩
abbrev S8x1x1024 : Shape := ⟨3, ![8, 1, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S1056x16x512 : Shape := ⟨3, ![1056, 16, 512]⟩
abbrev S33x512x1024 : Shape := ⟨3, ![33, 512, 1024]⟩
abbrev S1x512x1024 : Shape := ⟨3, ![1, 512, 1024]⟩
abbrev S1x512x512 : Shape := ⟨3, ![1, 512, 512]⟩
abbrev S1x16x512 : Shape := ⟨3, ![1, 16, 512]⟩
abbrev S1x4x128x512 : Shape := ⟨4, ![1, 4, 128, 512]⟩
abbrev S1x1x1024 : Shape := ⟨3, ![1, 1, 1024]⟩
abbrev S16x512 : Shape := ⟨2, ![16, 512]⟩
abbrev S1x512 : Shape := ⟨2, ![1, 512]⟩
abbrev S4x128x512 : Shape := ⟨3, ![4, 128, 512]⟩
abbrev S512 : Shape := ⟨1, ![512]⟩
abbrev S512x1 : Shape := ⟨2, ![512, 1]⟩

abbrev nBuf : Space → Nat
  | .hbm => 17
  | .vmem => 29
  | .smem => 0
  | _ => 0

abbrev bufTy : (tb : Table) → Fin (tcTables nBuf tb) → BufTy
  | .hbm, ⟨0, _⟩ => ⟨S32x512x1024, .f32⟩
  | .hbm, ⟨1, _⟩ => ⟨S512x1024, .f32⟩
  | .hbm, ⟨2, _⟩ => ⟨S33x512x512, .bf16⟩
  | .hbm, ⟨3, _⟩ => ⟨S33x512x512, .bf16⟩
  | .hbm, ⟨4, _⟩ => ⟨S2x64x136x512, .f32⟩
  | .hbm, ⟨5, _⟩ => ⟨S512x512, .f32⟩
  | .hbm, ⟨6, _⟩ => ⟨S8x512, .f32⟩
  | .hbm, ⟨7, _⟩ => ⟨S8x1x1024, .f32⟩
  | .hbm, ⟨8, _⟩ => ⟨S1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x1024, .bf16⟩
  | .hbm, ⟨13, _⟩ => ⟨S1024x4096, .bf16⟩
  | .hbm, ⟨14, _⟩ => ⟨S4096x1024, .bf16⟩
  | .hbm, ⟨15, _⟩ => ⟨S1056x16x512, .bf16⟩
  | .hbm, ⟨16, _⟩ => ⟨S33x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x16x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x4x128x512, .f32⟩
  | .local _ .vmem, ⟨12, _⟩ => ⟨S1x4x128x512, .f32⟩
  | .local _ .vmem, ⟨13, _⟩ => ⟨S512x512, .f32⟩
  | .local _ .vmem, ⟨14, _⟩ => ⟨S8x512, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1024x1024, .bf16⟩
  | .local _ .vmem, ⟨25, _⟩ => ⟨S1024x4096, .bf16⟩
  | .local _ .vmem, ⟨26, _⟩ => ⟨S4096x1024, .bf16⟩
  | .local _ .vmem, ⟨27, _⟩ => ⟨S1x512x1024, .f32⟩
  | .local _ .vmem, ⟨28, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, v28.toNat, c0_i32_11.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_12 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_13 (i : grid0.Coords) : Fin 3 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  ![v18.toNat, c0_i32_4.toNat, c0_i32_5.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S32x512x1024 : Shape := ⟨3, ![32, 512, 1024]⟩
abbrev S512x1024 : Shape := ⟨2, ![512, 1024]⟩
abbrev S33x512x512 : Shape := ⟨3, ![33, 512, 512]⟩
abbrev S2x64x136x512 : Shape := ⟨4, ![2, 64, 136, 512]⟩
abbrev S512x512 : Shape := ⟨2, ![512, 512]⟩
abbrev S8x512 : Shape := ⟨2, ![8, 512]⟩
abbrev S8x1x1024 : Shape := ⟨3, ![8, 1, 1024]⟩
abbrev S1x1024 : Shape := ⟨2, ![1, 1024]⟩
abbrev S1024x1024 : Shape := ⟨2, ![1024, 1024]⟩
abbrev S1024x4096 : Shape := ⟨2, ![1024, 4096]⟩
abbrev S4096x1024 : Shape := ⟨2, ![4096, 1024]⟩
abbrev S2x8192x1024 : Shape := ⟨3, ![2, 8192, 1024]⟩
abbrev S32x512x512 : Shape := ⟨3, ![32, 512, 512]⟩
abbrev S2x8192x512 : Shape := ⟨3, ![2, 8192, 512]⟩
abbrev S2x64x128x512 : Shape := ⟨4, ![2, 64, 128, 512]⟩
abbrev S2x1x1024 : Shape := ⟨3, ![2, 1, 1024]⟩
abbrev S_ : Shape := ⟨0, ![]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S2x256x1024 : Shape := ⟨3, ![2, 256, 1024]⟩
abbrev S1x512x512 : Shape := ⟨3, ![1, 512, 512]⟩
abbrev S2x256x512 : Shape := ⟨3, ![2, 256, 512]⟩
abbrev S2x258x512 : Shape := ⟨3, ![2, 258, 512]⟩
abbrev S2x256 : Shape := ⟨2, ![2, 256]⟩
abbrev S2x256x1 : Shape := ⟨3, ![2, 256, 1]⟩
abbrev S2x256x4096 : Shape := ⟨3, ![2, 256, 4096]⟩
abbrev S1x512x1024 : Shape := ⟨3, ![1, 512, 1024]⟩
abbrev S33x512x1024 : Shape := ⟨3, ![33, 512, 1024]⟩

abbrev nBuf : Space → Nat
  | .hbm => 175
  | .vmem => 0
  | .smem => 0
  | _ => 0

abbrev hbmTy0_0 (i : Nat) : BufTy := match i % 128 with
  | 0 => ⟨S32x512x1024, .f32⟩
  | 1 => ⟨S512x1024, .f32⟩
  | 2 => ⟨S33x512x512, .bf16⟩
  | 3 => ⟨S33x512x512, .bf16⟩
  | 4 => ⟨S2x64x136x512, .f32⟩
  | 5 => ⟨S512x512, .f32⟩
  | 6 => ⟨S8x512, .f32⟩
  | 7 => ⟨S8x1x1024, .f32⟩
  | 8 => ⟨S1x1024, .f32⟩
  | 9 => ⟨S8x1x1024, .f32⟩
  | 10 => ⟨S8x1x1024, .f32⟩
  | 11 => ⟨S8x1x1024, .f32⟩
  | 12 => ⟨S1024x1024, .bf16⟩
  | 13 => ⟨S1024x4096, .bf16⟩
  | 14 => ⟨S4096x1024, .bf16⟩
  | 15 => ⟨S2x8192x1024, .f32⟩
  | 16 => ⟨S32x512x512, .bf16⟩
  | 17 => ⟨S2x8192x512, .bf16⟩
  | 18 => ⟨S32x512x512, .bf16⟩
  | 19 => ⟨S2x8192x512, .bf16⟩
  | 20 => ⟨S2x64x128x512, .f32⟩
  | 21 => ⟨S2x8192x512, .f32⟩
  | 22 => ⟨S2x1x1024, .f32⟩
  | 23 => ⟨S2x1x1024, .f32⟩
  | 24 => ⟨S2x1x1024, .f32⟩
  | 25 => ⟨S2x1x1024, .f32⟩
  | 26 => ⟨S2x8192x512, .f32⟩
  | 27 => ⟨S2x8192x512, .f32⟩
  | 28 => ⟨S_, .i32⟩
  | 29 => ⟨S_, .f32⟩
  | 30 => ⟨S2x8194x512, .f32⟩
  | 31 => ⟨S2x8192x512, .f32⟩
  | 32 => ⟨S1x512, .f32⟩
  | 33 => ⟨S512, .f32⟩
  | 34 => ⟨S1x1x512, .f32⟩
  | 35 => ⟨S2x8192x512, .f32⟩
  | 36 => ⟨S2x8192x512, .f32⟩
  | 37 => ⟨S2x8192x512, .f32⟩
  | 38 => ⟨S1x512, .f32⟩
  | 39 => ⟨S512, .f32⟩
  | 40 => ⟨S1x1x512, .f32⟩
  | 41 => ⟨S2x8192x512, .f32⟩
  | 42 => ⟨S2x8192x512, .f32⟩
  | 43 => ⟨S2x8192x512, .f32⟩
  | 44 => ⟨S2x8192x512, .f32⟩
  | 45 => ⟨S1x512, .f32⟩
  | 46 => ⟨S512, .f32⟩
  | 47 => ⟨S1x1x512, .f32⟩
  | 48 => ⟨S2x8192x512, .f32⟩
  | 49 => ⟨S2x8192x512, .f32⟩
  | 50 => ⟨S2x8192x512, .f32⟩
  | 51 => ⟨S2x8192x512, .f32⟩
  | 52 => ⟨S2x8192x1024, .f32⟩
  | 53 => ⟨S1024x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S1024, .f32⟩
  | 59 => ⟨S2x8192x1024, .f32⟩
  | 60 => ⟨S_, .f32⟩
  | 61 => ⟨S2x8192, .f32⟩
  | 62 => ⟨S2x8192x1, .f32⟩
  | 63 => ⟨S_, .f32⟩
  | 64 => ⟨S2x8192x1, .f32⟩
  | 65 => ⟨S2x8192x1, .f32⟩
  | 66 => ⟨S_, .f32⟩
  | 67 => ⟨S2x8192x1, .f32⟩
  | 68 => ⟨S2x8192x1, .f32⟩
  | 69 => ⟨S2x8192x1, .f32⟩
  | 70 => ⟨S2x8192x1024, .f32⟩
  | 71 => ⟨S2x8192x1024, .f32⟩
  | 72 => ⟨S1x1x1024, .f32⟩
  | 73 => ⟨S2x8192x1024, .f32⟩
  | 74 => ⟨S2x8192x1024, .f32⟩
  | 75 => ⟨S_, .f32⟩
  | 76 => ⟨S2x1x1024, .f32⟩
  | 77 => ⟨S2x1x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S1024x4096, .f32⟩
  | 83 => ⟨S2x8192x4096, .f32⟩
  | 84 => ⟨S_, .f32⟩
  | 85 => ⟨S2x8192x4096, .f32⟩
  | 86 => ⟨S2x8192x4096, .f32⟩
  | 87 => ⟨S2x8192x4096, .f32⟩
  | 88 => ⟨S4096x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S2x256x1024, .f32⟩
  | 94 => ⟨S1x512x512, .bf16⟩
  | 95 => ⟨S512x512, .bf16⟩
  | 96 => ⟨S2x256x512, .bf16⟩
  | 97 => ⟨S1x512x512, .bf16⟩
  | 98 => ⟨S512x512, .bf16⟩
  | 99 => ⟨S2x256x512, .bf16⟩
  | 100 => ⟨S2x256x512, .f32⟩
  | 101 => ⟨S1x1x1024, .f32⟩
  | 102 => ⟨S1x1x1024, .f32⟩
  | 103 => ⟨S1x1x1024, .f32⟩
  | 104 => ⟨S1x1x1024, .f32⟩
  | 105 => ⟨S2x256x512, .f32⟩
  | 106 => ⟨S2x256x512, .f32⟩
  | 107 => ⟨S_, .i32⟩
  | 108 => ⟨S_, .f32⟩
  | 109 => ⟨S2x258x512, .f32⟩
  | 110 => ⟨S2x256x512, .f32⟩
  | 111 => ⟨S1x512, .f32⟩
  | 112 => ⟨S512, .f32⟩
  | 113 => ⟨S1x1x512, .f32⟩
  | 114 => ⟨S2x256x512, .f32⟩
  | 115 => ⟨S2x256x512, .f32⟩
  | 116 => ⟨S2x256x512, .f32⟩
  | 117 => ⟨S1x512, .f32⟩
  | 118 => ⟨S512, .f32⟩
  | 119 => ⟨S1x1x512, .f32⟩
  | 120 => ⟨S2x256x512, .f32⟩
  | 121 => ⟨S2x256x512, .f32⟩
  | 122 => ⟨S2x256x512, .f32⟩
  | 123 => ⟨S2x256x512, .f32⟩
  | 124 => ⟨S1x512, .f32⟩
  | 125 => ⟨S512, .f32⟩
  | 126 => ⟨S1x1x512, .f32⟩
  | 127 => ⟨S2x256x512, .f32⟩
  | _ => ⟨S32x512x1024, .f32⟩

abbrev hbmTy0_1 (i : Nat) : BufTy := match i % 128 with
  | 0 => ⟨S2x256x512, .f32⟩
  | 1 => ⟨S2x256x512, .f32⟩
  | 2 => ⟨S2x256x512, .f32⟩
  | 3 => ⟨S2x256x1024, .f32⟩
  | 4 => ⟨S1024x1024, .f32⟩
  | 5 => ⟨S2x256x1024, .f32⟩
  | 6 => ⟨S2x256x1024, .f32⟩
  | 7 => ⟨S2x256x1024, .f32⟩
  | 8 => ⟨S2x256x1024, .f32⟩
  | 9 => ⟨S1024, .f32⟩
  | 10 => ⟨S2x256x1024, .f32⟩
  | 11 => ⟨S_, .f32⟩
  | 12 => ⟨S2x256, .f32⟩
  | 13 => ⟨S2x256x1, .f32⟩
  | 14 => ⟨S_, .f32⟩
  | 15 => ⟨S2x256x1, .f32⟩
  | 16 => ⟨S2x256x1, .f32⟩
  | 17 => ⟨S_, .f32⟩
  | 18 => ⟨S2x256x1, .f32⟩
  | 19 => ⟨S2x256x1, .f32⟩
  | 20 => ⟨S2x256x1, .f32⟩
  | 21 => ⟨S2x256x1024, .f32⟩
  | 22 => ⟨S2x256x1024, .f32⟩
  | 23 => ⟨S1x1x1024, .f32⟩
  | 24 => ⟨S2x256x1024, .f32⟩
  | 25 => ⟨S2x256x1024, .f32⟩
  | 26 => ⟨S_, .f32⟩
  | 27 => ⟨S1x1x1024, .f32⟩
  | 28 => ⟨S1x1x1024, .f32⟩
  | 29 => ⟨S2x256x1024, .f32⟩
  | 30 => ⟨S2x256x1024, .f32⟩
  | 31 => ⟨S2x256x1024, .f32⟩
  | 32 => ⟨S2x256x1024, .f32⟩
  | 33 => ⟨S1024x4096, .f32⟩
  | 34 => ⟨S2x256x4096, .f32⟩
  | 35 => ⟨S_, .f32⟩
  | 36 => ⟨S2x256x4096, .f32⟩
  | 37 => ⟨S2x256x4096, .f32⟩
  | 38 => ⟨S2x256x4096, .f32⟩
  | 39 => ⟨S4096x1024, .f32⟩
  | 40 => ⟨S2x256x1024, .f32⟩
  | 41 => ⟨S2x256x1024, .f32⟩
  | 42 => ⟨S2x256x1024, .f32⟩
  | 43 => ⟨S2x256x1024, .f32⟩
  | 44 => ⟨S32x512x1024, .f32⟩
  | 45 => ⟨S1x512x1024, .f32⟩
  | 46 => ⟨S33x512x1024, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst : Ref sig .tc := ⟨.hbm, 60, rfl⟩
abbrev main_v43 : Ref sig .tc := ⟨.hbm, 61, rfl⟩
abbrev main_v44 : Ref sig .tc := ⟨.hbm, 62, rfl⟩
abbrev main_cst_0 : Ref sig .tc := ⟨.hbm, 63, rfl⟩
abbrev main_v45 : Ref sig .tc := ⟨.hbm, 64, rfl⟩
abbrev main_v46 : Ref sig .tc := ⟨.hbm, 65, rfl⟩
abbrev main_cst_1 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_3 : Ref sig .tc := ⟨.hbm, 107, rfl⟩
abbrev main_call2_v0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_4 : Ref sig .tc := ⟨.hbm, 139, rfl⟩
abbrev main_v114 : Ref sig .tc := ⟨.hbm, 140, rfl⟩
abbrev main_v115 : Ref sig .tc := ⟨.hbm, 141, rfl⟩
abbrev main_cst_5 : Ref sig .tc := ⟨.hbm, 142, rfl⟩
abbrev main_v116 : Ref sig .tc := ⟨.hbm, 143, rfl⟩
abbrev main_v117 : Ref sig .tc := ⟨.hbm, 144, rfl⟩
abbrev main_cst_6 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_7 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_call3_cst : Ref sig .tc := ⟨.hbm, 163, rfl⟩
abbrev main_call3_v0 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== Kernel4.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.OutMlp.lean ====
module

public import proofs.«01_k».proof.Defs
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.ValueIdx
public import Idealize.ShloMosaic.Lib.Pipeline.Value
public import Idealize.ShloMosaic.Lib.Pipeline.ValueKit
public import Idealize.ShloMosaic.Lib.Claim

@[expose] public section

set_option maxRecDepth 16384

noncomputable section

namespace Cert.Proof.OutMlp

open Cert.Kernel2Ideal Cert.Kernel2Ideal.Gen Idealize.ShloMosaic Idealize.ShloMosaic.TcCoe Idealize.SL.Sem
open Idealize.ShloMosaic.Pipeline (Dat)

/-! ## One row of the layer's tail -/

/-- The residual after the output projection. -/
def resid (x a g1 : Fin 1024 → EReal) (wo : Fin 1024 → Fin 1024 → EReal) (c : Fin 1024) : EReal :=
  x c + g1 c * ∑ k : Fin 1024, a k * wo k c

/-- The normalised and modulated row. -/
def normed (X ng sc sh : Fin 1024 → EReal) (c : Fin 1024) : EReal :=
  X c * Ideal.rsqrt (Ideal.div (∑ k : Fin 1024, X k * X k) (Ideal.ofBits FTy.f32 1149239296#32) + Ideal.ofBits FTy.f32 897988541#32)
    * (ng c * (1 + sc c)) + sh c

/-- One hidden unit of the MLP: the squared rectifier of its preactivation. -/
def hidden (h : Fin 1024 → EReal) (w1 : Fin 1024 → Fin 4096 → EReal) (j : Fin 4096) : EReal :=
  max (∑ k : Fin 1024, h k * w1 k j) 0 * max (∑ k : Fin 1024, h k * w1 k j) 0

/-- The whole tail of the layer at one row: output projection, residual, norm, MLP, residual. -/
def tail (x a g1 ng sc sh g2 : Fin 1024 → EReal) (wo : Fin 1024 → Fin 1024 → EReal) (w1 : Fin 1024 → Fin 4096 → EReal)
    (w2 : Fin 4096 → Fin 1024 → EReal) (c : Fin 1024) : EReal :=
  resid x a g1 wo c + g2 c * ∑ j : Fin 4096, hidden (normed (resid x a g1 wo) ng sc sh) w1 j * w2 j c

/-- A sum over the 4096 hidden units is the sum of its four quarters. -/
theorem sum_quarters (f : Fin 4096 → EReal) :
    ∑ j, f j = ∑ x : Fin 1024, f ⟨x, by omega⟩ + ∑ x : Fin 1024, f ⟨1024 + x, by omega⟩
      + ∑ x : Fin 1024, f ⟨2048 + x, by omega⟩ + ∑ x : Fin 1024, f ⟨3072 + x, by omega⟩ := by
  rw [show (∑ j, f j) = ∑ j : Fin (3072 + 1024), f j from rfl, Fin.sum_univ_add (a := 3072) (b := 1024)]
  congr 1
  rw [Fin.sum_univ_add (a := 2048) (b := 1024)]
  congr 1
  rw [Fin.sum_univ_add (a := 1024) (b := 1024)]
  rfl

/-! ## The kernel's payloads at an index -/

/-- The residual of a tile. -/
theorem x1_at (a : Vec Ideal S1x512x1024 .bf16) (wo : Vec Ideal S1024x1024 .bf16) (x : Vec Ideal S1x512x1024 .f32)
    (g1 : Vec Ideal S1x1x1024 .f32) (r : Fin 512) (c : Fin 1024) :
    k0_pay2 (F := Ideal) a wo x g1 (ix2 r c)
      = resid (fun k => x (ix3 0 r k)) (fun k => a (ix3 0 r k)) (fun k => g1 (ix3 0 0 k)) (fun k c => wo (ix2 k c)) c := by
  pointwise [k0_pay2]
  rfl

/-- The normalised and modulated tile. -/
theorem h_at (a : Vec Ideal S1x512x1024 .bf16) (wo : Vec Ideal S1024x1024 .bf16) (x : Vec Ideal S1x512x1024 .f32)
    (g1 : Vec Ideal S1x1x1024 .f32) (ng : Vec Ideal S1x1024 .f32) (sc sh : Vec Ideal S1x1x1024 .f32)
    (r : Fin 512) (c : Fin 1024) : k0_pay3 (F := Ideal) a wo x g1 ng sc sh (ix2 r c)
      = normed (fun k => k0_pay2 (F := Ideal) a wo x g1 (ix2 r k)) (fun k => ng (ix2 0 k)) (fun k => sc (ix3 0 0 k))
        (fun k => sh (ix3 0 0 k)) c := by
  unfold k0_pay3
  generalize k0_pay2 (F := Ideal) a wo x g1 = X
  pointwise []
  rfl

/-- The output tile from the residual and the normalised tile. -/
theorem m_at (X : FVec Ideal S512x1024 .f32) (h : FVec Ideal S512x1024 .bf16) (w1 : Vec Ideal S1024x4096 .bf16) (w2 : Vec Ideal S4096x1024 .bf16)
    (g2 : Vec Ideal S1x1x1024 .f32) (r : Fin 512) (c : Fin 1024) :
    k0_pay1 (F := Ideal) X (k0_pay4 (F := Ideal) h (View.ld w1 r0_4) (View.ld w2 r0_5) (View.ld w1 r0_6) (View.ld w2 r0_7) (View.ld w1 r0_8) (View.ld w2 r0_9))
      (k0_pay5 h (View.ld w1 r0_10)) (View.ld w2 r0_11) (constant S512x1024 .f32 0x00000000#32) g2 (ix3 0 r c)
      = X (ix2 r c) + g2 (ix3 0 0 c) * ∑ j : Fin 4096, hidden (fun k => h (ix2 r k)) (fun k j => w1 (ix2 k j)) j * w2 (ix2 j c) := by
  rw [sum_quarters]
  pointwise [k0_pay1, k0_pay4, k0_pay5]
  rfl

/-- The output block after the body, at row `r` and column `c`. -/
theorem out_at (x0 : Vec Ideal S1x512x1024 .f32) (x1 : Vec Ideal S1x512x1024 .bf16) (x2 : Vec Ideal S1x1x1024 .f32) (x3 : Vec Ideal S1x1024 .f32)
    (x4 x5 x6 : Vec Ideal S1x1x1024 .f32) (x7 : Vec Ideal S1024x1024 .bf16) (x8 : Vec Ideal S1024x4096 .bf16) (x9 : Vec Ideal S4096x1024 .bf16)
    (r : Fin 512) (c : Fin 1024) :
    out0_10 (F := Ideal) x0 x1 x2 x3 x4 x5 x6 x7 x8 x9 (ix3 0 r c)
      = tail (fun k => x0 (ix3 0 r k)) (fun k => x1 (ix3 0 r k)) (fun k => x2 (ix3 0 0 k)) (fun k => x3 (ix2 0 k)) (fun k => x4 (ix3 0 0 k))
        (fun k => x5 (ix3 0 0 k)) (fun k => x6 (ix3 0 0 k)) (fun k c => x7 (ix2 k c)) (fun k j => x8 (ix2 k j)) (fun j c => x9 (ix2 j c)) c := by
  have z2 : (![0, 0] : Fin 2 → Nat) = fun _ => 0 := funext fun a => by fin_cases a <;> rfl
  have z3 : (![0, 0, 0] : Fin 3 → Nat) = fun _ => 0 := funext fun a => by fin_cases a <;> rfl
  have e0 : ∀ {T} (x : Vec Ideal S1x512x1024 T), View.ld x r0_0 = x := fun x => View.ld_unit_zero z3 _ x
  have e1 : ∀ {T} (x : Vec Ideal S1024x1024 T), View.ld x r0_1 = x := fun x => View.ld_unit_zero z2 _ x
  have e2 : ∀ {T} (x : Vec Ideal S1x1x1024 T), View.ld x r0_2 = x := fun x => View.ld_unit_zero z3 _ x
  have e3 : ∀ {T} (x : Vec Ideal S1x1024 T), View.ld x r0_3 = x := fun x => View.ld_unit_zero z2 _ x
  unfold out0_10 k0_pay6
  rw [View.canon_unit_zero z3, m_at, x1_at, e0, e0, e1, e2, e2, e2, e2, e3]
  simp only [h_at, x1_at]
  rfl

/-! ## The result array -/

/-- The layer's tail over the whole array: tile `t` belongs to batch `t / 16`. -/
def G (x : Vec Ideal S33x512x1024 .f32) (a : Vec Ideal S32x512x1024 .bf16) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16) :
    Vec Ideal S32x512x1024 .f32 := fun i =>
  let t : Fin 32 := i 0
  let b : Fin 8 := ⟨t.val / 16, by omega⟩
  let r : Fin 512 := i 1
  tail (fun k => x (ix3 ⟨t.val, by omega⟩ r k)) (fun k => a (ix3 t r k)) (fun k => g1 (ix3 b 0 k)) (fun k => ng (ix2 0 k)) (fun k => sc (ix3 b 0 k))
    (fun k => sh (ix3 b 0 k)) (fun k => g2 (ix3 b 0 k)) (fun k c => wo (ix2 k c)) (fun k j => w1 (ix2 k j)) (fun j c => w2 (ix2 j c)) (i 2)

/-- The index maps: the tile for the tiled windows, its batch for the modulation rows, zero for the weights. -/
theorem idx : ∀ t : Fin cfg0.N, win0_0.index t = ![t.val, 0, 0] ∧ win0_1.index t = ![t.val, 0, 0] ∧ win0_2.index t = ![t.val / 16, 0, 0]
    ∧ win0_3.index t = ![0, 0] ∧ win0_4.index t = ![t.val / 16, 0, 0] ∧ win0_5.index t = ![t.val / 16, 0, 0] ∧ win0_6.index t = ![t.val / 16, 0, 0]
    ∧ win0_7.index t = ![0, 0] ∧ win0_8.index t = ![0, 0] ∧ win0_9.index t = ![0, 0] ∧ win0_10.index t = ![t.val, 0, 0] := by decide +kernel

variable (m : (ℓ : Loc nD τ sig) → Buf (Elt Ideal) ℓ)

/-- The kernel's result array after the run. -/
theorem final (c : Dev nD) : (dats m 0 c).arrAt 10 cfg0.N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t hf y => ?_
  obtain ⟨i0, i1, i2, i3, i4, i5, i6, i7, i8, i9, i10⟩ := idx t
  blk_simp
  rw [after0_10]
  idx_vars y
  obtain rfl : y0 = 0 := Subsingleton.elim _ _
  have ht : t.val < 32 := t.isLt
  have h0 : ∀ k, iblk m c 0 t (ix3 0 y1 k) = m ((c : Thread nD τ).loc main_arg0) (ix3 ⟨t.val, by omega⟩ y1 k) := fun k => by blk_ext [iblk, V, i0]
  have h1 : ∀ k, iblk m c 1 t (ix3 0 y1 k) = m ((c : Thread nD τ).loc main_arg1) (ix3 ⟨t.val, by omega⟩ y1 k) := fun k => by blk_ext [iblk, V, i1]
  have h2 : ∀ k, iblk m c 2 t (ix3 0 0 k) = m ((c : Thread nD τ).loc main_arg2) (ix3 ⟨t.val / 16, by omega⟩ 0 k) := fun k => by blk_ext [iblk, V, i2]
  have h3 : ∀ k, iblk m c 3 t (ix2 0 k) = m ((c : Thread nD τ).loc main_arg3) (ix2 0 k) := fun k => by blk_ext [iblk, V, i3]
  have h4 : ∀ k, iblk m c 4 t (ix3 0 0 k) = m ((c : Thread nD τ).loc main_arg4) (ix3 ⟨t.val / 16, by omega⟩ 0 k) := fun k => by blk_ext [iblk, V, i4]
  have h5 : ∀ k, iblk m c 5 t (ix3 0 0 k) = m ((c : Thread nD τ).loc main_arg5) (ix3 ⟨t.val / 16, by omega⟩ 0 k) := fun k => by blk_ext [iblk, V, i5]
  have h6 : ∀ k, iblk m c 6 t (ix3 0 0 k) = m ((c : Thread nD τ).loc main_arg6) (ix3 ⟨t.val / 16, by omega⟩ 0 k) := fun k => by blk_ext [iblk, V, i6]
  have h7 : ∀ k j, iblk m c 7 t (ix2 k j) = m ((c : Thread nD τ).loc main_arg7) (ix2 k j) := fun k j => by blk_ext [iblk, V, i7]
  have h8 : ∀ k j, iblk m c 8 t (ix2 k j) = m ((c : Thread nD τ).loc main_arg8) (ix2 k j) := fun k j => by blk_ext [iblk, V, i8]
  have h9 : ∀ k j, iblk m c 9 t (ix2 k j) = m ((c : Thread nD τ).loc main_arg9) (ix2 k j) := fun k j => by blk_ext [iblk, V, i9]
  have he : ((View.whole main_v0).slice (win0_10.rect t)).emb (ix3 0 y1 y2) = (ix3 (⟨t.val, ht⟩ : Fin 32) y1 y2 : S32x512x1024.Idx) := by blk_ext [i10]
  rw [out_at]
  simp only [h0, h1, h2, h3, h4, h5, h6, h7, h8, h9]
  rw [he]
  rfl

end Cert.Proof.OutMlp

namespace Cert.Proof.OutMlp

open Cert.Reference2Ideal Cert.Reference2Ideal.Read Idealize.ShloMosaic

/-! ## The reference at an index -/

variable (x : Vec Ideal S33x512x1024 .f32) (a : Vec Ideal S32x512x1024 .bf16) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16)

theorem ref_resid (b : Fin 2) (n : Fin 8192) (c : Fin 1024) : val_main_v7 (F := Ideal) x a g1 wo (ix3 b n c)
    = resid (fun k => x (ix3 ⟨b.val * 16 + n.val / 512, by omega⟩ ⟨n.val % 512, by omega⟩ k))
      (fun k => a (ix3 ⟨b.val * 16 + n.val / 512, by omega⟩ ⟨n.val % 512, by omega⟩ k)) (fun k => g1 (ix3 ⟨b.val, by omega⟩ 0 k))
      (fun k c => wo (ix2 k c)) c := by
  pointwise [val_main_v7, val_main_v6, val_main_v5, val_main_v4, val_main_v3, val_main_v2, val_main_v1, val_main_v0]
  rfl

theorem ref_normed (b : Fin 2) (n : Fin 8192) (c : Fin 1024) : val_main_v29 (F := Ideal) x a g1 ng sc sh wo (ix3 b n c)
    = normed (fun k => val_main_v7 (F := Ideal) x a g1 wo (ix3 b n k)) (fun k => ng (ix2 0 k)) (fun k => sc (ix3 ⟨b.val, by omega⟩ 0 k))
      (fun k => sh (ix3 ⟨b.val, by omega⟩ 0 k)) c := by
  unfold val_main_v29 val_main_v28 val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8
  generalize val_main_v7 (F := Ideal) x a g1 wo = X
  pointwise [val_main_cst, val_main_cst_0, val_main_cst_1, val_main_cst_2]
  unfold normed
  rw [mul_assoc (X (ix3 b n c) * _)]

theorem ref_out (b : Fin 2) (n : Fin 8192) (c : Fin 1024) : val_main_v39 (F := Ideal) x a g1 ng sc sh g2 wo w1 w2 (ix3 b n c)
    = val_main_v7 (F := Ideal) x a g1 wo (ix3 b n c) + g2 (ix3 ⟨b.val, by omega⟩ 0 c)
      * ∑ j : Fin 4096, hidden (fun k => val_main_v29 (F := Ideal) x a g1 ng sc sh wo (ix3 b n k)) (fun k j => w1 (ix2 k j)) j * w2 (ix2 j c) := by
  unfold val_main_v39 val_main_v38 val_main_v37 val_main_v36 val_main_v35 val_main_v34 val_main_v33 val_main_v32 val_main_v31 val_main_v30
  generalize val_main_v7 (F := Ideal) x a g1 wo = X
  generalize val_main_v29 (F := Ideal) x a g1 ng sc sh wo = H
  pointwise [val_main_call0_v0, val_main_call0_cst]
  rfl

/-- The reference's result is the kernel's. -/
theorem ref_eq : val_main_v40 (F := Ideal) x a g1 ng sc sh g2 wo w1 w2 = G x a g1 ng sc sh g2 wo w1 w2 := by
  funext i
  idx_vars i
  rw [val_main_v40_apply]
  have hi : idx_main_v40 (ix3 i0 i1 i2) = ix3 (⟨i0.val / 16, by omega⟩ : Fin 2) (⟨i0.val % 16 * 512 + i1.val, by omega⟩ : Fin 8192) i2 := by blk_ext
  rw [hi, ref_out]
  simp only [ref_normed, ref_resid]
  have ht : (i0.val / 16) * 16 + (i0.val % 16 * 512 + i1.val) / 512 = i0.val := by omega
  have hr : (i0.val % 16 * 512 + i1.val) % 512 = i1.val := by omega
  simp only [ht, hr]
  rfl

end Cert.Proof.OutMlp

namespace Cert.Proof.OutMlp

open Idealize.ShloMosaic Idealize.ShloMosaic.TcCoe Idealize.SL.Sem

/-- The algebraic claim of the call. -/
theorem algebraic : Cert.algebraic_Kernel2Ideal_Reference2Ideal := by
  intro m g m' g' _ hm
  refine ⟨fun c => (Kernel2Ideal.Gen.dats m 0 c).arrAt 10 Kernel2Ideal.cfg0.N, Kernel2Ideal.Value.run_blocks m g,
    (θ_run _ _ _).mono (fun r h c => ?_) (Reference2Ideal.Value.run m' g')⟩
  obtain ⟨h0, h1, h2, h3, h4, h5, h6, h7, h8, h9⟩ := hm c
  refine ⟨(h c).1.trans ?_, (h c).2⟩
  refine Eq.trans ?_ (final m c).symm
  rw [Reference2Ideal.Read.val_main_v40_eq, ref_eq, h0, h1, h2, h3, h4, h5, h6, h7, h8, h9]

end Cert.Proof.OutMlp
end
-- ==== Proof.ConvBody.lean ====
module

public import proofs.«01_k».proof.Defs
public import proofs.«01_k».proof.Proof.Gen.Kernel3Ideal
public import proofs.«01_k».proof.Proof.Gen.Kernel3Ideal.Skeleton
public import proofs.«01_k».proof.Proof.OutMlp
public import Idealize.ShloMosaic.Lib.Pointwise
public import Idealize.ShloMosaic.Lib.ValueIdx
public import Idealize.ShloMosaic.Lib.KernelVsHost

@[expose] public section

set_option maxRecDepth 16384

noncomputable section

namespace Cert.Proof.ConvMlp

open Cert.Kernel3Ideal Cert.Kernel3Ideal.Gen Idealize.ShloMosaic Idealize.ShloMosaic.TcCoe

/-! ## The grid point's and the row's control bits -/

/-- The remainder of a row by 256, as the kernel writes it. -/
theorem row_rem : ∀ r : Fin 512,
    Scalar.select
      (IntOp.andi
        (IntOp.xori
          (IntOp.cmpi .slt (IntOp.remsi .vector (BitVec.ofNat 32 r.val) (Scalar.select (Scalar.cmpi .eq 256#32 0#32) 1#32 256#32)) 0#32)
          (Scalar.cmpi .slt (Scalar.select (Scalar.cmpi .eq 256#32 0#32) 1#32 256#32) 0#32))
        (IntOp.cmpi .ne (IntOp.remsi .vector (BitVec.ofNat 32 r.val) (Scalar.select (Scalar.cmpi .eq 256#32 0#32) 1#32 256#32)) 0#32))
      (IntOp.addi (IntOp.remsi .vector (BitVec.ofNat 32 r.val) (Scalar.select (Scalar.cmpi .eq 256#32 0#32) 1#32 256#32))
        (Scalar.select (Scalar.cmpi .eq 256#32 0#32) 1#32 256#32))
      (IntOp.remsi .vector (BitVec.ofNat 32 r.val) (Scalar.select (Scalar.cmpi .eq 256#32 0#32) 1#32 256#32))
      = BitVec.ofNat 32 (r.val % 256) := by decide +kernel

/-- The remainder of the grid point by 16, as the kernel writes it. -/
theorem tile_rem : ∀ t : Fin 33,
    Scalar.select
      (Scalar.andi
        (Scalar.xori (Scalar.cmpi .slt (Scalar.remsi (BitVec.ofNat 32 t.val) (Scalar.select (Scalar.cmpi .eq 16#32 0#32) 1#32 16#32)) 0#32)
          (Scalar.cmpi .slt (Scalar.select (Scalar.cmpi .eq 16#32 0#32) 1#32 16#32) 0#32))
        (Scalar.cmpi .ne (Scalar.remsi (BitVec.ofNat 32 t.val) (Scalar.select (Scalar.cmpi .eq 16#32 0#32) 1#32 16#32)) 0#32))
      (Scalar.addi (Scalar.remsi (BitVec.ofNat 32 t.val) (Scalar.select (Scalar.cmpi .eq 16#32 0#32) 1#32 16#32))
        (Scalar.select (Scalar.cmpi .eq 16#32 0#32) 1#32 16#32))
      (Scalar.remsi (BitVec.ofNat 32 t.val) (Scalar.select (Scalar.cmpi .eq 16#32 0#32) 1#32 16#32))
      = BitVec.ofNat 32 (t.val % 16) := by decide +kernel

theorem is_ctx : ∀ t : Fin 33, Scalar.cmpi .sge (BitVec.ofNat 32 t.val) 32#32 = if t.val = 32 then 1#1 else 0#1 := by decide +kernel

theorem is_first : ∀ t : Fin 33, Scalar.ori (if t.val = 32 then 1#1 else 0#1) (Scalar.cmpi .eq (BitVec.ofNat 32 (t.val % 16)) 0#32)
    = if t.val % 16 = 0 then 1#1 else 0#1 := by decide +kernel

theorem is_last : ∀ t : Fin 33, Scalar.ori (if t.val = 32 then 1#1 else 0#1) (Scalar.cmpi .eq (BitVec.ofNat 32 (t.val % 16)) 15#32)
    = if t.val % 16 = 15 ∨ t.val = 32 then 1#1 else 0#1 := by decide +kernel

theorem row_is (n : ℕ) (hn : n < 512) : ∀ r : Fin 512, IntOp.cmpi .eq (BitVec.ofNat 32 r.val) (BitVec.ofNat 32 n) = if r.val = n then 1#1 else 0#1 := by
  intro r
  have : (BitVec.ofNat 32 r.val = BitVec.ofNat 32 n) ↔ r.val = n := by
    rw [← BitVec.toNat_inj, BitVec.toNat_ofNat, BitVec.toNat_ofNat]
    omega
  by_cases h : r.val = n
  · rw [if_pos h]; simp [IntOp.cmpi, this.mpr h]
  · rw [if_neg h]; simp only [IntOp.cmpi, beq_eq_false_iff_ne.mpr (mt this.mp h)]; rfl

theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem sel (p : Prop) [Decidable p] {α : Type} (x y : α) : Scalar.select (if p then 1#1 else 0#1) x y = if p then x else y := by
  by_cases hp : p <;> simp [hp, Scalar.select]

/-! ## One row of the layer -/

/-- The row above, within its sequence: zero over the first row of a batch and over the first row of either context. -/
def above (t : ℕ) (p : Fin 512 → EReal) (q : EReal) (r : Fin 512) : EReal :=
  if t = 32 ∧ r.val % 256 = 0 then 0 else if r.val = 0 then (if t % 16 = 0 then 0 else q) else p ⟨(r.val + 512 - 1) % 512, by omega⟩

/-- The row below, within its sequence. -/
def below (t : ℕ) (p : Fin 512 → EReal) (q : EReal) (r : Fin 512) : EReal :=
  if t = 32 ∧ r.val % 256 = 255 then 0 else if r.val = 511 then (if t % 16 = 15 ∨ t = 32 then 0 else q)
    else p ⟨(r.val + 512 - 511) % 512, by omega⟩

/-- The gated convolution's and the Fourier columns' output projection. -/
def mix (a f : Fin 512 → EReal) (wo : Fin 1024 → Fin 1024 → EReal) (c : Fin 1024) : EReal :=
  ∑ k : Fin 512, a k * wo ⟨k, by omega⟩ c + ∑ k : Fin 512, f k * wo ⟨512 + k, by omega⟩ c

/-- The norm, the MLP and the last residual, from the residual stream. -/
def rest (X ng sc sh g2 : Fin 1024 → EReal) (w1 : Fin 1024 → Fin 4096 → EReal) (w2 : Fin 4096 → Fin 1024 → EReal) (c : Fin 1024) : EReal :=
  X c + g2 c * ∑ j : Fin 4096, OutMlp.hidden (OutMlp.normed X ng sc sh) w1 j * w2 j c

/-! ## The kernel's body at an index -/

theorem above_at (i : grid0.Coords) (p : Vec Ideal S1x512x512 .bf16) (q : Vec Ideal S1x16x512 .bf16) (r k : Fin 512) :
    k0_pay6 (F := Ideal) (Scalar.cmpi .sge (BitVec.ofNat 32 (i 0).val) 32#32) (iota .tc S512x512 32 [0] iota_S512x512_d0_w32) (k0_pay4 i p q) (ix2 r k)
      = above (i 0).val (fun r => p (ix3 0 r k)) (q (ix3 0 15 k)) r := by
  have h4 : k0_pay4 (F := Ideal) i p q (ix2 r k)
      = if r.val = 0 then (if (i 0).val % 16 = 0 then 0 else q (ix3 0 15 k)) else p (ix3 0 ⟨(r.val + 512 - 1) % 512, by omega⟩ k) := by
    pointwise [k0_pay4, k0_pay2]
    rw [tile_rem (i 0), is_ctx (i 0), is_first (i 0), row_is 0 (by omega) r, sel, sel]
  unfold k0_pay6
  generalize k0_pay4 (F := Ideal) i p q = Y at h4 ⊢
  pointwise []
  rw [row_rem r, is_ctx (i 0), row_is 0 (by omega) ⟨r.val % 256, by omega⟩, and_bits, sel, h4]
  rfl

theorem below_at (i : grid0.Coords) (p : Vec Ideal S1x512x512 .bf16) (q : Vec Ideal S1x16x512 .bf16) (r k : Fin 512) :
    k0_pay5 (F := Ideal) (k0_pay2 p) (k0_pay3 i q) (iota .tc S512x512 32 [0] iota_S512x512_d0_w32) (ix2 r k)
      = if r.val = 511 then (if (i 0).val % 16 = 15 ∨ (i 0).val = 32 then 0 else q (ix3 0 0 k)) else p (ix3 0 ⟨(r.val + 512 - 511) % 512, by omega⟩ k) := by
  pointwise [k0_pay5, k0_pay3, k0_pay2]
  rw [tile_rem (i 0), is_ctx (i 0), is_last (i 0), row_is 511 (by omega) r, sel, sel]

theorem rem_at (r k : Fin 512) : k0_pay7 (iota .tc S512x512 32 [0] iota_S512x512_d0_w32) (ix2 r k) = BitVec.ofNat 32 (r.val % 256) := by
  pointwise [k0_pay7]
  exact row_rem r

/-- The output projection's product of a tile. -/
theorem mix_at (i : grid0.Coords) (p : Vec Ideal S1x512x512 .bf16) (q n : Vec Ideal S1x16x512 .bf16) (cw : Vec Ideal S8x512 .f32)
    (ab : Vec Ideal S1x512x512 .bf16) (fc : Vec Ideal S512x512 .f32) (fl : Vec Ideal S1x4x128x512 .f32) (w1 w2 : Vec Ideal S512x1024 .bf16)
    (r : Fin 512) (c : Fin 1024) :
    k0_pay8 (F := Ideal) (Scalar.cmpi .sge (BitVec.ofNat 32 (i 0).val) 32#32) (k0_pay2 p)
        (k0_pay5 (k0_pay2 p) (k0_pay3 i n) (iota .tc S512x512 32 [0] iota_S512x512_d0_w32))
        (k0_pay6 (Scalar.cmpi .sge (BitVec.ofNat 32 (i 0).val) 32#32) (iota .tc S512x512 32 [0] iota_S512x512_d0_w32) (k0_pay4 i p q))
        (k0_pay7 (iota .tc S512x512 32 [0] iota_S512x512_d0_w32)) cw ab fc fl w1 w2 (ix2 r c)
      = ∑ k : Fin 512, ab (ix3 0 r k) * (above (i 0).val (fun r => p (ix3 0 r k)) (q (ix3 0 15 k)) r * cw (ix2 0 k) + p (ix3 0 r k) * cw (ix2 1 k)
          + below (i 0).val (fun r => p (ix3 0 r k)) (n (ix3 0 0 k)) r * cw (ix2 2 k)) * w1 (ix2 k c)
        + ∑ k : Fin 512, (if (i 0).val = 32 then fc (ix2 r k) else fl (ix4 0 ⟨r.val / 128, by omega⟩ ⟨r.val % 128, by omega⟩ k)) * w2 (ix2 k c) := by
  have ha : ∀ k, _ := above_at i p q r
  have hb : ∀ k, _ := below_at i p n r
  have hr : ∀ k, _ := rem_at r
  have hp : ∀ k : Fin 512, k0_pay2 (F := Ideal) p (ix2 r k) = p (ix3 0 r k) := fun k => by pointwise [k0_pay2]
  generalize k0_pay6 (F := Ideal) _ _ _ = A at ha ⊢
  generalize k0_pay5 (F := Ideal) _ _ _ = B at hb ⊢
  generalize k0_pay7 _ = R at hr ⊢
  generalize k0_pay2 (F := Ideal) p = P at hp ⊢
  pointwise [k0_pay8]
  simp only [ha, hb, hp, hr]
  refine congrArg₂ _ (Finset.sum_congr rfl fun k _ => ?_) (Finset.sum_congr rfl fun k _ => ?_)
  · rw [is_ctx (i 0), row_is 255 (by omega) ⟨r.val % 256, by omega⟩, and_bits, sel]
    unfold below
    refine congrArg₂ (· * ·) (congrArg₂ (· * ·) rfl (congrArg₂ (· + ·) rfl ?_)) rfl
    split
    · exact (zero_mul _).symm
    · rfl
  · rw [is_ctx (i 0), sel]

/-- The residual of a tile, from the product. -/
theorem x1_at (i : grid0.Coords) (y : FVec Ideal S512x1024 .f32) (xc : Vec Ideal S512x1024 .f32) (xl : Vec Ideal S1x512x1024 .f32)
    (g1 : Vec Ideal S1x1x1024 .f32) (r : Fin 512) (c : Fin 1024) :
    k0_pay9 (F := Ideal) (Scalar.cmpi .sge (BitVec.ofNat 32 (i 0).val) 32#32) y xc xl g1 (ix2 r c)
      = (if (i 0).val = 32 then xc (ix2 r c) else xl (ix3 0 r c)) + g1 (ix3 0 0 c) * y (ix2 r c) := by
  pointwise [k0_pay9]
  rw [is_ctx (i 0), sel]

/-- The normalised and modulated tile. -/
theorem h_at (v : BitVec 1) (y : FVec Ideal S512x1024 .f32) (xc : Vec Ideal S512x1024 .f32) (xl : Vec Ideal S1x512x1024 .f32)
    (g1 : Vec Ideal S1x1x1024 .f32) (ng : Vec Ideal S1x1024 .f32) (sc sh : Vec Ideal S1x1x1024 .f32) (r : Fin 512) (c : Fin 1024) :
    k0_pay10 (F := Ideal) v y xc xl g1 ng sc sh (ix2 r c)
      = OutMlp.normed (fun k => k0_pay9 (F := Ideal) v y xc xl g1 (ix2 r k)) (fun k => ng (ix2 0 k)) (fun k => sc (ix3 0 0 k))
        (fun k => sh (ix3 0 0 k)) c := by
  unfold k0_pay10
  generalize k0_pay9 (F := Ideal) v y xc xl g1 = X
  pointwise []
  rfl

/-! ## The result array -/

/-- The layer's tail at tile `t`, row `r` and column `c` of the whole array: 32 latent tiles, 16 a batch, then the contexts' tile. -/
def lay (x : Vec Ideal S32x512x1024 .f32) (xc : Vec Ideal S512x1024 .f32) (p ab : Vec Ideal S33x512x512 .bf16) (fl : Vec Ideal S2x64x136x512 .f32)
    (fc : Vec Ideal S512x512 .f32) (cw : Vec Ideal S8x512 .f32) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16)
    (t : Fin 33) (r : Fin 512) (c : Fin 1024) : EReal :=
  rest (fun c => (if t.val = 32 then xc (ix2 r c) else x (ix3 ⟨min t.val 31, by omega⟩ r c)) + g1 (ix3 ⟨t.val / 16, by omega⟩ 0 c)
        * mix (fun k => ab (ix3 t r k) * (above t.val (fun r => p (ix3 t r k)) (p (ix3 ⟨(t.val * 32 - 1) / 32, by omega⟩ ⟨(t.val * 32 - 1) % 32 * 16 + 15, by omega⟩ k)) r
                * cw (ix2 0 k) + p (ix3 t r k) * cw (ix2 1 k)
              + below t.val (fun r => p (ix3 t r k)) (p (ix3 ⟨min ((t.val + 1) * 32) 1055 / 32, by omega⟩ ⟨min ((t.val + 1) * 32) 1055 % 32 * 16, by omega⟩ k)) r * cw (ix2 2 k)))
          (fun k => if t.val = 32 then fc (ix2 r k)
            else fl (ix4 ⟨min t.val 31 / 16, by omega⟩ ⟨min t.val 31 % 16 * 4 + r.val / 128, by omega⟩ ⟨r.val % 128, by omega⟩ k))
          (fun k c => wo (ix2 k c)) c)
      (fun k => ng (ix2 0 k)) (fun k => sc (ix3 ⟨t.val / 16, by omega⟩ 0 k)) (fun k => sh (ix3 ⟨t.val / 16, by omega⟩ 0 k)) (fun k => g2 (ix3 ⟨t.val / 16, by omega⟩ 0 k))
      (fun k j => w1 (ix2 k j)) (fun j c => w2 (ix2 j c)) c

/-- The layer's tail over the whole array. -/
def G (x : Vec Ideal S32x512x1024 .f32) (xc : Vec Ideal S512x1024 .f32) (p ab : Vec Ideal S33x512x512 .bf16) (fl : Vec Ideal S2x64x136x512 .f32)
    (fc : Vec Ideal S512x512 .f32) (cw : Vec Ideal S8x512 .f32) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16) :
    Vec Ideal S33x512x1024 .f32 := fun i => lay x xc p ab fl fc cw g1 ng sc sh g2 wo w1 w2 (i 0) (i 1) (i 2)

end Cert.Proof.ConvMlp
end
-- ==== Proof.ConvRef.lean ====
module

public import proofs.«01_k».proof.Defs
public import proofs.«01_k».proof.Proof.Gen.Kernel3Ideal
public import proofs.«01_k».proof.Proof.ConvBody
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.ValueIdx
public import Idealize.ShloMosaic.Lib.KernelVsHost

@[expose] public section

set_option maxRecDepth 16384

noncomputable section

namespace Cert.Proof.ConvMlp

open Cert.Reference3Ideal Cert.Reference3Ideal.Read Idealize.ShloMosaic Idealize.ShloMosaic.TcCoe

/-! ## The reference at an index: the latent tokens -/

variable (x : Vec Ideal S32x512x1024 .f32) (xc : Vec Ideal S512x1024 .f32) (p ab : Vec Ideal S33x512x512 .bf16) (fl : Vec Ideal S2x64x136x512 .f32)
    (fc : Vec Ideal S512x512 .f32) (cw : Vec Ideal S8x512 .f32) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16)

/-- The padded sequence: zero before the first and after the last token of a batch. -/
theorem ref_pad (b : Fin 2) (s : Fin 8194) (k : Fin 512) : val_main_v13 (F := Ideal) p (ix3 b s k)
    = if h : 1 ≤ s.val ∧ s.val ≤ 8192 then p (ix3 ⟨b.val * 16 + (s.val - 1) / 512, by omega⟩ ⟨(s.val - 1) % 512, by omega⟩ k) else 0 := by
  unfold val_main_v13 val_main_v12 val_main_v2 val_main_v1
  pointwise [val_main_call0_v0, val_main_c]
  by_cases h : 1 ≤ s.val ∧ s.val ≤ 8192
  · rw [dif_pos h, dif_pos (by omega)]
  · rw [dif_neg h, dif_neg (by omega)]
    exact sitofp_zero (φ := .f32)

/-- The columns beside one another: the gated convolution, then the Fourier columns. -/
theorem ref_cat (b : Fin 2) (n : Fin 8192) (k : Fin 1024) : val_main_v35 (F := Ideal) p ab fl cw (ix3 b n k)
    = if h : k.val < 512 then val_main_v34 (F := Ideal) p ab cw (ix3 b n ⟨k.val, h⟩) else fl (ix4 b ⟨n.val / 128, by omega⟩ ⟨n.val % 128, by omega⟩ ⟨k.val - 512, by omega⟩) := by
  unfold val_main_v35 val_main_v6 val_main_v5
  generalize val_main_v34 (F := Ideal) p ab cw = A
  pointwise []

/-- The gated convolution of a token. -/
theorem ref_gate (b : Fin 2) (n : Fin 8192) (k : Fin 512) : val_main_v34 (F := Ideal) p ab cw (ix3 b n k)
    = ab (ix3 ⟨b.val * 16 + n.val / 512, by omega⟩ ⟨n.val % 512, by omega⟩ k)
      * (val_main_v13 (F := Ideal) p (ix3 b ⟨n.val, by omega⟩ k) * cw (ix2 0 k) + val_main_v13 (F := Ideal) p (ix3 b ⟨n.val + 1, by omega⟩ k) * cw (ix2 1 k)
        + val_main_v13 (F := Ideal) p (ix3 b ⟨n.val + 2, by omega⟩ k) * cw (ix2 2 k)) := by
  unfold val_main_v34 val_main_v33 val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15 val_main_v14 val_main_v11 val_main_v4 val_main_v3
  generalize val_main_v13 (F := Ideal) p = A
  pointwise []
  simp only [Nat.add_comm 1, Nat.add_comm 2]

/-- A product over both halves of the columns. -/
theorem mix_halves (y : Fin 1024 → EReal) (a f : Fin 512 → EReal) (w : Fin 1024 → Fin 1024 → EReal) (c : Fin 1024)
    (h : ∀ k : Fin 1024, y k = if h : k.val < 512 then a ⟨k.val, h⟩ else f ⟨k.val - 512, by omega⟩) : ∑ k, y k * w k c = mix a f w c := by
  unfold mix
  refine (Fin.sum_univ_add (a := 512) (b := 512) (fun k : Fin (512 + 512) => y k * w k c)).trans ?_
  refine congrArg₂ (· + ·) (Finset.sum_congr rfl fun k _ => ?_) (Finset.sum_congr rfl fun k _ => ?_)
  · have e : (Fin.castAdd 512 k : Fin (512 + 512)) = (⟨k.val, by omega⟩ : Fin 1024) := rfl
    rw [e, h, dif_pos k.isLt]
  · have e : (Fin.natAdd 512 k : Fin (512 + 512)) = (⟨512 + k.val, by omega⟩ : Fin 1024) := rfl
    rw [e, h, dif_neg (by show ¬512 + k.val < 512; omega)]
    exact congrArg (fun z => f z * _) (Fin.ext (by show 512 + k.val - 512 = k.val; omega))

/-- The output projection of a token. -/
theorem ref_mix (b : Fin 2) (n : Fin 8192) (c : Fin 1024) : val_main_v37 (F := Ideal) p ab fl cw wo (ix3 b n c)
    = mix (fun k => val_main_v34 (F := Ideal) p ab cw (ix3 b n k)) (fun k => fl (ix4 b ⟨n.val / 128, by omega⟩ ⟨n.val % 128, by omega⟩ k))
        (fun k c => wo (ix2 k c)) c := by
  rw [← mix_halves _ _ _ _ _ (fun k => ref_cat p ab fl cw b n k)]
  unfold val_main_v37 val_main_v36
  generalize val_main_v35 (F := Ideal) p ab fl cw = A
  pointwise []

theorem ref_resid (b : Fin 2) (n : Fin 8192) (c : Fin 1024) : val_main_v40 (F := Ideal) x p ab fl cw g1 wo (ix3 b n c)
    = x (ix3 ⟨b.val * 16 + n.val / 512, by omega⟩ ⟨n.val % 512, by omega⟩ c)
      + g1 (ix3 ⟨b.val, by omega⟩ 0 c) * val_main_v37 (F := Ideal) p ab fl cw wo (ix3 b n c) := by
  unfold val_main_v40 val_main_v39 val_main_v38 val_main_v7 val_main_v0
  generalize val_main_v37 (F := Ideal) p ab fl cw wo = A
  pointwise []

theorem ref_normed (b : Fin 2) (n : Fin 8192) (c : Fin 1024) : val_main_v60 (F := Ideal) x p ab fl cw g1 ng sc sh wo (ix3 b n c)
    = OutMlp.normed (fun k => val_main_v40 (F := Ideal) x p ab fl cw g1 wo (ix3 b n k)) (fun k => ng (ix2 0 k)) (fun k => sc (ix3 ⟨b.val, by omega⟩ 0 k))
      (fun k => sh (ix3 ⟨b.val, by omega⟩ 0 k)) c := by
  unfold val_main_v60 val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v8 val_main_v9
  generalize val_main_v40 (F := Ideal) x p ab fl cw g1 wo = X
  pointwise [val_main_cst, val_main_cst_0, val_main_cst_1, val_main_cst_2]
  unfold OutMlp.normed
  rw [mul_assoc (X (ix3 b n c) * _)]

theorem ref_out (b : Fin 2) (n : Fin 8192) (c : Fin 1024) : val_main_v69 (F := Ideal) x p ab fl cw g1 ng sc sh g2 wo w1 w2 (ix3 b n c)
    = rest (fun k => val_main_v40 (F := Ideal) x p ab fl cw g1 wo (ix3 b n k)) (fun k => ng (ix2 0 k)) (fun k => sc (ix3 ⟨b.val, by omega⟩ 0 k))
      (fun k => sh (ix3 ⟨b.val, by omega⟩ 0 k)) (fun k => g2 (ix3 ⟨b.val, by omega⟩ 0 k)) (fun k j => w1 (ix2 k j)) (fun j c => w2 (ix2 j c)) c := by
  unfold rest
  simp only [OutMlp.hidden, ← ref_normed x p ab fl cw g1 ng sc sh wo b n]
  unfold val_main_v69 val_main_v68 val_main_v67 val_main_v66 val_main_v65 val_main_v64 val_main_v63 val_main_v62 val_main_v61 val_main_v10
  generalize val_main_v40 (F := Ideal) x p ab fl cw g1 wo = X
  generalize val_main_v60 (F := Ideal) x p ab fl cw g1 ng sc sh wo = H
  pointwise [val_main_call1_v0, val_main_call1_cst]

/-! ## The reference at an index: the context -/

/-- The padded sequence: zero before the first and after the last token of a sequence. -/
theorem ctx_pad (b : Fin 2) (s : Fin 258) (k : Fin 512) : val_main_v84 (F := Ideal) p (ix3 b s k)
    = if h : 1 ≤ s.val ∧ s.val ≤ 256 then p (ix3 32 ⟨b.val * 256 + (s.val - 1), by omega⟩ k) else 0 := by
  unfold val_main_v84 val_main_v83 val_main_v73 val_main_v72 val_main_v71
  pointwise [val_main_call2_v0, val_main_c_3]
  by_cases h : 1 ≤ s.val ∧ s.val ≤ 256
  · rw [dif_pos h, dif_pos (by omega)]
  · rw [dif_neg h, dif_neg (by omega)]
    exact sitofp_zero (φ := .f32)

/-- The columns beside one another: the gated convolution, then the Fourier columns. -/
theorem ctx_cat (b : Fin 2) (n : Fin 256) (k : Fin 1024) : val_main_v106 (F := Ideal) p ab fc cw (ix3 b n k)
    = if h : k.val < 512 then val_main_v105 (F := Ideal) p ab cw (ix3 b n ⟨k.val, h⟩) else fc (ix2 ⟨b.val * 256 + n.val, by omega⟩ ⟨k.val - 512, by omega⟩) := by
  unfold val_main_v106 val_main_v77
  generalize val_main_v105 (F := Ideal) p ab cw = A
  pointwise []

/-- The gated convolution of a context's token. -/
theorem ctx_gate (b : Fin 2) (n : Fin 256) (k : Fin 512) : val_main_v105 (F := Ideal) p ab cw (ix3 b n k)
    = ab (ix3 32 ⟨b.val * 256 + n.val, by omega⟩ k)
      * (val_main_v84 (F := Ideal) p (ix3 b ⟨n.val, by omega⟩ k) * cw (ix2 0 k) + val_main_v84 (F := Ideal) p (ix3 b ⟨n.val + 1, by omega⟩ k) * cw (ix2 1 k)
        + val_main_v84 (F := Ideal) p (ix3 b ⟨n.val + 2, by omega⟩ k) * cw (ix2 2 k)) := by
  unfold val_main_v105 val_main_v104 val_main_v103 val_main_v102 val_main_v101 val_main_v100 val_main_v99 val_main_v98 val_main_v97 val_main_v96 val_main_v95
    val_main_v94 val_main_v93 val_main_v92 val_main_v91 val_main_v90 val_main_v89 val_main_v88 val_main_v87 val_main_v86 val_main_v85 val_main_v82 val_main_v76 val_main_v75 val_main_v74
  generalize val_main_v84 (F := Ideal) p = A
  pointwise []
  simp only [Nat.add_comm 1, Nat.add_comm 2]

/-- The output projection of a context's token. -/
theorem ctx_mix (b : Fin 2) (n : Fin 256) (c : Fin 1024) : val_main_v108 (F := Ideal) p ab fc cw wo (ix3 b n c)
    = mix (fun k => val_main_v105 (F := Ideal) p ab cw (ix3 b n k)) (fun k => fc (ix2 ⟨b.val * 256 + n.val, by omega⟩ k))
        (fun k c => wo (ix2 k c)) c := by
  rw [← mix_halves _ _ _ _ _ (fun k => ctx_cat p ab fc cw b n k)]
  unfold val_main_v108 val_main_v107
  generalize val_main_v106 (F := Ideal) p ab fc cw = A
  pointwise []

theorem ctx_resid (b : Fin 2) (n : Fin 256) (c : Fin 1024) : val_main_v111 (F := Ideal) xc p ab fc cw g1 wo (ix3 b n c)
    = xc (ix2 ⟨b.val * 256 + n.val, by omega⟩ c)
      + g1 (ix3 2 0 c) * val_main_v108 (F := Ideal) p ab fc cw wo (ix3 b n c) := by
  unfold val_main_v111 val_main_v110 val_main_v109 val_main_v78 val_main_v70
  generalize val_main_v108 (F := Ideal) p ab fc cw wo = A
  pointwise []

theorem ctx_normed (b : Fin 2) (n : Fin 256) (c : Fin 1024) : val_main_v131 (F := Ideal) xc p ab fc cw g1 ng sc sh wo (ix3 b n c)
    = OutMlp.normed (fun k => val_main_v111 (F := Ideal) xc p ab fc cw g1 wo (ix3 b n k)) (fun k => ng (ix2 0 k)) (fun k => sc (ix3 2 0 k))
      (fun k => sh (ix3 2 0 k)) c := by
  unfold val_main_v131 val_main_v130 val_main_v129 val_main_v128 val_main_v127 val_main_v126 val_main_v125 val_main_v124 val_main_v123 val_main_v122 val_main_v121
    val_main_v120 val_main_v119 val_main_v118 val_main_v117 val_main_v116 val_main_v115 val_main_v114 val_main_v113 val_main_v112 val_main_v79 val_main_v80
  generalize val_main_v111 (F := Ideal) xc p ab fc cw g1 wo = X
  pointwise [val_main_cst_4, val_main_cst_5, val_main_cst_6, val_main_cst_7]
  unfold OutMlp.normed
  rw [mul_assoc (X (ix3 b n c) * _)]

theorem ctx_out (b : Fin 2) (n : Fin 256) (c : Fin 1024) : val_main_v140 (F := Ideal) xc p ab fc cw g1 ng sc sh g2 wo w1 w2 (ix3 b n c)
    = rest (fun k => val_main_v111 (F := Ideal) xc p ab fc cw g1 wo (ix3 b n k)) (fun k => ng (ix2 0 k)) (fun k => sc (ix3 2 0 k))
      (fun k => sh (ix3 2 0 k)) (fun k => g2 (ix3 2 0 k)) (fun k j => w1 (ix2 k j)) (fun j c => w2 (ix2 j c)) c := by
  unfold rest
  simp only [OutMlp.hidden, ← ctx_normed xc p ab fc cw g1 ng sc sh wo b n]
  unfold val_main_v140 val_main_v139 val_main_v138 val_main_v137 val_main_v136 val_main_v135 val_main_v134 val_main_v133 val_main_v132 val_main_v81
  generalize val_main_v111 (F := Ideal) xc p ab fc cw g1 wo = X
  generalize val_main_v131 (F := Ideal) xc p ab fc cw g1 ng sc sh wo = H
  pointwise [val_main_call3_v0, val_main_call3_cst]

end Cert.Proof.ConvMlp
end
-- ==== Proof.ConvOut.lean ====
module

public import proofs.«01_k».proof.Defs
public import proofs.«01_k».proof.Proof.Gen.Kernel3Ideal
public import proofs.«01_k».proof.Proof.Gen.Kernel3Ideal.Skeleton
public import proofs.«01_k».proof.Proof.ConvBody
public import proofs.«01_k».proof.Proof.Gen.Kernel3Ideal.Frame
public import Idealize.ShloMosaic.Lib.Pipeline.Value
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.Proof.ConvMlp

open Cert.Kernel3Ideal Cert.Kernel3Ideal.Gen Idealize.ShloMosaic Idealize.ShloMosaic.TcCoe

/-- The MLP and the last residual of a tile, from its residual stream. -/
theorem m_at (v : BitVec 1) (y : FVec Ideal S512x1024 .f32) (xc : Vec Ideal S512x1024 .f32) (xl : Vec Ideal S1x512x1024 .f32)
    (g1 : Vec Ideal S1x1x1024 .f32) (ng : Vec Ideal S1x1024 .f32) (sc sh g2 : Vec Ideal S1x1x1024 .f32) (w1 : Vec Ideal S1024x4096 .bf16)
    (w2 : Vec Ideal S4096x1024 .bf16) (r : Fin 512) (c : Fin 1024) :
    k0_pay1 (F := Ideal) (k0_pay12 (k0_pay9 v y xc xl g1) (k0_pay10 v y xc xl g1 ng sc sh)
        (k0_pay11 v y xc xl g1 ng sc sh (View.ld w1 (Rect.unit ![0, 0] ![1024, 1024] inb_S1024x4096_S1024x1024_0_0))
          (View.ld w2 (Rect.unit ![0, 0] ![1024, 1024] inb_S4096x1024_S1024x1024_0_0)))
        (View.ld w1 (Rect.unit ![0, 1024] ![1024, 1024] inb_S1024x4096_S1024x1024_0_1024))
        (View.ld w2 (Rect.unit ![1024, 0] ![1024, 1024] inb_S4096x1024_S1024x1024_1024_0))
        (View.ld w1 (Rect.unit ![0, 2048] ![1024, 1024] inb_S1024x4096_S1024x1024_0_2048))
        (View.ld w2 (Rect.unit ![2048, 0] ![1024, 1024] inb_S4096x1024_S1024x1024_2048_0))
        (View.ld w1 (Rect.unit ![0, 3072] ![1024, 1024] inb_S1024x4096_S1024x1024_0_3072))
        (View.ld w2 (Rect.unit ![3072, 0] ![1024, 1024] inb_S4096x1024_S1024x1024_3072_0)) g2) (ix3 0 r c)
      = rest (fun k => k0_pay9 (F := Ideal) v y xc xl g1 (ix2 r k)) (fun k => ng (ix2 0 k)) (fun k => sc (ix3 0 0 k)) (fun k => sh (ix3 0 0 k))
          (fun k => g2 (ix3 0 0 k)) (fun k j => w1 (ix2 k j)) (fun j c => w2 (ix2 j c)) c := by
  unfold rest
  rw [OutMlp.sum_quarters]
  simp only [OutMlp.hidden, ← h_at v y xc xl g1 ng sc sh r]
  unfold k0_pay11
  generalize k0_pay10 (F := Ideal) v y xc xl g1 ng sc sh = H
  generalize k0_pay9 (F := Ideal) v y xc xl g1 = X
  pointwise [k0_pay1, k0_pay12]

/-- The output block after the body at grid point `i`, at row `r` and column `k`. -/
theorem out_at (d : Dev nD) (i : grid0.Coords) (arg1 : Memref sig .tc .vmem S1x512x1024 .f32) (harg1 : arg1.IsWhole) (arg2 : Memref sig .tc .vmem S512x1024 .f32) (harg2 : arg2.IsWhole) (arg3 : Memref sig .tc .vmem S1x512x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x512x512 .bf16) (harg6 : arg6.IsWhole) (arg7 : Memref sig .tc .vmem S1x4x128x512 .f32) (harg7 : arg7.IsWhole) (arg8 : Memref sig .tc .vmem S512x512 .f32) (harg8 : arg8.IsWhole) (arg9 : Memref sig .tc .vmem S8x512 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1x1024 .f32) (harg14 : arg14.IsWhole) (arg15 : Memref sig .tc .vmem S1024x1024 .bf16) (harg15 : arg15.IsWhole) (arg16 : Memref sig .tc .vmem S1024x4096 .bf16) (harg16 : arg16.IsWhole) (arg17 : Memref sig .tc .vmem S4096x1024 .bf16) (harg17 : arg17.IsWhole) (arg18 : Memref sig .tc .vmem S1x512x1024 .f32) (harg18 : arg18.IsWhole)
    (x0 : Vec Ideal S1x512x1024 .f32) (x1 : Vec Ideal S512x1024 .f32) (x2 : Vec Ideal S1x512x512 .bf16) (x3 : Vec Ideal S1x16x512 .bf16) (x4 : Vec Ideal S1x16x512 .bf16) (x5 : Vec Ideal S1x512x512 .bf16) (x6 : Vec Ideal S1x4x128x512 .f32) (x7 : Vec Ideal S512x512 .f32) (x8 : Vec Ideal S8x512 .f32) (x9 : Vec Ideal S1x1x1024 .f32) (x10 : Vec Ideal S1x1024 .f32) (x11 : Vec Ideal S1x1x1024 .f32) (x12 : Vec Ideal S1x1x1024 .f32) (x13 : Vec Ideal S1x1x1024 .f32) (x14 : Vec Ideal S1024x1024 .bf16) (x15 : Vec Ideal S1024x4096 .bf16) (x16 : Vec Ideal S4096x1024 .bf16) (r : Fin 512) (c : Fin 1024) :
    out0_A_17 (F := Ideal) d i arg1 harg1 arg2 harg2 arg3 harg3 arg4 harg4 arg5 harg5 arg6 harg6 arg7 harg7 arg8 harg8 arg9 harg9 arg10 harg10
        arg11 harg11 arg12 harg12 arg13 harg13 arg14 harg14 arg15 harg15 arg16 harg16 arg17 harg17 arg18 harg18
        x0 x1 x2 x3 x4 x5 x6 x7 x8 x9 x10 x11 x12 x13 x14 x15 x16 (ix3 0 r c)
      = rest (fun c => (if (i 0).val = 32 then x1 (ix2 r c) else x0 (ix3 0 r c)) + x9 (ix3 0 0 c)
            * mix (fun k => x5 (ix3 0 r k) * (above (i 0).val (fun r => x2 (ix3 0 r k)) (x3 (ix3 0 15 k)) r * x8 (ix2 0 k) + x2 (ix3 0 r k) * x8 (ix2 1 k)
                + below (i 0).val (fun r => x2 (ix3 0 r k)) (x4 (ix3 0 0 k)) r * x8 (ix2 2 k)))
              (fun k => if (i 0).val = 32 then x7 (ix2 r k) else x6 (ix4 0 ⟨r.val / 128, by omega⟩ ⟨r.val % 128, by omega⟩ k))
              (fun k c => x14 (ix2 k c)) c)
          (fun k => x10 (ix2 0 k)) (fun k => x11 (ix3 0 0 k)) (fun k => x12 (ix3 0 0 k)) (fun k => x13 (ix3 0 0 k))
          (fun k j => x15 (ix2 k j)) (fun j c => x16 (ix2 j c)) c := by
  frame_out
  rw [m_at]
  simp only [x1_at]
  refine congrArg (fun X : Fin 1024 → EReal => rest X _ _ _ _ _ _ c) (funext fun c => ?_)
  unfold mix
  refine congrArg₂ (· + ·) rfl (congrArg₂ (· * ·) rfl ((mix_at i x2 x3 x4 x8 x5 x7 x6 _ _ r c).trans
    (congrArg₂ (· + ·) (Finset.sum_congr rfl fun k _ => ?_) (Finset.sum_congr rfl fun k _ => ?_))))
  · refine congrArg₂ (· * ·) rfl ?_
    pointwise []
  · refine congrArg₂ (· * ·) rfl ?_
    pointwise []

end Cert.Proof.ConvMlp
end
-- ==== Proof.ConvFinal.lean ====
module

public import proofs.«01_k».proof.Defs
public import proofs.«01_k».proof.Proof.Gen.Kernel3Ideal
public import proofs.«01_k».proof.Proof.Gen.Kernel3Ideal.Skeleton
public import proofs.«01_k».proof.Proof.ConvOut
public import proofs.«01_k».proof.Proof.Gen.Kernel3Ideal.Value
public import proofs.«01_k».proof.Proof.Gen.Kernel3Ideal.Frame
public import Idealize.ShloMosaic.Lib.Pipeline.Value
public import Idealize.ShloMosaic.Lib.Pipeline.ValueKit
public import Idealize.ShloMosaic.Lib.Pointwise
public import Idealize.ShloMosaic.Lib.ValueIdx
public import Idealize.ShloMosaic.Lib.KernelVsHost

@[expose] public section

set_option maxRecDepth 16384

noncomputable section

namespace Cert.Proof.ConvMlp

open Cert.Kernel3Ideal Cert.Kernel3Ideal.Gen Idealize.ShloMosaic Idealize.ShloMosaic.TcCoe

/-- The index maps over the 33 points. -/
theorem idx : ∀ t : Fin cfg0.N, win0_0.index t = ![min t.val 31, 0, 0] ∧ win0_1.index t = ![0, 0] ∧ win0_2.index t = ![t.val, 0, 0]
    ∧ win0_3.index t = ![t.val * 32 - 1, 0, 0] ∧ win0_4.index t = ![min ((t.val + 1) * 32) 1055, 0, 0] ∧ win0_5.index t = ![t.val, 0, 0]
    ∧ win0_6.index t = ![min t.val 31 / 16, min t.val 31 % 16, 0, 0] ∧ win0_7.index t = ![0, 0] ∧ win0_8.index t = ![0, 0]
    ∧ win0_9.index t = ![t.val / 16, 0, 0] ∧ win0_10.index t = ![0, 0] ∧ win0_11.index t = ![t.val / 16, 0, 0] ∧ win0_12.index t = ![t.val / 16, 0, 0]
    ∧ win0_13.index t = ![t.val / 16, 0, 0] ∧ win0_14.index t = ![0, 0] ∧ win0_15.index t = ![0, 0] ∧ win0_16.index t = ![0, 0]
    ∧ win0_17.index t = ![t.val, 0, 0] := by decide +kernel

theorem coord : ∀ t : Fin cfg0.N, (grid0.coords t 0).val = t.val := by decide +kernel

variable (m : (ℓ : Loc nD τ sig) → Buf (Elt Ideal) ℓ)

/-- The halo windows' array is the gated array in blocks of sixteen rows. -/
theorem halo_eq (c : Dev nD) : (V m c main_v0 : Vec Ideal S1056x16x512 .bf16)
    = shapeCast S1056x16x512 (m (c, main_arg2) : Vec Ideal S33x512x512 .bf16) shapeCasts_S33x512x512_S1056x16x512 := rfl

/-- One element of an array in blocks of sixteen rows. -/
theorem blocks_at (X : Vec Ideal S33x512x512 .bf16) (s : Fin 1056) (u : Fin 16) (k : Fin 512) :
    shapeCast S1056x16x512 X shapeCasts_S33x512x512_S1056x16x512 (ix3 s u k) = X (ix3 ⟨s.val / 32, by omega⟩ ⟨s.val % 32 * 16 + u.val, by omega⟩ k) := by
  refine shapeCast_apply X shapeCasts_S33x512x512_S1056x16x512 (ix3 s u k) (ix3 ⟨s.val / 32, by omega⟩ ⟨s.val % 32 * 16 + u.val, by omega⟩ k) ?_
  rw [Shape.rowMajor_val_three, Shape.rowMajor_val_three]
  show (s.val / 32 * 512 + (s.val % 32 * 16 + u.val)) * 512 + k.val = (s.val * 16 + u.val) * 512 + k.val
  omega

/-- One element of the halo windows' array. -/
theorem halo_at (c : Dev nD) (s : Fin 1056) (u : Fin 16) (k : Fin 512) : (V m c main_v0 : Vec Ideal S1056x16x512 .bf16) (ix3 s u k)
    = (m ((c : Thread nD τ).loc main_arg2) : Vec Ideal S33x512x512 .bf16) (ix3 ⟨s.val / 32, by omega⟩ ⟨s.val % 32 * 16 + u.val, by omega⟩ k) :=
  (congrFun (halo_eq m c) _).trans (blocks_at _ s u k)

variable (c : Dev nD) (t : Fin cfg0.N)

theorem b0 (r : Fin 512) (k : Fin 1024) : iblk m c 0 t (ix3 0 r k) = m ((c : Thread nD τ).loc main_arg0) (ix3 ⟨min t.val 31, by omega⟩ r k) := by
  have hi := (idx t).1
  unfold iblk
  rw [show V m c (Pipeline.arrRef spec0 0) = m ((c : Thread nD τ).loc main_arg0) from V_main_arg0 m c]
  blk_ext [hi]

theorem b1 (r : Fin 512) (k : Fin 1024) : iblk m c 1 t (ix2 r k) = m ((c : Thread nD τ).loc main_arg1) (ix2 r k) := by
  have hi := (idx t).2.1
  unfold iblk
  rw [show V m c (Pipeline.arrRef spec0 1) = m ((c : Thread nD τ).loc main_arg1) from V_main_arg1 m c]
  blk_ext [hi]

theorem b2 (r k : Fin 512) : iblk m c 2 t (ix3 0 r k) = m ((c : Thread nD τ).loc main_arg2) (ix3 ⟨t.val, t.isLt⟩ r k) := by
  have hi := (idx t).2.2.1
  unfold iblk
  rw [show V m c (Pipeline.arrRef spec0 2) = m ((c : Thread nD τ).loc main_arg2) from V_main_arg2 m c]
  blk_ext [hi]

theorem b5 (r k : Fin 512) : iblk m c 5 t (ix3 0 r k) = m ((c : Thread nD τ).loc main_arg3) (ix3 ⟨t.val, t.isLt⟩ r k) := by
  have hi := (idx t).2.2.2.2.2.1
  unfold iblk
  rw [show V m c (Pipeline.arrRef spec0 5) = m ((c : Thread nD τ).loc main_arg3) from V_main_arg3 m c]
  blk_ext [hi]

theorem b7 (r k : Fin 512) : iblk m c 7 t (ix2 r k) = m ((c : Thread nD τ).loc main_arg5) (ix2 r k) := by
  have hi := (idx t).2.2.2.2.2.2.2.1
  unfold iblk
  rw [show V m c (Pipeline.arrRef spec0 7) = m ((c : Thread nD τ).loc main_arg5) from V_main_arg5 m c]
  blk_ext [hi]

theorem b8 (r : Fin 8) (k : Fin 512) : iblk m c 8 t (ix2 r k) = m ((c : Thread nD τ).loc main_arg6) (ix2 r k) := by
  have hi := (idx t).2.2.2.2.2.2.2.2.1
  unfold iblk
  rw [show V m c (Pipeline.arrRef spec0 8) = m ((c : Thread nD τ).loc main_arg6) from V_main_arg6 m c]
  blk_ext [hi]

theorem b9 (k : Fin 1024) : iblk m c 9 t (ix3 0 0 k) = m ((c : Thread nD τ).loc main_arg7) (ix3 ⟨t.val / 16, by have : t.val < 33 := t.isLt; omega⟩ 0 k) := by
  have hi := (idx t).2.2.2.2.2.2.2.2.2.1
  unfold iblk
  rw [show V m c (Pipeline.arrRef spec0 9) = m ((c : Thread nD τ).loc main_arg7) from V_main_arg7 m c]
  blk_ext [hi]

theorem b11 (k : Fin 1024) : iblk m c 11 t (ix3 0 0 k) = m ((c : Thread nD τ).loc main_arg9) (ix3 ⟨t.val / 16, by have : t.val < 33 := t.isLt; omega⟩ 0 k) := by
  have hi := (idx t).2.2.2.2.2.2.2.2.2.2.2.1
  unfold iblk
  rw [show V m c (Pipeline.arrRef spec0 11) = m ((c : Thread nD τ).loc main_arg9) from V_main_arg9 m c]
  blk_ext [hi]

theorem b12 (k : Fin 1024) : iblk m c 12 t (ix3 0 0 k) = m ((c : Thread nD τ).loc main_arg10) (ix3 ⟨t.val / 16, by have : t.val < 33 := t.isLt; omega⟩ 0 k) := by
  have hi := (idx t).2.2.2.2.2.2.2.2.2.2.2.2.1
  unfold iblk
  rw [show V m c (Pipeline.arrRef spec0 12) = m ((c : Thread nD τ).loc main_arg10) from V_main_arg10 m c]
  blk_ext [hi]

theorem b13 (k : Fin 1024) : iblk m c 13 t (ix3 0 0 k) = m ((c : Thread nD τ).loc main_arg11) (ix3 ⟨t.val / 16, by have : t.val < 33 := t.isLt; omega⟩ 0 k) := by
  have hi := (idx t).2.2.2.2.2.2.2.2.2.2.2.2.2.1
  unfold iblk
  rw [show V m c (Pipeline.arrRef spec0 13) = m ((c : Thread nD τ).loc main_arg11) from V_main_arg11 m c]
  blk_ext [hi]

theorem b10 (k : Fin 1024) : iblk m c 10 t (ix2 0 k) = m ((c : Thread nD τ).loc main_arg8) (ix2 0 k) := by
  have hi := (idx t).2.2.2.2.2.2.2.2.2.2.1
  unfold iblk
  rw [show V m c (Pipeline.arrRef spec0 10) = m ((c : Thread nD τ).loc main_arg8) from V_main_arg8 m c]
  blk_ext [hi]

theorem b14 (k j : Fin 1024) : iblk m c 14 t (ix2 k j) = m ((c : Thread nD τ).loc main_arg12) (ix2 k j) := by
  have hi := (idx t).2.2.2.2.2.2.2.2.2.2.2.2.2.2.1
  unfold iblk
  rw [show V m c (Pipeline.arrRef spec0 14) = m ((c : Thread nD τ).loc main_arg12) from V_main_arg12 m c]
  blk_ext [hi]

theorem b15 (k : Fin 1024) (j : Fin 4096) : iblk m c 15 t (ix2 k j) = m ((c : Thread nD τ).loc main_arg13) (ix2 k j) := by
  have hi := (idx t).2.2.2.2.2.2.2.2.2.2.2.2.2.2.2.1
  unfold iblk
  rw [show V m c (Pipeline.arrRef spec0 15) = m ((c : Thread nD τ).loc main_arg13) from V_main_arg13 m c]
  blk_ext [hi]

theorem b16 (k : Fin 4096) (j : Fin 1024) : iblk m c 16 t (ix2 k j) = m ((c : Thread nD τ).loc main_arg14) (ix2 k j) := by
  have hi := (idx t).2.2.2.2.2.2.2.2.2.2.2.2.2.2.2.2.1
  unfold iblk
  rw [show V m c (Pipeline.arrRef spec0 16) = m ((c : Thread nD τ).loc main_arg14) from V_main_arg14 m c]
  blk_ext [hi]

theorem b3 (k : Fin 512) : iblk m c 3 t (ix3 0 15 k) = m ((c : Thread nD τ).loc main_arg2)
    (ix3 ⟨(t.val * 32 - 1) / 32, by have : t.val < 33 := t.isLt; omega⟩ ⟨(t.val * 32 - 1) % 32 * 16 + 15, by omega⟩ k) := by
  have hi := (idx t).2.2.2.1
  have ht : t.val < 33 := t.isLt
  have e : iblk m c 3 t (ix3 0 15 k) = (V m c main_v0 : Vec Ideal S1056x16x512 .bf16) (ix3 ⟨(t.val * 32 - 1), by omega⟩ 15 k) := by
    show ((cfg0.win 3).blk t).view.read (Elt Ideal) (V m c main_v0) (ix3 0 15 k) = _
    generalize V m c main_v0 = X
    blk_ext [hi]
  rw [e, halo_at]
  rfl

theorem b4 (k : Fin 512) : iblk m c 4 t (ix3 0 0 k) = m ((c : Thread nD τ).loc main_arg2)
    (ix3 ⟨min ((t.val + 1) * 32) 1055 / 32, by have : t.val < 33 := t.isLt; omega⟩ ⟨min ((t.val + 1) * 32) 1055 % 32 * 16, by omega⟩ k) := by
  have hi := (idx t).2.2.2.2.1
  have ht : t.val < 33 := t.isLt
  have e : iblk m c 4 t (ix3 0 0 k) = (V m c main_v0 : Vec Ideal S1056x16x512 .bf16) (ix3 ⟨min ((t.val + 1) * 32) 1055, by omega⟩ 0 k) := by
    show ((cfg0.win 4).blk t).view.read (Elt Ideal) (V m c main_v0) (ix3 0 0 k) = _
    generalize V m c main_v0 = X
    blk_ext [hi]
  rw [e, halo_at]
  rfl

theorem b6 (u : Fin 4) (w : Fin 128) (k : Fin 512) : X0_6 m c t (ix4 0 u w k) = m ((c : Thread nD τ).loc main_arg4)
    (ix4 ⟨min t.val 31 / 16, by omega⟩ ⟨min t.val 31 % 16 * 4 + u.val, by omega⟩ ⟨w.val, by omega⟩ k) := by
  have hi := (idx t).2.2.2.2.2.2.1
  unfold X0_6 Pipeline.Window.fill
  rw [dif_pos (moved0_6 t _)]
  unfold iblk
  rw [show V m c (Pipeline.arrRef spec0 6) = m ((c : Thread nD τ).loc main_arg4) from V_main_arg4 m c]
  blk_ext [hi]

/-- The kernel's result array after the run. -/
theorem final : (dats m 0 c).arrAt 17 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 17 _ (by decide +kernel) fun t hf y => ?_
  have hi := (idx t).2.2.2.2.2.2.2.2.2.2.2.2.2.2.2.2.2
  have ht : t.val < 33 := t.isLt
  blk_simp
  rw [after0_17]
  idx_vars y
  obtain rfl : y0 = 0 := Subsingleton.elim _ _
  have he : ((View.whole main_v1).slice (win0_17.rect t)).emb (ix3 0 y1 y2) = (ix3 (⟨t.val, ht⟩ : Fin 33) y1 y2 : S33x512x1024.Idx) := by blk_ext [hi]
  unfold outsAt0
  rw [out_at]
  simp only [coord, b0, b1, b2, b3, b4, b5, b6, b7, b8, b9, b10, b11, b12, b13, b14, b15, b16]
  rw [he]
  rfl

end Cert.Proof.ConvMlp
end
-- ==== Proof.ConvMlp.lean ====
module

public import proofs.«01_k».proof.Defs
public import proofs.«01_k».proof.Proof.Gen.Kernel3Ideal
public import proofs.«01_k».proof.Proof.ConvRef
public import proofs.«01_k».proof.Proof.ConvFinal
public import Idealize.ShloMosaic.Lib.Claim
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.ValueIdx
public import Idealize.ShloMosaic.Lib.KernelVsHost

@[expose] public section

set_option maxRecDepth 16384

noncomputable section

namespace Cert.Proof.ConvMlp

open Cert.Reference3Ideal Cert.Reference3Ideal.Read Idealize.ShloMosaic Idealize.ShloMosaic.TcCoe Idealize.SL.Sem

/-! ## The rows above and below -/

variable (p : Vec Ideal S33x512x512 .bf16)

theorem lat_above (t : Fin 33) (ht : t.val < 32) (r k : Fin 512) :
    val_main_v13 (F := Ideal) p (ix3 ⟨t.val / 16, by omega⟩ ⟨t.val % 16 * 512 + r.val, by omega⟩ k)
      = above t.val (fun r => p (ix3 t r k)) (p (ix3 ⟨(t.val * 32 - 1) / 32, by omega⟩ ⟨(t.val * 32 - 1) % 32 * 16 + 15, by omega⟩ k)) r := by
  rw [ref_pad]
  unfold above
  rw [if_neg (by omega)]
  by_cases hr : r.val = 0
  · rw [if_pos hr]
    by_cases h0 : t.val % 16 = 0
    · rw [if_pos h0]
      exact dif_neg (by show ¬(1 ≤ t.val % 16 * 512 + r.val ∧ _); omega)
    · rw [if_neg h0]
      refine (dif_pos (by show 1 ≤ t.val % 16 * 512 + r.val ∧ t.val % 16 * 512 + r.val ≤ 8192; omega)).trans ?_
      exact congrArg₂ (fun a b => p (ix3 a b k)) (Fin.ext (by show t.val / 16 * 16 + (t.val % 16 * 512 + r.val - 1) / 512 = (t.val * 32 - 1) / 32; omega))
        (Fin.ext (by show (t.val % 16 * 512 + r.val - 1) % 512 = (t.val * 32 - 1) % 32 * 16 + 15; omega))
  · rw [if_neg hr]
    refine (dif_pos (by show 1 ≤ t.val % 16 * 512 + r.val ∧ t.val % 16 * 512 + r.val ≤ 8192; omega)).trans ?_
    exact congrArg₂ (fun a b => p (ix3 a b k)) (Fin.ext (by show t.val / 16 * 16 + (t.val % 16 * 512 + r.val - 1) / 512 = t.val; omega))
      (Fin.ext (by show (t.val % 16 * 512 + r.val - 1) % 512 = (r.val + 512 - 1) % 512; omega))

theorem lat_mid (t : Fin 33) (ht : t.val < 32) (r k : Fin 512) :
    val_main_v13 (F := Ideal) p (ix3 ⟨t.val / 16, by omega⟩ ⟨t.val % 16 * 512 + r.val + 1, by omega⟩ k) = p (ix3 t r k) := by
  rw [ref_pad]
  refine (dif_pos (by show 1 ≤ t.val % 16 * 512 + r.val + 1 ∧ t.val % 16 * 512 + r.val + 1 ≤ 8192; omega)).trans ?_
  exact congrArg₂ (fun a b => p (ix3 a b k)) (Fin.ext (by show t.val / 16 * 16 + (t.val % 16 * 512 + r.val + 1 - 1) / 512 = t.val; omega))
    (Fin.ext (by show (t.val % 16 * 512 + r.val + 1 - 1) % 512 = r.val; omega))

theorem lat_below (t : Fin 33) (ht : t.val < 32) (r k : Fin 512) :
    val_main_v13 (F := Ideal) p (ix3 ⟨t.val / 16, by omega⟩ ⟨t.val % 16 * 512 + r.val + 2, by omega⟩ k)
      = below t.val (fun r => p (ix3 t r k))
          (p (ix3 ⟨min ((t.val + 1) * 32) 1055 / 32, by omega⟩ ⟨min ((t.val + 1) * 32) 1055 % 32 * 16, by omega⟩ k)) r := by
  rw [ref_pad]
  unfold below
  rw [if_neg (by omega)]
  by_cases hr : r.val = 511
  · rw [if_pos hr]
    by_cases h0 : t.val % 16 = 15
    · rw [if_pos (Or.inl h0)]
      exact dif_neg (by show ¬(_ ∧ t.val % 16 * 512 + r.val + 2 ≤ 8192); omega)
    · rw [if_neg (by omega)]
      refine (dif_pos (by show 1 ≤ t.val % 16 * 512 + r.val + 2 ∧ t.val % 16 * 512 + r.val + 2 ≤ 8192; omega)).trans ?_
      exact congrArg₂ (fun a b => p (ix3 a b k))
        (Fin.ext (by show t.val / 16 * 16 + (t.val % 16 * 512 + r.val + 2 - 1) / 512 = min ((t.val + 1) * 32) 1055 / 32; omega))
        (Fin.ext (by show (t.val % 16 * 512 + r.val + 2 - 1) % 512 = min ((t.val + 1) * 32) 1055 % 32 * 16; omega))
  · rw [if_neg hr]
    refine (dif_pos (by show 1 ≤ t.val % 16 * 512 + r.val + 2 ∧ t.val % 16 * 512 + r.val + 2 ≤ 8192; omega)).trans ?_
    exact congrArg₂ (fun a b => p (ix3 a b k)) (Fin.ext (by show t.val / 16 * 16 + (t.val % 16 * 512 + r.val + 2 - 1) / 512 = t.val; omega))
      (Fin.ext (by show (t.val % 16 * 512 + r.val + 2 - 1) % 512 = (r.val + 512 - 511) % 512; omega))

theorem con_above (t : Fin 33) (ht : t.val = 32) (q : EReal) (r k : Fin 512) : val_main_v84 (F := Ideal) p (ix3 ⟨r.val / 256, by omega⟩ ⟨r.val % 256, by omega⟩ k)
    = above t.val (fun r => p (ix3 t r k)) q r := by
  obtain rfl : t = 32 := Fin.ext ht
  rw [ctx_pad]
  unfold above
  by_cases h0 : r.val % 256 = 0
  · rw [if_pos ⟨rfl, h0⟩]
    exact dif_neg (by show ¬(1 ≤ r.val % 256 ∧ _); omega)
  · rw [if_neg (by omega), if_neg (by omega)]
    refine (dif_pos (by show 1 ≤ r.val % 256 ∧ r.val % 256 ≤ 256; omega)).trans ?_
    exact congrArg (fun b => p (ix3 32 b k)) (Fin.ext (by show r.val / 256 * 256 + (r.val % 256 - 1) = (r.val + 512 - 1) % 512; omega))

theorem con_mid (r k : Fin 512) : val_main_v84 (F := Ideal) p (ix3 ⟨r.val / 256, by omega⟩ ⟨r.val % 256 + 1, by omega⟩ k) = p (ix3 32 r k) := by
  rw [ctx_pad]
  refine (dif_pos (by show 1 ≤ r.val % 256 + 1 ∧ r.val % 256 + 1 ≤ 256; omega)).trans ?_
  exact congrArg (fun b => p (ix3 32 b k)) (Fin.ext (by show r.val / 256 * 256 + (r.val % 256 + 1 - 1) = r.val; omega))

theorem con_below (t : Fin 33) (ht : t.val = 32) (q : EReal) (r k : Fin 512) : val_main_v84 (F := Ideal) p (ix3 ⟨r.val / 256, by omega⟩ ⟨r.val % 256 + 2, by omega⟩ k)
    = below t.val (fun r => p (ix3 t r k)) q r := by
  obtain rfl : t = 32 := Fin.ext ht
  rw [ctx_pad]
  unfold below
  by_cases h0 : r.val % 256 = 255
  · rw [if_pos ⟨rfl, h0⟩]
    exact dif_neg (by show ¬(_ ∧ r.val % 256 + 2 ≤ 256); omega)
  · rw [if_neg (by omega), if_neg (by omega)]
    refine (dif_pos (by show 1 ≤ r.val % 256 + 2 ∧ r.val % 256 + 2 ≤ 256; omega)).trans ?_
    exact congrArg (fun b => p (ix3 32 b k)) (Fin.ext (by show r.val / 256 * 256 + (r.val % 256 + 2 - 1) = (r.val + 512 - 511) % 512; omega))

/-! ## The whole result -/

variable (x : Vec Ideal S32x512x1024 .f32) (xc : Vec Ideal S512x1024 .f32) (ab : Vec Ideal S33x512x512 .bf16) (fl : Vec Ideal S2x64x136x512 .f32)
    (fc : Vec Ideal S512x512 .f32) (cw : Vec Ideal S8x512 .f32) (g1 : Vec Ideal S8x1x1024 .f32) (ng : Vec Ideal S1x1024 .f32)
    (sc sh g2 : Vec Ideal S8x1x1024 .f32) (wo : Vec Ideal S1024x1024 .bf16) (w1 : Vec Ideal S1024x4096 .bf16) (w2 : Vec Ideal S4096x1024 .bf16)

/-- The result array: the latent tiles, then the contexts' tile. -/
theorem ref_at (t : Fin 33) (r : Fin 512) (c : Fin 1024) :
    val_main_v143 (F := Ideal) x xc p ab fl fc cw g1 ng sc sh g2 wo w1 w2 (ix3 t r c)
      = if h : t.val < 32 then val_main_v69 (F := Ideal) x p ab fl cw g1 ng sc sh g2 wo w1 w2 (ix3 ⟨t.val / 16, by omega⟩ ⟨t.val % 16 * 512 + r.val, by omega⟩ c)
        else val_main_v140 (F := Ideal) xc p ab fc cw g1 ng sc sh g2 wo w1 w2 (ix3 ⟨r.val / 256, by omega⟩ ⟨r.val % 256, by omega⟩ c) := by
  unfold val_main_v143 val_main_v142 val_main_v141
  generalize val_main_v69 (F := Ideal) x p ab fl cw g1 ng sc sh g2 wo w1 w2 = A
  generalize val_main_v140 (F := Ideal) xc p ab fc cw g1 ng sc sh g2 wo w1 w2 = B
  pointwise []

theorem ref_lat (t : Fin 33) (ht : t.val < 32) (r : Fin 512) (c : Fin 1024) :
    val_main_v69 (F := Ideal) x p ab fl cw g1 ng sc sh g2 wo w1 w2 (ix3 ⟨t.val / 16, by omega⟩ ⟨t.val % 16 * 512 + r.val, by omega⟩ c)
      = lay x xc p ab fl fc cw g1 ng sc sh g2 wo w1 w2 t r c := by
  have e1 : t.val / 16 * 16 + (t.val % 16 * 512 + r.val) / 512 = t.val := by omega
  have e2 : (t.val % 16 * 512 + r.val) % 512 = r.val := by omega
  have e3 : (t.val % 16 * 512 + r.val) / 128 = t.val % 16 * 4 + r.val / 128 := by omega
  have e4 : (t.val % 16 * 512 + r.val) % 128 = r.val % 128 := by omega
  have e5 : min t.val 31 = t.val := by omega
  have hc : ¬t.val = 32 := by omega
  rw [ref_out]
  unfold lay
  simp only [ref_resid, ref_mix, ref_gate, lat_above p t ht, lat_mid p t ht, lat_below p t ht, e1, e2, e3, e4, e5, hc, if_false]

theorem ref_con (t : Fin 33) (ht : t.val = 32) (r : Fin 512) (c : Fin 1024) :
    val_main_v140 (F := Ideal) xc p ab fc cw g1 ng sc sh g2 wo w1 w2 (ix3 ⟨r.val / 256, by omega⟩ ⟨r.val % 256, by omega⟩ c)
      = lay x xc p ab fl fc cw g1 ng sc sh g2 wo w1 w2 t r c := by
  have e1 : r.val / 256 * 256 + r.val % 256 = r.val := by omega
  have ha : ∀ k, _ := fun k => con_above p t ht (p (ix3 ⟨(t.val * 32 - 1) / 32, by omega⟩ ⟨(t.val * 32 - 1) % 32 * 16 + 15, by omega⟩ k)) r k
  have hb : ∀ k, _ := fun k => con_below p t ht (p (ix3 ⟨min ((t.val + 1) * 32) 1055 / 32, by omega⟩ ⟨min ((t.val + 1) * 32) 1055 % 32 * 16, by omega⟩ k)) r k
  rw [ctx_out]
  unfold lay
  simp only [ctx_resid, ctx_mix, ctx_gate, ha, hb, con_mid p, e1]
  obtain rfl : t = 32 := Fin.ext ht
  rfl

/-- The reference's result is the kernel's. -/
theorem ref_eq : val_main_v143 (F := Ideal) x xc p ab fl fc cw g1 ng sc sh g2 wo w1 w2 = G x xc p ab fl fc cw g1 ng sc sh g2 wo w1 w2 := by
  funext i
  idx_vars i
  rw [ref_at]
  by_cases h : i0.val < 32
  · exact (dif_pos h).trans (ref_lat p x xc ab fl fc cw g1 ng sc sh g2 wo w1 w2 i0 h i1 i2)
  · exact (dif_neg h).trans (ref_con p x xc ab fl fc cw g1 ng sc sh g2 wo w1 w2 i0 (by omega) i1 i2)

/-- The algebraic claim of the call. -/
theorem algebraic : Cert.algebraic_Kernel3Ideal_Reference3Ideal := by
  intro m g m' g' _ hm
  refine ⟨fun c => (Kernel3Ideal.Gen.dats m 0 c).arrAt 17 Kernel3Ideal.cfg0.N, Kernel3Ideal.Value.run_blocks m g,
    (θ_run _ _ _).mono (fun r h c => ?_) (Reference3Ideal.Value.run m' g')⟩
  obtain ⟨h0, h1, h2, h3, h4, h5, h6, h7, h8, h9, h10, h11, h12, h13, h14⟩ := hm c
  refine ⟨(h c).1.trans ?_, (h c).2⟩
  refine Eq.trans ?_ (final m c).symm
  rw [Reference3Ideal.Read.val_main_v143_eq, ref_eq, h0, h1, h2, h3, h4, h5, h6, h7, h8, h9, h10, h11, h12, h13, h14]

end Cert.Proof.ConvMlp
end
-- ==== Proof.Ada.lean ====
module

public import proofs.«01_k».proof.Defs
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.ValueIdx
public import Idealize.ShloMosaic.Lib.Pipeline.Value
public import Idealize.ShloMosaic.Lib.Pipeline.ValueKit
public import Idealize.ShloMosaic.Lib.Claim

@[expose] public section

set_option maxRecDepth 16384

noncomputable section

namespace Cert.Proof.Ada

open Cert.Kernel4Ideal Cert.Kernel4Ideal.Gen Idealize.ShloMosaic Idealize.ShloMosaic.TcCoe Idealize.SL.Sem

/-- One gated conditioning entry, as the kernel divides. -/
def gate (x : EReal) : EReal := Ideal.div x (1 + Ideal.exp (0 - x))

/-- One modulation entry: the gated conditioning row against a weight column, plus the bias. -/
def row (x w : Fin 1024 → EReal) (b : EReal) : EReal := ∑ k : Fin 1024, gate (x k) * w k + b

/-- The output block after the body, at row `r` and column `j`. -/
theorem out_at (x : Vec Ideal S8x1024 .f32) (w : Vec Ideal S1x1024x1536 .f32) (b : Vec Ideal S1x1x1536 .f32) (r : Fin 8) (j : Fin 1536) :
    out0_3 (F := Ideal) x w b (ix3 0 r j) = row (fun k => x (ix2 r k)) (fun k => w (ix3 0 k j)) (b (ix3 0 0 j)) := by
  have z2 : (![0, 0] : Fin 2 → Nat) = fun _ => 0 := funext fun a => by fin_cases a <;> rfl
  have z3 : (![0, 0, 0] : Fin 3 → Nat) = fun _ => 0 := funext fun a => by fin_cases a <;> rfl
  have e0 : ∀ {T} (x : Vec Ideal S8x1024 T), View.ld x r0_0 = x := fun x => View.ld_unit_zero z2 _ x
  have e1 : ∀ {T} (x : Vec Ideal S1x1024x1536 T), View.ld x r0_1 = x := fun x => View.ld_unit_zero z3 _ x
  have e2 : ∀ {T} (x : Vec Ideal S1x1x1536 T), View.ld x r0_2 = x := fun x => View.ld_unit_zero z3 _ x
  unfold out0_3
  rw [View.canon_unit_zero z3, e0, e1, e2]
  pointwise [k0_pay1]
  rfl

/-- The modulation rows of both layers. -/
def G (x : Vec Ideal S8x1024 .f32) (w : Vec Ideal S2x1024x6144 .f32) (b : Vec Ideal S2x6144 .f32) : Vec Ideal S2x8x6144 .f32 := fun i =>
  let l : Fin 2 := i 0
  let r : Fin 8 := i 1
  let j : Fin 6144 := i 2
  row (fun k => x (ix2 r k)) (fun k => w (ix3 l k j)) (b (ix2 l j))

/-- The index maps: point `t` is layer `t / 4` and column block `t % 4`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] := by decide +kernel

variable (m : (ℓ : Loc nD τ sig) → Buf (Elt Ideal) ℓ)

/-- The bias window's array is the bias with a middle axis of one. -/
theorem bias_eq (c : Dev nD) : (V m c main_v0 : Vec Ideal S2x1x6144 .f32)
    = shapeCast S2x1x6144 (m (c, main_arg2) : Vec Ideal S2x6144 .f32) shapeCasts_S2x6144_S2x1x6144 := rfl

/-- One element of the bias with a middle axis. -/
theorem bias_at (b : Vec Ideal S2x6144 .f32) (l : Fin 2) (j : Fin 6144) :
    shapeCast S2x1x6144 b shapeCasts_S2x6144_S2x1x6144 (ix3 l 0 j) = b (ix2 l j) := by
  refine shapeCast_apply b shapeCasts_S2x6144_S2x1x6144 (ix3 l 0 j) (ix2 l j) ?_
  rw [Shape.rowMajor_val_three, Shape.rowMajor_val_two]
  show l.val * 6144 + j.val = (l.val * 1 + 0) * 6144 + j.val
  omega

/-- The kernel's result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i0, i1, i2, i3⟩ := idx t
  blk_simp
  rw [after0_3]
  idx_vars y
  obtain rfl : y0 = 0 := Subsingleton.elim _ _
  have ht : t.val < 8 := t.isLt
  have h0 : ∀ k, iblk m c 0 t (ix2 y1 k) = m ((c : Thread nD τ).loc main_arg0) (ix2 y1 k) := fun k => by
    unfold iblk
    rw [show V m c (Pipeline.arrRef spec0 0) = m ((c : Thread nD τ).loc main_arg0) from V_main_arg0 m c]
    blk_ext [i0]
  have h1 : ∀ k, iblk m c 1 t (ix3 0 k y2) = m ((c : Thread nD τ).loc main_arg1) (ix3 ⟨t.val / 4, by omega⟩ k ⟨t.val % 4 * 1536 + y2.val, by omega⟩) := fun k => by
    unfold iblk
    rw [show V m c (Pipeline.arrRef spec0 1) = m ((c : Thread nD τ).loc main_arg1) from V_main_arg1 m c]
    blk_ext [i1]
  have h2 : iblk m c 2 t (ix3 0 0 y2) = m ((c : Thread nD τ).loc main_arg2) (ix2 ⟨t.val / 4, by omega⟩ ⟨t.val % 4 * 1536 + y2.val, by omega⟩) := by
    have e : iblk m c 2 t (ix3 0 0 y2) = (V m c main_v0 : Vec Ideal S2x1x6144 .f32) (ix3 ⟨t.val / 4, by omega⟩ 0 ⟨t.val % 4 * 1536 + y2.val, by omega⟩) := by
      show ((cfg0.win 2).blk t).view.read (Elt Ideal) (V m c main_v0) (ix3 0 0 y2) = _
      generalize V m c main_v0 = X
      blk_ext [i2]
    rw [e]
    exact (congrFun (bias_eq m c) _).trans (bias_at _ _ _)
  have he : ((View.whole main_v1).slice (win0_3.rect t)).emb (ix3 0 y1 y2)
      = (ix3 (⟨t.val / 4, by omega⟩ : Fin 2) y1 (⟨t.val % 4 * 1536 + y2.val, by omega⟩ : Fin 6144) : S2x8x6144.Idx) := by blk_ext [i3]
  rw [out_at]
  simp only [h0, h1, h2]
  rw [he]
  rfl

end Cert.Proof.Ada

namespace Cert.Proof.Ada

open Cert.Reference4Ideal Cert.Reference4Ideal.Read Idealize.ShloMosaic

variable (x : Vec Ideal S8x1024 .f32) (w : Vec Ideal S2x1024x6144 .f32) (b : Vec Ideal S2x6144 .f32)

/-- The gate's denominator is not zero: an exponential is not negative. -/
theorem den_ne (z : EReal) : (1 + Ideal.exp z : EReal) ≠ 0 := by
  have h : (0 : EReal) ≤ Ideal.exp z := by
    induction z with
    | bot => simp
    | top => simp
    | coe r =>
      rw [Ideal.exp_coe]
      exact_mod_cast (Real.exp_pos r).le
  exact (lt_of_lt_of_le zero_lt_one (le_add_of_nonneg_right h)).ne'

/-- The reference's gate multiplies by a reciprocal where the kernel divides. -/
theorem gate_eq (x : EReal) : x * Ideal.div 1 (1 + Ideal.exp (-x)) = gate x := by
  unfold gate Ideal.div
  rw [zero_sub, if_neg (den_ne _), if_neg (den_ne _), one_mul]

/-- The gated conditioning rows. -/
theorem ref_gate (r : Fin 8) (k : Fin 1024) : val_main_v0 (F := Ideal) x (ix2 r k) = gate (x (ix2 r k)) := by
  rw [← gate_eq]
  pointwise [val_main_v0, val_main_call0_v5, val_main_call0_v4, val_main_call0_v3, val_main_call0_v2, val_main_call0_v1, val_main_call0_v0, val_main_call0_cst, val_main_call0_cst_0]

/-- The first layer's rows. -/
theorem ref0 (r : Fin 8) (j : Fin 6144) : val_main_v17 (F := Ideal) x w b (ix3 0 r j) = G x w b (ix3 0 r j) := by
  unfold val_main_v17 val_main_v8 val_main_v7 val_main_v6 val_main_v5 val_main_v4 val_main_v3 val_main_v2 val_main_v1
  have hg := ref_gate x
  generalize val_main_v0 (F := Ideal) x = X at hg
  pointwise []
  simp only [hg]
  rfl

/-- The second layer's rows. -/
theorem ref1 (r : Fin 8) (j : Fin 6144) : val_main_v18 (F := Ideal) x w b (ix3 0 r j) = G x w b (ix3 1 r j) := by
  unfold val_main_v18 val_main_v16 val_main_v15 val_main_v14 val_main_v13 val_main_v12 val_main_v11 val_main_v10 val_main_v9
  have hg := ref_gate x
  generalize val_main_v0 (F := Ideal) x = X at hg
  pointwise []
  simp only [hg]
  rfl

/-- The reference's result is the kernel's. -/
theorem ref_eq : val_main_v19 (F := Ideal) x w b = G x w b := by
  funext i
  idx_vars i
  unfold val_main_v19
  have hl : i0 = 0 ∨ i0 = 1 := by omega
  rcases hl with rfl | rfl
  · rw [← ref0]
    refine concatenate_pair_apply_left (t := S2x8x6144) (s₁ := S1x8x6144) (s₂ := S1x8x6144) 0 _ _ _ (ix3 0 i1 i2) rfl (ix3 0 i1 i2) fun a => ?_
    fin_cases a <;> rfl
  · rw [← ref1]
    refine concatenate_pair_apply_right (t := S2x8x6144) (s₁ := S1x8x6144) (s₂ := S1x8x6144) 0 _ _ _ (ix3 1 i1 i2) rfl rfl (ix3 0 i1 i2) (fun a ha => ?_) rfl
    fin_cases a
    · exact absurd rfl ha
    · rfl
    · rfl

end Cert.Proof.Ada

namespace Cert.Proof.Ada

open Idealize.ShloMosaic Idealize.ShloMosaic.TcCoe Idealize.SL.Sem

/-- The algebraic claim of the call. -/
theorem algebraic : Cert.algebraic_Kernel4Ideal_Reference4Ideal := by
  intro m g m' g' _ hm
  refine ⟨fun c => (Kernel4Ideal.Gen.dats m 0 c).arrAt 3 Kernel4Ideal.cfg0.N, Kernel4Ideal.Value.run_blocks m g,
    (θ_run _ _ _).mono (fun r h c => ?_) (Reference4Ideal.Value.run m' g')⟩
  obtain ⟨h0, h1, h2⟩ := hm c
  refine ⟨(h c).1.trans ?_, (h c).2⟩
  refine Eq.trans ?_ (final m c).symm
  rw [Reference4Ideal.Read.val_main_v19_eq, ref_eq, h0, h1, h2]

end Cert.Proof.Ada
end
-- ==== Proof.AttnIdealFrame.lean ====
/- The attention kernel's frame: its body runs to its end from any contents of the buffers it writes, every
   other buffer is as it was found, and what it leaves in its output and in its scratch is not named here. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's triple for any continuation, the written buffers at anything before and after. -/
theorem kernelRun (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x256 .bf16) (harg6 : arg6.IsWhole) (arg7 : Memref sig .tc .vmem S2x16x128 .f32) (harg7 : arg7.IsWhole) (arg8 : Memref sig .tc .vmem S8192x128 .bf16) (harg8 : arg8.IsWhole) (arg9 : Memref sig .tc .vmem S8x128x512 .f32) (harg9 : arg9.IsWhole) (arg10 : Memref sig .tc .vmem S1024x768 .bf16) (harg10 : arg10.IsWhole) (arg11 : Memref sig .tc .vmem S1024x768 .bf16) (harg11 : arg11.IsWhole)
    (x2 : Vec F S8192x128 .bf16) (x3 : Vec F S8192x128 .bf16) (x4 : Vec F S8192x256 .bf16) (x5 : Vec F S256x128 .bf16) (x6 : Vec F S256x256 .bf16) (x7 : Vec F S2x16x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part52_eq_skeleton]; unfold k0_part52_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  by_cases hC : Scalar.cmpi .ne (Scalar.extui (Scalar.cmpi .eq (BitVec.ofNat 32 (i 1).val) 0#32) : BitVec 32) 0#32 = 1#1
  · sl_exec_parts
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl
  · sl_exec_parts
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-- Which windows' contents are not named: the output. -/
def forgets0 : Fin 7 → Bool := fun w => w = 6

/-- The proof data: the arrays as found, the inputs' buffers as fetched, the output not named. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = X0_0 m c t := before0_0_of m _ (A_eq m c 0) (after0_0 m c) t d
theorem before0_1 (c : Dev nD) (t : Fin cfg0.N) (d) : (dats m 0 c).before 1 t d = X0_1 m c t := before0_1_of m _ (A_eq m c 1) (after0_1 m c) t d
theorem before0_2 (c : Dev nD) (t : Fin cfg0.N) (d) : (dats m 0 c).before 2 t d = X0_2 m c t := before0_2_of m _ (A_eq m c 2) (after0_2 m c) t d
theorem before0_3 (c : Dev nD) (t : Fin cfg0.N) (d) : (dats m 0 c).before 3 t d = iblk m c 3 t := before0_3_of m _ (A_eq m c 3) (after0_3 m c) t d
theorem before0_4 (c : Dev nD) (t : Fin cfg0.N) (d) : (dats m 0 c).before 4 t d = iblk m c 4 t := before0_4_of m _ (A_eq m c 4) (after0_4 m c) t d
theorem before0_5 (c : Dev nD) (t : Fin cfg0.N) (d) : (dats m 0 c).before 5 t d = iblk m c 5 t := before0_5_of m _ (A_eq m c 5) (after0_5 m c) t d

/-- The invariant: the scratch at anything and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5]
  iintro ⟨⟨⟨S0, S1, S2⟩, Hg⟩, Ho, ⟨%d0, H0⟩, ⟨%d1, H1⟩, ⟨%d2, H2⟩, ⟨%d3, H3⟩, ⟨%d4, H4⟩, ⟨%d5, H5⟩, H6⟩
  iapply (kernelRun c (grid0.coords t) _ _ _ _ _ _ _ _ _ _ _ _ _ _ _ _ _ _ _ _ (X0_0 m c t) (X0_1 m c t) (X0_2 m c t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
      ⟨(Pipeline.RDat.FramePost.arr_in h.1 c 0 rfl).trans ((A_eq m c 0).trans (V_main_arg0 m c)),
       (Pipeline.RDat.FramePost.arr_in h.1 c 3 rfl).trans ((A_eq m c 3).trans (V_main_arg1 m c)),
       (Pipeline.RDat.FramePost.arr_in h.1 c 4 rfl).trans ((A_eq m c 4).trans (V_main_arg2 m c)),
       ((h.1 c).2 main_arg3 (Pipeline.mem_restRefs_of main_arg3 (by decide) (by decide))).trans (V_main_arg3 m c)⟩, h.2⟩)
    (run_main m ρ)

end Cert.KernelIdeal.Hand

end
-- ==== Proof.AttnSpec.lean ====
/- What one grid point of the attention kernel computes, row of the image by row: the scores of a row's 64 queries
   of two heads against the eight key rows of its window and against the context, the exponentials that go to the
   scratch, and the row of the output they give. The kernel text repeats these expressions once per row of a group;
   here each is written once, with the row as a number. -/
module

public import proofs.«01_k».proof.Proof.Gen.KernelIdeal.Frame
public import proofs.«01_k».proof.Proof.Gen.KernelIdeal.Loops
public import Idealize.ShloMosaic.Lib.Writes
public import Idealize.ShloMosaic.Lib.Pipeline.ReadBack
public import Idealize.ShloMosaic.Lib.Pointwise
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-! ## The expressions of one row -/

/-- The two heads' queries of a row, one under the other, each with the other head's lanes cleared. -/
def stackQ (q : Vec F S64x128 .bf16) : FVec F S128x128 .bf16 :=
  concatenate S128x128 0
    [⟨S64x128, select (k0_pay241) q (broadcast S64x128 (Scalar.ofBits .bf16 0x0000#16))⟩,
      ⟨S64x128, select (k0_pay241) (broadcast S64x128 (Scalar.ofBits .bf16 0x0000#16) : FVec F S64x128 .bf16) q⟩]
    concatenates_S64x128_S64x128_S128x128_d0

/-- Two rows' queries against the context keys. -/
def ctxPair (kc : Vec F S256x128 .bf16) (qa qb : Vec F S64x128 .bf16) : FVec F S256x256 .f32 :=
  matmul dot_S256x128_S256x128_S256x256_1_1_0_0_n_n none
    (concatenate S256x128 0 [⟨S128x128, stackQ qa⟩, ⟨S128x128, stackQ qb⟩] concatenates_S128x128_S128x128_S256x128_d0)
    kc (constant S256x256 .f32 0x00000000#32)

/-- The first and the second row of such a pair. -/
def ctxFst (kc : Vec F S256x128 .bf16) (qa qb : Vec F S64x128 .bf16) : FVec F S128x256 .f32 :=
  extractStridedSlice S128x256 ![0, 0] (ctxPair kc qa qb) slices_S256x256_o0_0_S128x256
def ctxSnd (kc : Vec F S256x128 .bf16) (qa qb : Vec F S64x128 .bf16) : FVec F S128x256 .f32 :=
  extractStridedSlice S128x256 ![128, 0] (ctxPair kc qa qb) slices_S256x256_o128_0_S128x256

/-- A row's queries against the keys of its window, with the position bias. -/
def locScore (q : Vec F S64x128 .bf16) (kw : Vec F S512x128 .bf16) (b : Vec F S1x128x512 .f32) : FVec F S128x512 .f32 :=
  addf (matmul dot_S128x128_S512x128_S128x512_1_1_0_0_n_n none (stackQ q) kw (constant S128x512 .f32 0x00000000#32))
    (shapeCast S128x512 b shapeCasts_S1x128x512_S128x512)

/-- The greatest score of each query. -/
def rowMax (l : FVec F S128x512 .f32) (x : FVec F S128x256 .f32) : FVec F S128x1 .f32 :=
  maximumf
    (shapeCast S128x1 (multiReduction .maximumf [1] S128 l 0xFF800000#32 reduces_S128x512_S128 (.inl rfl) rfl) shapeCasts_S128_S128x1)
    (shapeCast S128x1 (multiReduction .maximumf [1] S128 x 0xFF800000#32 reduces_S128x256_S128 (.inl rfl) rfl) shapeCasts_S128_S128x1)

/-- The exponentials of the window's scores and of the context's. -/
def expLoc (l : FVec F S128x512 .f32) (x : FVec F S128x256 .f32) : FVec F S128x512 .bf16 :=
  shapeCast S128x512 (truncf .bf16 (exp (subf l (broadcastTo S128x512 (rowMax l x) broadcasts_S128x1_S128x512))) bitsLt_bf16_f32)
    shapeCasts_S128x512_S128x512
def expCtx (l : FVec F S128x512 .f32) (x : FVec F S128x256 .f32) : FVec F S128x256 .bf16 :=
  shapeCast S128x256 (truncf .bf16 (exp (subf x (broadcastTo S128x256 (rowMax l x) broadcasts_S128x1_S128x256))) bitsLt_bf16_f32)
    shapeCasts_S128x256_S128x256

/-- Two rows' context exponentials against the context values. -/
def ctxOut (pc : Vec F S256x256 .bf16) (vc : Vec F S256x256 .bf16) : FVec F S256x256 .f32 :=
  matmul dot_S256x256_S256x256_S256x256_1_0_0_1_n_n none pc vc (constant S256x256 .f32 0x00000000#32)

/-- The weighted values with the weights' sums beside them, divided, each lane taken from its own head. -/
def pick (o : FVec F S128x256 .f32) : FVec F S64x128 .bf16 :=
  truncf .bf16
    (select (k0_pay241)
      (extractStridedSlice S64x128 ![0, 0]
        (divf (extractStridedSlice S128x128 ![0, 0] o slices_S128x256_o0_0_S128x128)
          (extractStridedSlice S128x128 ![0, 128] o slices_S128x256_o0_128_S128x128)) slices_S128x128_o0_0_S64x128)
      (extractStridedSlice S64x128 ![64, 0]
        (divf (extractStridedSlice S128x128 ![0, 0] o slices_S128x256_o0_0_S128x128)
          (extractStridedSlice S128x128 ![0, 128] o slices_S128x256_o0_128_S128x128)) slices_S128x128_o64_0_S64x128))
    bitsLt_bf16_f32

/-- The output of the first and of the second row of a pair. -/
def outFst (pc : Vec F S256x256 .bf16) (vc : Vec F S256x256 .bf16) (pl : Vec F S128x512 .bf16) (vw : Vec F S512x256 .bf16) :
    FVec F S64x128 .bf16 :=
  pick (addf (matmul dot_S128x512_S512x256_S128x256_1_0_0_1_n_n none pl vw (constant S128x256 .f32 0x00000000#32))
    (extractStridedSlice S128x256 ![0, 0] (ctxOut pc vc) slices_S256x256_o0_0_S128x256))
def outSnd (pc : Vec F S256x256 .bf16) (vc : Vec F S256x256 .bf16) (pl : Vec F S128x512 .bf16) (vw : Vec F S512x256 .bf16) :
    FVec F S64x128 .bf16 :=
  pick (addf (matmul dot_S128x512_S512x256_S128x256_1_0_0_1_n_n none pl vw (constant S128x256 .f32 0x00000000#32))
    (extractStridedSlice S128x256 ![128, 0] (ctxOut pc vc) slices_S256x256_o128_0_S128x256))

/-! ## By the row's number -/

/-- The first row of a row's window. -/
def win (r : ℕ) : ℕ := min (r - 4) 120

/-- Row `r` of the queries, and the windows of the keys, the values and the bias it meets. -/
def Qrow (x2 : Vec F S8192x128 .bf16) (r : ℕ) : Vec F S64x128 .bf16 :=
  fun y => x2 (ix2 (Fin.ofNat 8192 (r * 64 + (y 0).val)) (y 1))
def Kwin (x3 : Vec F S8192x128 .bf16) (r : ℕ) : Vec F S512x128 .bf16 :=
  fun y => x3 (ix2 (Fin.ofNat 8192 (win r * 64 + (y 0).val)) (y 1))
def Vwin (x4 : Vec F S8192x256 .bf16) (r : ℕ) : Vec F S512x256 .bf16 :=
  fun y => x4 (ix2 (Fin.ofNat 8192 (win r * 64 + (y 0).val)) (y 1))
def Brow (x9 : Vec F S8x128x512 .f32) (r : ℕ) : Vec F S1x128x512 .f32 :=
  fun y => x9 (ix3 (Fin.ofNat 8 (win r + 7 - r)) (y 1) (y 2))

/-- Row `r`'s context scores, computed with its neighbour's. -/
def ctxRow (x2 : Vec F S8192x128 .bf16) (x5 : Vec F S256x128 .bf16) (r : ℕ) : FVec F S128x256 .f32 :=
  if r % 2 = 0 then ctxFst x5 (Qrow x2 r) (Qrow x2 (r + 1)) else ctxSnd x5 (Qrow x2 (r - 1)) (Qrow x2 r)

/-- Row `r`'s exponentials. -/
def Lrow (x2 : Vec F S8192x128 .bf16) (x3 : Vec F S8192x128 .bf16) (x5 : Vec F S256x128 .bf16) (x9 : Vec F S8x128x512 .f32) (r : ℕ) :
    Vec F S128x512 .bf16 :=
  expLoc (locScore (Qrow x2 r) (Kwin x3 r) (Brow x9 r)) (ctxRow x2 x5 r)
def Crow (x2 : Vec F S8192x128 .bf16) (x3 : Vec F S8192x128 .bf16) (x5 : Vec F S256x128 .bf16) (x9 : Vec F S8x128x512 .f32) (r : ℕ) :
    Vec F S128x256 .bf16 :=
  expCtx (locScore (Qrow x2 r) (Kwin x3 r) (Brow x9 r)) (ctxRow x2 x5 r)

/-- Two context blocks, one under the other. -/
def under (a b : Vec F S128x256 .bf16) : Vec F S256x256 .bf16 :=
  fun y => if h : (y 0).val < 128 then a (ix2 ⟨(y 0).val, h⟩ (y 1))
    else b (ix2 ⟨(y 0).val - 128, by have h0 : (y 0).val < 256 := (y 0).isLt; omega⟩ (y 1))

/-- A group's scratch: rows of exponentials, the window's in the first 512 columns, the context's in the others. -/
def pbuf (L : ℕ → Vec F S128x512 .bf16) (C : ℕ → Vec F S128x256 .bf16) : Vec F S1024x768 .bf16 :=
  fun y => if h : (y 1).val < 512 then L ((y 0).val / 128) (ix2 ⟨(y 0).val % 128, Nat.mod_lt _ (by decide)⟩ ⟨(y 1).val, h⟩)
    else C ((y 0).val / 128) (ix2 ⟨(y 0).val % 128, Nat.mod_lt _ (by decide)⟩
      ⟨(y 1).val - 512, by have h1 : (y 1).val < 768 := (y 1).isLt; omega⟩)

/-- The output, row by row. -/
def rows64 (R : ℕ → Vec F S64x128 .bf16) : Vec F S8192x128 .bf16 :=
  fun y => R ((y 0).val / 64) (ix2 ⟨(y 0).val % 64, Nat.mod_lt _ (by decide)⟩ (y 1))

/-- Row `r` of the output. -/
def Orow (x2 : Vec F S8192x128 .bf16) (x3 : Vec F S8192x128 .bf16) (x4 : Vec F S8192x256 .bf16) (x5 : Vec F S256x128 .bf16)
    (x6 : Vec F S256x256 .bf16) (x9 : Vec F S8x128x512 .f32) (r : ℕ) : Vec F S64x128 .bf16 :=
  if r % 2 = 0 then outFst (under (Crow x2 x3 x5 x9 r) (Crow x2 x3 x5 x9 (r + 1))) x6 (Lrow x2 x3 x5 x9 r) (Vwin x4 r)
  else outSnd (under (Crow x2 x3 x5 x9 (r - 1)) (Crow x2 x3 x5 x9 r)) x6 (Lrow x2 x3 x5 x9 r) (Vwin x4 r)

/-- A tile of the position bias: a row of offsets spread over the columns, each moved by its own number and the
   places outside its window masked. -/
def tileB (row : Vec F S1x1x128 .f32) : FVec F S64x128 .f32 :=
  select (k0_pay2)
    (dynamicRotate 1 113#32 (some (1, 0))
      (broadcastTo S64x128 (shapeCast S1x128 (shapeCast S1x128 row shapeCasts_S1x1x128_S1x128) shapeCasts_S1x128_S1x128) broadcasts_S1x128_S64x128)
      rotates_S64x128_d1s1a0)
    (broadcast S64x128 (Named.named κ "mask" 0xF149F2CA#32 : F .f32))

/-- Row `u` of head `h`'s offsets. -/
def rp7 (x7 : Vec F S2x16x128 .f32) (h u : ℕ) : Vec F S1x1x128 .f32 := fun y => x7 (ix3 (Fin.ofNat 2 h) (Fin.ofNat 16 u) (y 2))

/-- The bias of a head pair: for each of the eight ways a window can lie, both heads' queries against the window. -/
def biasOf (x7 : Vec F S2x16x128 .f32) : Vec F S8x128x512 .f32 :=
  fun y => tileB (rp7 x7 ((y 1).val / 64) ((y 0).val + 2 * ((y 2).val / 128)))
    (ix2 ⟨(y 1).val % 64, Nat.mod_lt _ (by decide)⟩ ⟨(y 2).val % 128, Nat.mod_lt _ (by decide)⟩)

/-! ## Loads of a numbered row -/

section Loads
variable {sp : Space} {κ : Kind}

theorem load_Q (v : View sig κ sp S8192x128 .bf16) (f : v.ty.Contents (Elt F)) {off : Fin 2 → ℕ} {inb} (r : ℕ) (hr : r < 128) (h : off = ![r * 64, 0]) :
    v.readAt (Elt F) (Rect.unit (s := S8192x128) off S64x128.size inb).toLoadRect f = Qrow (v.read (Elt F) f) r := by
  subst h
  funext y
  refine congrArg (v.read (Elt F) f) (funext fun a => Fin.ext ?_)
  have h0 : (y 0).val < 64 := (y 0).isLt
  match a with
  | 0 => show r * 64 + 1 * (y 0).val = (r * 64 + (y 0).val) % 8192; omega
  | 1 => show 0 + 1 * (y 1).val = (y 1).val; omega

theorem load_K (v : View sig κ sp S8192x128 .bf16) (f : v.ty.Contents (Elt F)) {off : Fin 2 → ℕ} {inb} (r : ℕ) (h : off = ![win r * 64, 0]) :
    v.readAt (Elt F) (Rect.unit (s := S8192x128) off S512x128.size inb).toLoadRect f = Kwin (v.read (Elt F) f) r := by
  subst h
  funext y
  refine congrArg (v.read (Elt F) f) (funext fun a => Fin.ext ?_)
  have h0 : (y 0).val < 512 := (y 0).isLt
  have hw : win r ≤ 120 := Nat.min_le_right _ _
  match a with
  | 0 => show win r * 64 + 1 * (y 0).val = (win r * 64 + (y 0).val) % 8192; omega
  | 1 => show 0 + 1 * (y 1).val = (y 1).val; omega

theorem load_V (v : View sig κ sp S8192x256 .bf16) (f : v.ty.Contents (Elt F)) {off : Fin 2 → ℕ} {inb} (r : ℕ) (h : off = ![win r * 64, 0]) :
    v.readAt (Elt F) (Rect.unit (s := S8192x256) off S512x256.size inb).toLoadRect f = Vwin (v.read (Elt F) f) r := by
  subst h
  funext y
  refine congrArg (v.read (Elt F) f) (funext fun a => Fin.ext ?_)
  have h0 : (y 0).val < 512 := (y 0).isLt
  have hw : win r ≤ 120 := Nat.min_le_right _ _
  match a with
  | 0 => show win r * 64 + 1 * (y 0).val = (win r * 64 + (y 0).val) % 8192; omega
  | 1 => show 0 + 1 * (y 1).val = (y 1).val; omega

theorem load_B (v : View sig κ sp S8x128x512 .f32) (f : v.ty.Contents (Elt F)) {off : Fin 3 → ℕ} {inb} (r : ℕ) (hr : r < 128) (h : off = ![win r + 7 - r, 0, 0]) :
    v.readAt (Elt F) (Rect.unit (s := S8x128x512) off S1x128x512.size inb).toLoadRect f = Brow (v.read (Elt F) f) r := by
  subst h
  funext y
  refine congrArg (v.read (Elt F) f) (funext fun a => Fin.ext ?_)
  have h0 : (y 0).val < 1 := (y 0).isLt
  have hw : win r + 7 - r < 8 := by unfold win; omega
  match a with
  | 0 => show win r + 7 - r + 1 * (y 0).val = (win r + 7 - r) % 8; omega
  | 1 => show 0 + 1 * (y 1).val = (y 1).val; omega
  | 2 => show 0 + 1 * (y 2).val = (y 2).val; omega

theorem load_rp (v : View sig κ sp S2x16x128 .f32) (f : v.ty.Contents (Elt F)) (h u : ℕ) (hh : h < 2) (hu : u < 16) {off : Fin 3 → ℕ} {inb} (e : off = ![h, u, 0]) :
    v.readAt (Elt F) (Rect.unit (s := S2x16x128) off S1x1x128.size inb).toLoadRect f = rp7 (v.read (Elt F) f) h u := by
  subst e
  funext y
  refine congrArg (v.read (Elt F) f) (funext fun a => Fin.ext ?_)
  have h0 : (y 0).val < 1 := (y 0).isLt
  have h1 : (y 1).val < 1 := (y 1).isLt
  match a with
  | 0 => show h + 1 * (y 0).val = h % 2; omega
  | 1 => show u + 1 * (y 1).val = u % 16; omega
  | 2 => show 0 + 1 * (y 2).val = (y 2).val; omega

end Loads

theorem bias_tile (x7 : Vec F S2x16x128 .f32) (b h j : ℕ) {row : Vec F S1x1x128 .f32} (hr : row = rp7 x7 h (b + 2 * j)) {off : Fin 3 → ℕ} (e : off = ![b, h * 64, j * 128])
    {inb} (x : S1x64x128.Idx) :
    shapeCast S1x64x128 (tileB row) shapeCasts_S64x128_S1x64x128 x = biasOf x7 ((Rect.unit (s := S8x128x512) off S1x64x128.size inb).emb x) := by
  subst hr e
  have h0 : (x 0).val < 1 := (x 0).isLt
  have h1 : (x 1).val < 64 := (x 1).isLt
  have h2 : (x 2).val < 128 := (x 2).isLt
  have e0 : (((Rect.unit (s := S8x128x512) ![b, h * 64, j * 128] S1x64x128.size inb).emb x) 0).val = b + 1 * (x 0).val := rfl
  have e1 : (((Rect.unit (s := S8x128x512) ![b, h * 64, j * 128] S1x64x128.size inb).emb x) 1).val = h * 64 + 1 * (x 1).val := rfl
  have e2 : (((Rect.unit (s := S8x128x512) ![b, h * 64, j * 128] S1x64x128.size inb).emb x) 2).val = j * 128 + 1 * (x 2).val := rfl
  refine (shapeCast_addUnit_apply ![64, 128] (tileB (rp7 x7 h (b + 2 * j))) shapeCasts_S64x128_S1x64x128 x).trans ?_
  unfold biasOf
  have d1 : (((Rect.unit (s := S8x128x512) ![b, h * 64, j * 128] S1x64x128.size inb).emb x) 1).val / 64 = h := by omega
  have d2 : (((Rect.unit (s := S8x128x512) ![b, h * 64, j * 128] S1x64x128.size inb).emb x) 0).val
      + 2 * ((((Rect.unit (s := S8x128x512) ![b, h * 64, j * 128] S1x64x128.size inb).emb x) 2).val / 128) = b + 2 * j := by omega
  rw [d1, d2]
  refine congrArg (tileB (rp7 x7 h (b + 2 * j))) (funext fun a => Fin.ext ?_)
  match a with
  | 0 => show (x 1).val = (((Rect.unit (s := S8x128x512) ![b, h * 64, j * 128] S1x64x128.size inb).emb x) 1).val % 64; omega
  | 1 => show (x 2).val = (((Rect.unit (s := S8x128x512) ![b, h * 64, j * 128] S1x64x128.size inb).emb x) 2).val % 128; omega

/-! ## Blocks of the scratch and of the output -/

theorem pbuf_loc (L : ℕ → Vec F S128x512 .bf16) (C : ℕ → Vec F S128x256 .bf16) (u : ℕ) {off : Fin 2 → ℕ} (h : off = ![u * 128, 0]) {inb}
    (x : S128x512.Idx) : pbuf L C ((Rect.unit (s := S1024x768) off S128x512.size inb).emb x) = L u x := by
  subst h
  have h0 : (x 0).val < 128 := (x 0).isLt
  have h1 : (x 1).val < 512 := (x 1).isLt
  have e0 : (((Rect.unit (s := S1024x768) ![u * 128, 0] S128x512.size inb).emb x) 0).val = u * 128 + 1 * (x 0).val := rfl
  have e1 : (((Rect.unit (s := S1024x768) ![u * 128, 0] S128x512.size inb).emb x) 1).val = 0 + 1 * (x 1).val := rfl
  unfold pbuf
  rw [dif_pos (by omega)]
  have d : (((Rect.unit (s := S1024x768) ![u * 128, 0] S128x512.size inb).emb x) 0).val / 128 = u := by omega
  rw [d]
  refine congrArg (L u) (funext fun a => Fin.ext ?_)
  match a with
  | 0 => show (((Rect.unit (s := S1024x768) ![u * 128, 0] S128x512.size inb).emb x) 0).val % 128 = _; omega
  | 1 => show (((Rect.unit (s := S1024x768) ![u * 128, 0] S128x512.size inb).emb x) 1).val = _; omega

theorem pbuf_ctx (L : ℕ → Vec F S128x512 .bf16) (C : ℕ → Vec F S128x256 .bf16) (u : ℕ) {off : Fin 2 → ℕ} (h : off = ![u * 128, 512]) {inb}
    (x : S128x256.Idx) : pbuf L C ((Rect.unit (s := S1024x768) off S128x256.size inb).emb x) = C u x := by
  subst h
  have h0 : (x 0).val < 128 := (x 0).isLt
  have h1 : (x 1).val < 256 := (x 1).isLt
  have e0 : (((Rect.unit (s := S1024x768) ![u * 128, 512] S128x256.size inb).emb x) 0).val = u * 128 + 1 * (x 0).val := rfl
  have e1 : (((Rect.unit (s := S1024x768) ![u * 128, 512] S128x256.size inb).emb x) 1).val = 512 + 1 * (x 1).val := rfl
  unfold pbuf
  rw [dif_neg (by omega)]
  have d : (((Rect.unit (s := S1024x768) ![u * 128, 512] S128x256.size inb).emb x) 0).val / 128 = u := by omega
  rw [d]
  refine congrArg (C u) (funext fun a => Fin.ext ?_)
  match a with
  | 0 => show (((Rect.unit (s := S1024x768) ![u * 128, 512] S128x256.size inb).emb x) 0).val % 128 = _; omega
  | 1 => show (((Rect.unit (s := S1024x768) ![u * 128, 512] S128x256.size inb).emb x) 1).val - 512 = _; omega

theorem pbuf_pair (L : ℕ → Vec F S128x512 .bf16) (C : ℕ → Vec F S128x256 .bf16) (u : ℕ) {off : Fin 2 → ℕ} (h : off = ![u * 128, 512]) {inb}
    (x : S256x256.Idx) : pbuf L C ((Rect.unit (s := S1024x768) off S256x256.size inb).emb x) = under (C u) (C (u + 1)) x := by
  subst h
  have h0 : (x 0).val < 256 := (x 0).isLt
  have h1 : (x 1).val < 256 := (x 1).isLt
  have e0 : (((Rect.unit (s := S1024x768) ![u * 128, 512] S256x256.size inb).emb x) 0).val = u * 128 + 1 * (x 0).val := rfl
  have e1 : (((Rect.unit (s := S1024x768) ![u * 128, 512] S256x256.size inb).emb x) 1).val = 512 + 1 * (x 1).val := rfl
  unfold pbuf under
  rw [dif_neg (by omega)]
  by_cases hx : (x 0).val < 128
  · have d : (((Rect.unit (s := S1024x768) ![u * 128, 512] S256x256.size inb).emb x) 0).val / 128 = u := by omega
    rw [d, dif_pos hx]
    refine congrArg (C u) (funext fun a => Fin.ext ?_)
    match a with
    | 0 => show (((Rect.unit (s := S1024x768) ![u * 128, 512] S256x256.size inb).emb x) 0).val % 128 = (x 0).val; omega
    | 1 => show (((Rect.unit (s := S1024x768) ![u * 128, 512] S256x256.size inb).emb x) 1).val - 512 = (x 1).val; omega
  · have d : (((Rect.unit (s := S1024x768) ![u * 128, 512] S256x256.size inb).emb x) 0).val / 128 = u + 1 := by omega
    rw [d, dif_neg hx]
    refine congrArg (C (u + 1)) (funext fun a => Fin.ext ?_)
    match a with
    | 0 => show (((Rect.unit (s := S1024x768) ![u * 128, 512] S256x256.size inb).emb x) 0).val % 128 = (x 0).val - 128; omega
    | 1 => show (((Rect.unit (s := S1024x768) ![u * 128, 512] S256x256.size inb).emb x) 1).val - 512 = (x 1).val; omega

theorem rows64_row (R : ℕ → Vec F S64x128 .bf16) (r : ℕ) {off : Fin 2 → ℕ} (h : off = ![r * 64, 0]) {inb} (x : S64x128.Idx) :
    rows64 R ((Rect.unit (s := S8192x128) off S64x128.size inb).emb x) = R r x := by
  subst h
  have h0 : (x 0).val < 64 := (x 0).isLt
  have e0 : (((Rect.unit (s := S8192x128) ![r * 64, 0] S64x128.size inb).emb x) 0).val = r * 64 + 1 * (x 0).val := rfl
  unfold rows64
  have d : (((Rect.unit (s := S8192x128) ![r * 64, 0] S64x128.size inb).emb x) 0).val / 64 = r := by omega
  rw [d]
  refine congrArg (R r) (funext fun a => Fin.ext ?_)
  match a with
  | 0 => show (((Rect.unit (s := S8192x128) ![r * 64, 0] S64x128.size inb).emb x) 0).val % 64 = _; omega
  | 1 => show 0 + 1 * (x 1).val = (x 1).val; omega

/-! ## The stores of a row are its blocks -/

section Stores
variable {x2 : Vec F S8192x128 .bf16} {x3 : Vec F S8192x128 .bf16} {x4 : Vec F S8192x256 .bf16} {x5 : Vec F S256x128 .bf16}
  {x6 : Vec F S256x256 .bf16} {x9 : Vec F S8x128x512 .f32}
  {qa qb : Vec F S64x128 .bf16} {kw : Vec F S512x128 .bf16} {b : Vec F S1x128x512 .f32} {kc : Vec F S256x128 .bf16}
  {pc vc : Vec F S256x256 .bf16} {pl : Vec F S128x512 .bf16} {vw : Vec F S512x256 .bf16}

/-- The scratch of group `g`. -/
def grp (x2 : Vec F S8192x128 .bf16) (x3 : Vec F S8192x128 .bf16) (x5 : Vec F S256x128 .bf16) (x9 : Vec F S8x128x512 .f32) (g : ℕ) :
    Vec F S1024x768 .bf16 :=
  pbuf (fun u => Lrow x2 x3 x5 x9 (g * 8 + u)) (fun u => Crow x2 x3 x5 x9 (g * 8 + u))

theorem loc_even (g u : ℕ) (hu : u % 2 = 0) (hc : kc = x5) (ha : qa = Qrow x2 (g * 8 + u)) (hb : qb = Qrow x2 (g * 8 + (u + 1))) (hk : kw = Kwin x3 (g * 8 + u))
    (hbr : b = Brow x9 (g * 8 + u)) {off : Fin 2 → ℕ} (h : off = ![u * 128, 0]) {inb} (x : S128x512.Idx) :
    expLoc (locScore qa kw b) (ctxFst kc qa qb) x = grp x2 x3 x5 x9 g ((Rect.unit (s := S1024x768) off S128x512.size inb).emb x) := by
  subst hc ha hb hk hbr
  unfold grp
  rw [pbuf_loc _ _ u h]
  unfold Lrow ctxRow
  rw [if_pos (by omega), Nat.add_assoc]

theorem ctx_even (g u : ℕ) (hu : u % 2 = 0) (hc : kc = x5) (ha : qa = Qrow x2 (g * 8 + u)) (hb : qb = Qrow x2 (g * 8 + (u + 1))) (hk : kw = Kwin x3 (g * 8 + u))
    (hbr : b = Brow x9 (g * 8 + u)) {off : Fin 2 → ℕ} (h : off = ![u * 128, 512]) {inb} (x : S128x256.Idx) :
    expCtx (locScore qa kw b) (ctxFst kc qa qb) x = grp x2 x3 x5 x9 g ((Rect.unit (s := S1024x768) off S128x256.size inb).emb x) := by
  subst hc ha hb hk hbr
  unfold grp
  rw [pbuf_ctx _ _ u h]
  unfold Crow ctxRow
  rw [if_pos (by omega), Nat.add_assoc]

theorem loc_odd (g u : ℕ) (hu : u % 2 = 1) (hc : kc = x5) (ha : qa = Qrow x2 (g * 8 + (u - 1))) (hb : qb = Qrow x2 (g * 8 + u)) (hk : kw = Kwin x3 (g * 8 + u))
    (hbr : b = Brow x9 (g * 8 + u)) {off : Fin 2 → ℕ} (h : off = ![u * 128, 0]) {inb} (x : S128x512.Idx) :
    expLoc (locScore qb kw b) (ctxSnd kc qa qb) x = grp x2 x3 x5 x9 g ((Rect.unit (s := S1024x768) off S128x512.size inb).emb x) := by
  subst hc ha hb hk hbr
  unfold grp
  rw [pbuf_loc _ _ u h]
  unfold Lrow ctxRow
  rw [if_neg (by omega), Nat.add_sub_assoc (by omega)]

theorem ctx_odd (g u : ℕ) (hu : u % 2 = 1) (hc : kc = x5) (ha : qa = Qrow x2 (g * 8 + (u - 1))) (hb : qb = Qrow x2 (g * 8 + u)) (hk : kw = Kwin x3 (g * 8 + u))
    (hbr : b = Brow x9 (g * 8 + u)) {off : Fin 2 → ℕ} (h : off = ![u * 128, 512]) {inb} (x : S128x256.Idx) :
    expCtx (locScore qb kw b) (ctxSnd kc qa qb) x = grp x2 x3 x5 x9 g ((Rect.unit (s := S1024x768) off S128x256.size inb).emb x) := by
  subst hc ha hb hk hbr
  unfold grp
  rw [pbuf_ctx _ _ u h]
  unfold Crow ctxRow
  rw [if_neg (by omega), Nat.add_sub_assoc (by omega)]

theorem out_even (g u : ℕ) (hu : u % 2 = 0) (hc : vc = x6) (hp : pc = under (Crow x2 x3 x5 x9 (g * 8 + u)) (Crow x2 x3 x5 x9 (g * 8 + (u + 1))))
    (hl : pl = Lrow x2 x3 x5 x9 (g * 8 + u)) (hv : vw = Vwin x4 (g * 8 + u)) {off : Fin 2 → ℕ} (h : off = ![(g * 8 + u) * 64, 0]) {inb} (x : S64x128.Idx) :
    outFst pc vc pl vw x = rows64 (Orow x2 x3 x4 x5 x6 x9) ((Rect.unit (s := S8192x128) off S64x128.size inb).emb x) := by
  subst hc hp hl hv
  rw [rows64_row _ (g * 8 + u) h]
  unfold Orow
  rw [if_pos (by omega)]
  rfl

theorem out_odd (g u : ℕ) (hu : u % 2 = 1) (hc : vc = x6) (hp : pc = under (Crow x2 x3 x5 x9 (g * 8 + (u - 1))) (Crow x2 x3 x5 x9 (g * 8 + (u - 1 + 1))))
    (hl : pl = Lrow x2 x3 x5 x9 (g * 8 + u)) (hv : vw = Vwin x4 (g * 8 + u)) {off : Fin 2 → ℕ} (h : off = ![(g * 8 + u) * 64, 0]) {inb} (x : S64x128.Idx) :
    outSnd pc vc pl vw x = rows64 (Orow x2 x3 x4 x5 x6 x9) ((Rect.unit (s := S8192x128) off S64x128.size inb).emb x) := by
  subst hc hp hl hv
  rw [rows64_row _ (g * 8 + u) h]
  unfold Orow
  rw [if_neg (by omega), Nat.add_sub_assoc (by omega), Nat.sub_add_cancel (by omega)]

/-- Loads of a group's scratch, its contents known. -/
theorem load_loc {κ : Kind} {sp : Space} (v : View sig κ sp S1024x768 .bf16) (f : v.ty.Contents (Elt F)) (g : ℕ) (hf : v.read (Elt F) f = grp x2 x3 x5 x9 g)
    (u : ℕ) {off : Fin 2 → ℕ} (h : off = ![u * 128, 0]) {inb} :
    v.readAt (Elt F) (Rect.unit (s := S1024x768) off S128x512.size inb).toLoadRect f = Lrow x2 x3 x5 x9 (g * 8 + u) :=
  funext fun x => (congrFun hf _).trans (pbuf_loc _ _ u h x)
theorem load_pair {κ : Kind} {sp : Space} (v : View sig κ sp S1024x768 .bf16) (f : v.ty.Contents (Elt F)) (g : ℕ) (hf : v.read (Elt F) f = grp x2 x3 x5 x9 g)
    (u : ℕ) {off : Fin 2 → ℕ} (h : off = ![u * 128, 512]) {inb} :
    v.readAt (Elt F) (Rect.unit (s := S1024x768) off S256x256.size inb).toLoadRect f
      = under (Crow x2 x3 x5 x9 (g * 8 + u)) (Crow x2 x3 x5 x9 (g * 8 + (u + 1))) :=
  funext fun x => (congrFun hf _).trans (pbuf_pair _ _ u h x)

end Stores

end Cert.KernelIdeal.Hand

end
-- ==== Proof.AttnTrip.lean ====
/- One trip of the attention kernel's loop over the groups of eight rows, and the loop: what each store puts where,
   by the row's number. A trip writes group 2k + 1 to the second scratch, the output of group 2k from the first,
   group 2k + 2 to the first, and the output of group 2k + 1 from the second. -/
module

public import proofs.«01_k».proof.Proof.AttnSpec
public import Idealize.ShloMosaic.Lib.VecWindow

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-! ## Where the loads and stores of a trip are -/

theorem off3_eq : ∀ (k : Fin k0_t1_loop.trips) (a : Fin 3) (u : Fin 8), 0 < a.val →
    k0_off3 k (BitVec.ofNat 32 a.val) (BitVec.ofNat 32 u.val) = ![((2 * k.val + a.val) * 8 + u.val) * 64, 0] := by decide +kernel
theorem off4_eq : ∀ (k : Fin k0_t1_loop.trips) (a : Fin 3) (u : Fin 8), 0 < a.val →
    k0_off4 k (BitVec.ofNat 32 a.val) (BitVec.ofNat 32 u.val) = ![win ((2 * k.val + a.val) * 8 + u.val) * 64, 0] := by decide +kernel
theorem off5_eq : ∀ (k : Fin k0_t1_loop.trips) (a : Fin 3) (u : Fin 8), 0 < a.val →
    k0_off5 k (BitVec.ofNat 32 a.val) (BitVec.ofNat 32 u.val)
      = ![win ((2 * k.val + a.val) * 8 + u.val) + 7 - ((2 * k.val + a.val) * 8 + u.val), 0, 0] := by decide +kernel
theorem off6_eq : ∀ (k : Fin k0_t1_loop.trips) (u : Fin 8),
    k0_off6 k (BitVec.ofNat 32 u.val) = ![win ((2 * k.val) * 8 + u.val) * 64, 0] := by decide +kernel
theorem off7_eq : ∀ (k : Fin k0_t1_loop.trips) (u : Fin 8),
    k0_off7 k (BitVec.ofNat 32 u.val) = ![((2 * k.val) * 8 + u.val) * 64, 0] := by decide +kernel
theorem off8_eq : ∀ (k : Fin k0_t1_loop.trips) (u : Fin 8),
    k0_off8 k (BitVec.ofNat 32 u.val) = ![win ((2 * k.val + 1) * 8 + u.val) * 64, 0] := by decide +kernel
theorem trips_eq : k0_t1_loop.trips = 7 := by decide +kernel

theorem row_lt (k : Fin k0_t1_loop.trips) (a u : ℕ) (ha : a < 3) (hu : u < 8) : (2 * k.val + a) * 8 + u < 128 := by
  have h := Nat.lt_of_lt_of_eq k.isLt trips_eq
  omega

/-! ## The stores' rectangles cover what they should -/

section Cover

theorem cover_of_map {s : Shape} {e : EltTy} {Val : EltTy → Type} {L : List (View.Piece Val s e)} {R : List (Rect s)}
    (h : L.map (fun p => p.1) = R) (y : s.Idx) (hy : ∃ r ∈ R, y ∈ r.set) : ∃ p ∈ L, y ∈ p.1.set := by
  subst h
  obtain ⟨r, hr, hy⟩ := hy
  obtain ⟨p, hp, rfl⟩ := List.mem_map.mp hr
  exact ⟨p, hp, hy⟩

theorem inb_loc (u : ℕ) (hu : u < 8) :
    ∀ a : Fin S1024x768.rank, (![u * 128, 0] : Fin S1024x768.rank → ℕ) a + S128x512.size a ≤ S1024x768.size a := fun a => by
  match a with
  | 0 => show u * 128 + 128 ≤ 1024; omega
  | 1 => show 0 + 512 ≤ 768; omega
theorem inb_ctx (u : ℕ) (hu : u < 8) :
    ∀ a : Fin S1024x768.rank, (![u * 128, 512] : Fin S1024x768.rank → ℕ) a + S128x256.size a ≤ S1024x768.size a := fun a => by
  match a with
  | 0 => show u * 128 + 128 ≤ 1024; omega
  | 1 => show 512 + 256 ≤ 768; omega

def ctxRect (u : Fin 8) : Rect S1024x768 := Rect.unit (![u.val * 128, 512] : Fin S1024x768.rank → ℕ) S128x256.size (inb_ctx u.val u.isLt)
def locRect (u : Fin 8) : Rect S1024x768 := Rect.unit (![u.val * 128, 0] : Fin S1024x768.rank → ℕ) S128x512.size (inb_loc u.val u.isLt)

/-- The sixteen stores of a group's scratch, the last first. -/
def scratchRects : List (Rect S1024x768) := (List.finRange 8).reverse.flatMap fun u => [ctxRect u, locRect u]

theorem scratch_cover (y : S1024x768.Idx) : ∃ r ∈ scratchRects, y ∈ r.set := by
  have h0 : (y 0).val < 1024 := (y 0).isLt
  have h1 : (y 1).val < 768 := (y 1).isLt
  by_cases h : (y 1).val < 512
  · refine ⟨_, List.mem_flatMap.mpr ⟨⟨(y 0).val / 128, by omega⟩, List.mem_reverse.mpr (List.mem_finRange _), List.mem_cons_of_mem _ List.mem_cons_self⟩,
      Rect.mem_set_unit.mpr fun a => ?_⟩
    match a with
    | 0 => show (y 0).val / 128 * 128 ≤ (y 0).val ∧ (y 0).val < (y 0).val / 128 * 128 + 128; omega
    | 1 => show 0 ≤ (y 1).val ∧ (y 1).val < 0 + 512; omega
  · refine ⟨_, List.mem_flatMap.mpr ⟨⟨(y 0).val / 128, by omega⟩, List.mem_reverse.mpr (List.mem_finRange _), List.mem_cons_self⟩,
      Rect.mem_set_unit.mpr fun a => ?_⟩
    match a with
    | 0 => show (y 0).val / 128 * 128 ≤ (y 0).val ∧ (y 0).val < (y 0).val / 128 * 128 + 128; omega
    | 1 => show 512 ≤ (y 1).val ∧ (y 1).val < 512 + 256; omega

end Cover

/-! ## Loads from a scratch whose stores are known, and of the context values -/

section Reads

theorem pieces_cons {s : Shape} {e : EltTy} {Val : EltTy → Type} {G : s.Idx → Val e} {p : View.Piece Val s e} {L : List (View.Piece Val s e)}
    (hp : ∀ x : p.1.shape.Idx, p.2 x = G (p.1.emb x)) (hL : ∀ q ∈ L, ∀ x : q.1.shape.Idx, q.2 x = G (q.1.emb x)) :
    ∀ q ∈ p :: L, ∀ x : q.1.shape.Idx, q.2 x = G (q.1.emb x) := fun q hq => by
  rcases List.mem_cons.mp hq with rfl | hq
  · exact hp
  · exact hL q hq

theorem cover_tail {s : Shape} {e : EltTy} {Val : EltTy → Type} {L M : List (View.Piece Val s e)} {R : List (Rect s)}
    (h : L.map (fun p => p.1) = R ++ M.map (fun p => p.1)) (y : s.Idx) (hy : (∃ r ∈ R, y ∈ r.set) ∨ ∃ p ∈ M, y ∈ p.1.set) :
    ∃ p ∈ L, y ∈ p.1.set := by
  refine cover_of_map h y ?_
  rcases hy with ⟨r, hr, hy⟩ | ⟨p, hp, hy⟩
  · exact ⟨r, List.mem_append_left _ hr, hy⟩
  · exact ⟨p.1, List.mem_append_right _ (List.mem_map.mpr ⟨p, hp, rfl⟩), hy⟩

variable {x2 : Vec F S8192x128 .bf16} {x3 : Vec F S8192x128 .bf16} {x5 : Vec F S256x128 .bf16} {x9 : Vec F S8x128x512 .f32}

theorem cov_loc (a : Memref sig .tc .vmem S1024x768 .bf16) (L : List (View.Piece (Elt F) S1024x768 .bf16)) (g : ℕ)
    (hL : ∀ y, View.canon L y = grp x2 x3 x5 x9 g y) (u : ℕ) {off : Fin 2 → ℕ} (h : off = ![u * 128, 0]) {inb} :
    a.view.readCov L (Rect.unit (s := S1024x768) off S128x512.size inb).toLoadRect = Lrow x2 x3 x5 x9 (g * 8 + u) :=
  funext fun x => (congrFun (View.readAt_writes_junk_eq_canon _ _ _) x).trans ((hL _).trans (pbuf_loc _ _ u h x))
theorem cov_pair (a : Memref sig .tc .vmem S1024x768 .bf16) (L : List (View.Piece (Elt F) S1024x768 .bf16)) (g : ℕ)
    (hL : ∀ y, View.canon L y = grp x2 x3 x5 x9 g y) (u : ℕ) {off : Fin 2 → ℕ} (h : off = ![u * 128, 512]) {inb} :
    a.view.readCov L (Rect.unit (s := S1024x768) off S256x256.size inb).toLoadRect
      = under (Crow x2 x3 x5 x9 (g * 8 + u)) (Crow x2 x3 x5 x9 (g * 8 + (u + 1))) :=
  funext fun x => (congrFun (View.readAt_writes_junk_eq_canon _ _ _) x).trans ((hL _).trans (pbuf_pair _ _ u h x))
theorem vc6 (a : Memref sig .tc .vmem S256x256 .bf16) (f : BufTy.Contents (Elt F) a.view.ty) {inb} :
    a.view.readAt (Elt F) (Rect.unit (s := S256x256) ![0, 0] S256x256.size inb).toLoadRect f = a.view.read (Elt F) f :=
  View.readAt_full _ _ _
theorem inb_row {r : ℕ} {off : Fin S8192x128.rank → ℕ} (h : off = ![r * 64, 0]) (hr : r < 128) : ∀ a : Fin S8192x128.rank, off a + S64x128.size a ≤ S8192x128.size a := by
  subst h
  intro a
  match a with
  | 0 => show r * 64 + 64 ≤ 8192; omega
  | 1 => show 0 + 128 ≤ 128; omega

end Reads

/-! ## A trip -/

section Trip
variable (𝒱 : Variants) (c : Dev nD) (bd : Option 𝒱.V) (i : grid0.Coords) (arg2 : Memref sig .tc .vmem S8192x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x256 .bf16) (harg6 : arg6.IsWhole) (arg7 : Memref sig .tc .vmem S2x16x128 .f32) (harg7 : arg7.IsWhole) (arg8 : Memref sig .tc .vmem S8192x128 .bf16) (harg8 : arg8.IsWhole) (arg9 : Memref sig .tc .vmem S8x128x512 .f32) (harg9 : arg9.IsWhole) (arg10 : Memref sig .tc .vmem S1024x768 .bf16) (harg10 : arg10.IsWhole) (arg11 : Memref sig .tc .vmem S1024x768 .bf16) (harg11 : arg11.IsWhole)
  (v6 : Vec F S256x128 .bf16) (v266 : FVec F S128x128 .bf16) (v268 : FVec F S256x256 .f32) (v305 : BitVec 32) (v309 : Vec F S512x128 .bf16)
  (cst_124 : FVec F S128x512 .f32) (X2 : BufTy.Contents (Elt F) arg2.view.ty) (X3 : BufTy.Contents (Elt F) arg3.view.ty)
  (X4 : BufTy.Contents (Elt F) arg4.view.ty) (X6 : BufTy.Contents (Elt F) arg6.view.ty) (X9 : BufTy.Contents (Elt F) arg9.view.ty)

/-- The group's scratch and the output rows, of the buffers' contents. -/

theorem trip_q (k : Fin k0_t1_loop.trips) (a u : ℕ) (ha : a < 3) (ha' : 0 < a) (hu : u < 8) {inb} :
    arg2.view.readAt (Elt F) (Rect.unit (s := S8192x128) (k0_off3 k (BitVec.ofNat 32 a) (BitVec.ofNat 32 u)) S64x128.size inb).toLoadRect X2
      = Qrow (arg2.view.read (Elt F) X2) ((2 * k.val + a) * 8 + u) :=
  load_Q _ _ _ (row_lt k a u ha hu) (off3_eq k ⟨a, ha⟩ ⟨u, hu⟩ ha')
theorem trip_k (k : Fin k0_t1_loop.trips) (a u : ℕ) (ha : a < 3) (ha' : 0 < a) (hu : u < 8) {inb} :
    arg3.view.readAt (Elt F) (Rect.unit (s := S8192x128) (k0_off4 k (BitVec.ofNat 32 a) (BitVec.ofNat 32 u)) S512x128.size inb).toLoadRect X3
      = Kwin (arg3.view.read (Elt F) X3) ((2 * k.val + a) * 8 + u) :=
  load_K _ _ _ (off4_eq k ⟨a, ha⟩ ⟨u, hu⟩ ha')
theorem trip_b (k : Fin k0_t1_loop.trips) (a u : ℕ) (ha : a < 3) (ha' : 0 < a) (hu : u < 8) {inb} :
    arg9.view.readAt (Elt F) (Rect.unit (s := S8x128x512) (k0_off5 k (BitVec.ofNat 32 a) (BitVec.ofNat 32 u)) S1x128x512.size inb).toLoadRect X9
      = Brow (arg9.view.read (Elt F) X9) ((2 * k.val + a) * 8 + u) :=
  load_B _ _ _ (row_lt k a u ha hu) (off5_eq k ⟨a, ha⟩ ⟨u, hu⟩ ha')

theorem trip_L11 (k : Fin k0_t1_loop.trips) :
    View.PiecesOf ((grp (arg2.view.read (Elt F) X2) (arg3.view.read (Elt F) X3) v6 (arg9.view.read (Elt F) X9)) (2 * k.val + 1)) (trip_k0_t1.sl.HW_arg11_16 arg2 arg3 arg9 (k0_pay241) v6 X2 X3 X9 k) := by
  have q := fun u hu => @trip_q F _ _ arg2 X2 k 1 u (by decide) (by decide) hu
  have kk := fun u hu => @trip_k F _ _ arg3 X3 k 1 u (by decide) (by decide) hu
  have b := fun u hu => @trip_b F _ _ arg9 X9 k 1 u (by decide) (by decide) hu
  unfold trip_k0_t1.sl.HW_arg11_16
  exact ⟨ctx_odd _ 7 rfl rfl (q 6 (by decide)) (q 7 (by decide)) (kk 7 (by decide)) (b 7 (by decide)) rfl (inb := inb_ctx 7 (by decide)), loc_odd _ 7 rfl rfl (q 6 (by decide)) (q 7 (by decide)) (kk 7 (by decide)) (b 7 (by decide)) rfl (inb := inb_loc 7 (by decide)), ctx_even _ 6 rfl rfl (q 6 (by decide)) (q 7 (by decide)) (kk 6 (by decide)) (b 6 (by decide)) rfl (inb := inb_ctx 6 (by decide)), loc_even _ 6 rfl rfl (q 6 (by decide)) (q 7 (by decide)) (kk 6 (by decide)) (b 6 (by decide)) rfl (inb := inb_loc 6 (by decide)), ctx_odd _ 5 rfl rfl (q 4 (by decide)) (q 5 (by decide)) (kk 5 (by decide)) (b 5 (by decide)) rfl (inb := inb_ctx 5 (by decide)), loc_odd _ 5 rfl rfl (q 4 (by decide)) (q 5 (by decide)) (kk 5 (by decide)) (b 5 (by decide)) rfl (inb := inb_loc 5 (by decide)), ctx_even _ 4 rfl rfl (q 4 (by decide)) (q 5 (by decide)) (kk 4 (by decide)) (b 4 (by decide)) rfl (inb := inb_ctx 4 (by decide)), loc_even _ 4 rfl rfl (q 4 (by decide)) (q 5 (by decide)) (kk 4 (by decide)) (b 4 (by decide)) rfl (inb := inb_loc 4 (by decide)), ctx_odd _ 3 rfl rfl (q 2 (by decide)) (q 3 (by decide)) (kk 3 (by decide)) (b 3 (by decide)) rfl (inb := inb_ctx 3 (by decide)), loc_odd _ 3 rfl rfl (q 2 (by decide)) (q 3 (by decide)) (kk 3 (by decide)) (b 3 (by decide)) rfl (inb := inb_loc 3 (by decide)), ctx_even _ 2 rfl rfl (q 2 (by decide)) (q 3 (by decide)) (kk 2 (by decide)) (b 2 (by decide)) rfl (inb := inb_ctx 2 (by decide)), loc_even _ 2 rfl rfl (q 2 (by decide)) (q 3 (by decide)) (kk 2 (by decide)) (b 2 (by decide)) rfl (inb := inb_loc 2 (by decide)), ctx_odd _ 1 rfl rfl (q 0 (by decide)) (q 1 (by decide)) (kk 1 (by decide)) (b 1 (by decide)) rfl (inb := inb_ctx 1 (by decide)), loc_odd _ 1 rfl rfl (q 0 (by decide)) (q 1 (by decide)) (kk 1 (by decide)) (b 1 (by decide)) rfl (inb := inb_loc 1 (by decide)), ctx_even _ 0 rfl rfl (q 0 (by decide)) (q 1 (by decide)) (kk 0 (by decide)) (b 0 (by decide)) rfl (inb := inb_ctx 0 (by decide)), loc_even _ 0 rfl rfl (q 0 (by decide)) (q 1 (by decide)) (kk 0 (by decide)) (b 0 (by decide)) rfl (inb := inb_loc 0 (by decide)), trivial⟩

theorem trip_read11 (k : Fin k0_t1_loop.trips) (y : S1024x768.Idx) :
    View.canon (trip_k0_t1.sl.HW_arg11_16 arg2 arg3 arg9 (k0_pay241) v6 X2 X3 X9 k) y = (grp (arg2.view.read (Elt F) X2) (arg3.view.read (Elt F) X3) v6 (arg9.view.read (Elt F) X9)) (2 * k.val + 1) y :=
  View.canon_apply_of_pieces _ _ (trip_L11 arg2 arg3 arg9 v6 X2 X3 X9 k).mem y (cover_of_map (R := scratchRects) rfl y (scratch_cover y))

theorem trip_L10 (k : Fin k0_t1_loop.trips) (f8) (f10) (f11) : View.PiecesOf ((grp (arg2.view.read (Elt F) X2) (arg3.view.read (Elt F) X3) v6 (arg9.view.read (Elt F) X9)) (2 * k.val + 2)) ((trip_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 k).2.1 f8 f10 f11) := by
  have q := fun u hu => @trip_q F _ _ arg2 X2 k 2 u (by decide) (by decide) hu
  have kk := fun u hu => @trip_k F _ _ arg3 X3 k 2 u (by decide) (by decide) hu
  have b := fun u hu => @trip_b F _ _ arg9 X9 k 2 u (by decide) (by decide) hu
  unfold trip_k0_t1
  exact ⟨ctx_odd _ 7 rfl rfl (q 6 (by decide)) (q 7 (by decide)) (kk 7 (by decide)) (b 7 (by decide)) rfl (inb := inb_ctx 7 (by decide)), loc_odd _ 7 rfl rfl (q 6 (by decide)) (q 7 (by decide)) (kk 7 (by decide)) (b 7 (by decide)) rfl (inb := inb_loc 7 (by decide)), ctx_even _ 6 rfl rfl (q 6 (by decide)) (q 7 (by decide)) (kk 6 (by decide)) (b 6 (by decide)) rfl (inb := inb_ctx 6 (by decide)), loc_even _ 6 rfl rfl (q 6 (by decide)) (q 7 (by decide)) (kk 6 (by decide)) (b 6 (by decide)) rfl (inb := inb_loc 6 (by decide)), ctx_odd _ 5 rfl rfl (q 4 (by decide)) (q 5 (by decide)) (kk 5 (by decide)) (b 5 (by decide)) rfl (inb := inb_ctx 5 (by decide)), loc_odd _ 5 rfl rfl (q 4 (by decide)) (q 5 (by decide)) (kk 5 (by decide)) (b 5 (by decide)) rfl (inb := inb_loc 5 (by decide)), ctx_even _ 4 rfl rfl (q 4 (by decide)) (q 5 (by decide)) (kk 4 (by decide)) (b 4 (by decide)) rfl (inb := inb_ctx 4 (by decide)), loc_even _ 4 rfl rfl (q 4 (by decide)) (q 5 (by decide)) (kk 4 (by decide)) (b 4 (by decide)) rfl (inb := inb_loc 4 (by decide)), ctx_odd _ 3 rfl rfl (q 2 (by decide)) (q 3 (by decide)) (kk 3 (by decide)) (b 3 (by decide)) rfl (inb := inb_ctx 3 (by decide)), loc_odd _ 3 rfl rfl (q 2 (by decide)) (q 3 (by decide)) (kk 3 (by decide)) (b 3 (by decide)) rfl (inb := inb_loc 3 (by decide)), ctx_even _ 2 rfl rfl (q 2 (by decide)) (q 3 (by decide)) (kk 2 (by decide)) (b 2 (by decide)) rfl (inb := inb_ctx 2 (by decide)), loc_even _ 2 rfl rfl (q 2 (by decide)) (q 3 (by decide)) (kk 2 (by decide)) (b 2 (by decide)) rfl (inb := inb_loc 2 (by decide)), ctx_odd _ 1 rfl rfl (q 0 (by decide)) (q 1 (by decide)) (kk 1 (by decide)) (b 1 (by decide)) rfl (inb := inb_ctx 1 (by decide)), loc_odd _ 1 rfl rfl (q 0 (by decide)) (q 1 (by decide)) (kk 1 (by decide)) (b 1 (by decide)) rfl (inb := inb_loc 1 (by decide)), ctx_even _ 0 rfl rfl (q 0 (by decide)) (q 1 (by decide)) (kk 0 (by decide)) (b 0 (by decide)) rfl (inb := inb_ctx 0 (by decide)), loc_even _ 0 rfl rfl (q 0 (by decide)) (q 1 (by decide)) (kk 0 (by decide)) (b 0 (by decide)) rfl (inb := inb_loc 0 (by decide)), trivial⟩

theorem trip_cover10 (k : Fin k0_t1_loop.trips) (f8) (f10) (f11) (y : S1024x768.Idx) : ∃ p ∈ (trip_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 k).2.1 f8 f10 f11, y ∈ p.1.set :=
  cover_of_map (R := scratchRects) (by unfold trip_k0_t1; rfl) y (scratch_cover y)

theorem trip_L8 (k : Fin k0_t1_loop.trips) (f8) (f10) (f11) (h10 : arg10.view.read (Elt F) f10 = (grp (arg2.view.read (Elt F) X2) (arg3.view.read (Elt F) X3) v6 (arg9.view.read (Elt F) X9)) (2 * k.val)) :
    View.PiecesOf (rows64 (Orow (arg2.view.read (Elt F) X2) (arg3.view.read (Elt F) X3) (arg4.view.read (Elt F) X4) v6 (arg6.view.read (Elt F) X6) (arg9.view.read (Elt F) X9))) ((trip_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 k).1 f8 f10 f11) := by
  have ro := fun u hu => inb_row (off3_eq k 1 ⟨u, hu⟩ (by decide)) (row_lt k 1 u (by decide) hu)
  have re := fun u hu => inb_row (off7_eq k ⟨u, hu⟩) (row_lt k 0 u (by decide) hu)
  have v0 := fun u hu {inb} => load_V arg4.view X4 (inb := inb) _ (off6_eq k ⟨u, hu⟩)
  have v1 := fun u hu {inb} => load_V arg4.view X4 (inb := inb) _ (off8_eq k ⟨u, hu⟩)
  unfold trip_k0_t1
  exact ⟨out_odd _ 7 (by decide) (vc6 arg6 X6) (cov_pair arg11 _ _ (trip_read11 arg2 arg3 arg9 v6 X2 X3 X9 k) 6 rfl) (cov_loc arg11 _ _ (trip_read11 arg2 arg3 arg9 v6 X2 X3 X9 k) 7 rfl) (v1 7 (by decide)) (off3_eq k 1 7 (by decide)) (inb := ro 7 (by decide)), out_even _ 6 (by decide) (vc6 arg6 X6) (cov_pair arg11 _ _ (trip_read11 arg2 arg3 arg9 v6 X2 X3 X9 k) 6 rfl) (cov_loc arg11 _ _ (trip_read11 arg2 arg3 arg9 v6 X2 X3 X9 k) 6 rfl) (v1 6 (by decide)) (off3_eq k 1 6 (by decide)) (inb := ro 6 (by decide)), out_odd _ 5 (by decide) (vc6 arg6 X6) (cov_pair arg11 _ _ (trip_read11 arg2 arg3 arg9 v6 X2 X3 X9 k) 4 rfl) (cov_loc arg11 _ _ (trip_read11 arg2 arg3 arg9 v6 X2 X3 X9 k) 5 rfl) (v1 5 (by decide)) (off3_eq k 1 5 (by decide)) (inb := ro 5 (by decide)), out_even _ 4 (by decide) (vc6 arg6 X6) (cov_pair arg11 _ _ (trip_read11 arg2 arg3 arg9 v6 X2 X3 X9 k) 4 rfl) (cov_loc arg11 _ _ (trip_read11 arg2 arg3 arg9 v6 X2 X3 X9 k) 4 rfl) (v1 4 (by decide)) (off3_eq k 1 4 (by decide)) (inb := ro 4 (by decide)), out_odd _ 3 (by decide) (vc6 arg6 X6) (cov_pair arg11 _ _ (trip_read11 arg2 arg3 arg9 v6 X2 X3 X9 k) 2 rfl) (cov_loc arg11 _ _ (trip_read11 arg2 arg3 arg9 v6 X2 X3 X9 k) 3 rfl) (v1 3 (by decide)) (off3_eq k 1 3 (by decide)) (inb := ro 3 (by decide)), out_even _ 2 (by decide) (vc6 arg6 X6) (cov_pair arg11 _ _ (trip_read11 arg2 arg3 arg9 v6 X2 X3 X9 k) 2 rfl) (cov_loc arg11 _ _ (trip_read11 arg2 arg3 arg9 v6 X2 X3 X9 k) 2 rfl) (v1 2 (by decide)) (off3_eq k 1 2 (by decide)) (inb := ro 2 (by decide)), out_odd _ 1 (by decide) (vc6 arg6 X6) (cov_pair arg11 _ _ (trip_read11 arg2 arg3 arg9 v6 X2 X3 X9 k) 0 rfl) (cov_loc arg11 _ _ (trip_read11 arg2 arg3 arg9 v6 X2 X3 X9 k) 1 rfl) (v1 1 (by decide)) (off3_eq k 1 1 (by decide)) (inb := ro 1 (by decide)), out_even _ 0 (by decide) (vc6 arg6 X6) (cov_pair arg11 _ _ (trip_read11 arg2 arg3 arg9 v6 X2 X3 X9 k) 0 rfl) (cov_loc arg11 _ _ (trip_read11 arg2 arg3 arg9 v6 X2 X3 X9 k) 0 rfl) (v1 0 (by decide)) (off3_eq k 1 0 (by decide)) (inb := ro 0 (by decide)), out_odd _ 7 (by decide) (vc6 arg6 X6) (load_pair arg10.view f10 _ h10 6 rfl) (load_loc arg10.view f10 _ h10 7 rfl) (v0 7 (by decide)) (off7_eq k 7) (inb := re 7 (by decide)), out_even _ 6 (by decide) (vc6 arg6 X6) (load_pair arg10.view f10 _ h10 6 rfl) (load_loc arg10.view f10 _ h10 6 rfl) (v0 6 (by decide)) (off7_eq k 6) (inb := re 6 (by decide)), out_odd _ 5 (by decide) (vc6 arg6 X6) (load_pair arg10.view f10 _ h10 4 rfl) (load_loc arg10.view f10 _ h10 5 rfl) (v0 5 (by decide)) (off7_eq k 5) (inb := re 5 (by decide)), out_even _ 4 (by decide) (vc6 arg6 X6) (load_pair arg10.view f10 _ h10 4 rfl) (load_loc arg10.view f10 _ h10 4 rfl) (v0 4 (by decide)) (off7_eq k 4) (inb := re 4 (by decide)), out_odd _ 3 (by decide) (vc6 arg6 X6) (load_pair arg10.view f10 _ h10 2 rfl) (load_loc arg10.view f10 _ h10 3 rfl) (v0 3 (by decide)) (off7_eq k 3) (inb := re 3 (by decide)), out_even _ 2 (by decide) (vc6 arg6 X6) (load_pair arg10.view f10 _ h10 2 rfl) (load_loc arg10.view f10 _ h10 2 rfl) (v0 2 (by decide)) (off7_eq k 2) (inb := re 2 (by decide)), out_odd _ 1 (by decide) (vc6 arg6 X6) (load_pair arg10.view f10 _ h10 0 rfl) (load_loc arg10.view f10 _ h10 1 rfl) (v0 1 (by decide)) (off7_eq k 1) (inb := re 1 (by decide)), out_even _ 0 (by decide) (vc6 arg6 X6) (load_pair arg10.view f10 _ h10 0 rfl) (load_loc arg10.view f10 _ h10 0 rfl) (v0 0 (by decide)) (off7_eq k 0) (inb := re 0 (by decide)), trivial⟩

/-- The row a trip stores `u`-th of its second and of its first group. -/
def hiRect (k : Fin k0_t1_loop.trips) (b : BitVec 32) (u : ℕ) (h : k0_off3 k 1#32 b = ![((2 * k.val + 1) * 8 + u) * 64, 0]) (hu : u < 8) : Rect S8192x128 :=
  Rect.unit (s := S8192x128) (k0_off3 k 1#32 b) S64x128.size (inb_row h (row_lt k 1 u (by decide) hu))
def loRect (k : Fin k0_t1_loop.trips) (b : BitVec 32) (u : ℕ) (h : k0_off7 k b = ![((2 * k.val) * 8 + u) * 64, 0]) (hu : u < 8) : Rect S8192x128 :=
  Rect.unit (s := S8192x128) (k0_off7 k b) S64x128.size (inb_row h (row_lt k 0 u (by decide) hu))

theorem hiRect_mem (k : Fin k0_t1_loop.trips) (b : BitVec 32) (u : ℕ) (h) (hu) (y : S8192x128.Idx) (hy : (y 0).val / 64 = (2 * k.val + 1) * 8 + u) :
    y ∈ (hiRect k b u h hu).set := by
  have h1 : (y 1).val < 128 := (y 1).isLt
  refine Rect.mem_set_unit.mpr fun a => ?_
  rw [h]
  match a with
  | 0 => show ((2 * k.val + 1) * 8 + u) * 64 ≤ (y 0).val ∧ (y 0).val < ((2 * k.val + 1) * 8 + u) * 64 + 64; omega
  | 1 => show 0 ≤ (y 1).val ∧ (y 1).val < 0 + 128; omega
theorem loRect_mem (k : Fin k0_t1_loop.trips) (b : BitVec 32) (u : ℕ) (h) (hu) (y : S8192x128.Idx) (hy : (y 0).val / 64 = (2 * k.val) * 8 + u) :
    y ∈ (loRect k b u h hu).set := by
  have h1 : (y 1).val < 128 := (y 1).isLt
  refine Rect.mem_set_unit.mpr fun a => ?_
  rw [h]
  match a with
  | 0 => show ((2 * k.val) * 8 + u) * 64 ≤ (y 0).val ∧ (y 0).val < ((2 * k.val) * 8 + u) * 64 + 64; omega
  | 1 => show 0 ≤ (y 1).val ∧ (y 1).val < 0 + 128; omega

/-- The sixteen rows a trip stores, the last first. -/
def rowRects (k : Fin k0_t1_loop.trips) : List (Rect S8192x128) :=
  [hiRect k 7#32 7 (off3_eq k 1 7 (by decide)) (by decide), hiRect k 6#32 6 (off3_eq k 1 6 (by decide)) (by decide), hiRect k 5#32 5 (off3_eq k 1 5 (by decide)) (by decide), hiRect k 4#32 4 (off3_eq k 1 4 (by decide)) (by decide), hiRect k 3#32 3 (off3_eq k 1 3 (by decide)) (by decide), hiRect k 2#32 2 (off3_eq k 1 2 (by decide)) (by decide), hiRect k 1#32 1 (off3_eq k 1 1 (by decide)) (by decide), hiRect k 0#32 0 (off3_eq k 1 0 (by decide)) (by decide),
    loRect k 7#32 7 (off7_eq k 7) (by decide), loRect k 6#32 6 (off7_eq k 6) (by decide), loRect k 5#32 5 (off7_eq k 5) (by decide), loRect k 4#32 4 (off7_eq k 4) (by decide), loRect k 3#32 3 (off7_eq k 3) (by decide), loRect k 2#32 2 (off7_eq k 2) (by decide), loRect k 1#32 1 (off7_eq k 1) (by decide), loRect k 0#32 0 (off7_eq k 0) (by decide)]

theorem rows_cover (k : Fin k0_t1_loop.trips) (y : S8192x128.Idx) (h : k.val * 16 ≤ (y 0).val / 64) (h' : (y 0).val / 64 < (k.val + 1) * 16) :
    ∃ r ∈ rowRects k, y ∈ r.set := by
  obtain ⟨u, hu⟩ : ∃ u, (y 0).val / 64 = k.val * 16 + u := ⟨_, (Nat.add_sub_of_le h).symm⟩
  have hu' : u < 16 := by omega
  have hk := k.isLt
  by_cases h8 : u < 8
  · have m := loRect_mem k
    interval_cases u
    · exact ⟨_, List.getElem_mem (l := rowRects k) (n := 15) (by decide : 15 < 16), m 0#32 0 (off7_eq k 0) (by decide) y (by omega)⟩
    · exact ⟨_, List.getElem_mem (l := rowRects k) (n := 14) (by decide : 14 < 16), m 1#32 1 (off7_eq k 1) (by decide) y (by omega)⟩
    · exact ⟨_, List.getElem_mem (l := rowRects k) (n := 13) (by decide : 13 < 16), m 2#32 2 (off7_eq k 2) (by decide) y (by omega)⟩
    · exact ⟨_, List.getElem_mem (l := rowRects k) (n := 12) (by decide : 12 < 16), m 3#32 3 (off7_eq k 3) (by decide) y (by omega)⟩
    · exact ⟨_, List.getElem_mem (l := rowRects k) (n := 11) (by decide : 11 < 16), m 4#32 4 (off7_eq k 4) (by decide) y (by omega)⟩
    · exact ⟨_, List.getElem_mem (l := rowRects k) (n := 10) (by decide : 10 < 16), m 5#32 5 (off7_eq k 5) (by decide) y (by omega)⟩
    · exact ⟨_, List.getElem_mem (l := rowRects k) (n := 9) (by decide : 9 < 16), m 6#32 6 (off7_eq k 6) (by decide) y (by omega)⟩
    · exact ⟨_, List.getElem_mem (l := rowRects k) (n := 8) (by decide : 8 < 16), m 7#32 7 (off7_eq k 7) (by decide) y (by omega)⟩
  · have m := hiRect_mem k
    obtain ⟨w, rfl⟩ : ∃ w, u = 8 + w := ⟨u - 8, by omega⟩
    have hw : w < 8 := by omega
    interval_cases w
    · exact ⟨_, List.getElem_mem (l := rowRects k) (n := 7) (by decide : 7 < 16), m 0#32 0 (off3_eq k 1 0 (by decide)) (by decide) y (by omega)⟩
    · exact ⟨_, List.getElem_mem (l := rowRects k) (n := 6) (by decide : 6 < 16), m 1#32 1 (off3_eq k 1 1 (by decide)) (by decide) y (by omega)⟩
    · exact ⟨_, List.getElem_mem (l := rowRects k) (n := 5) (by decide : 5 < 16), m 2#32 2 (off3_eq k 1 2 (by decide)) (by decide) y (by omega)⟩
    · exact ⟨_, List.getElem_mem (l := rowRects k) (n := 4) (by decide : 4 < 16), m 3#32 3 (off3_eq k 1 3 (by decide)) (by decide) y (by omega)⟩
    · exact ⟨_, List.getElem_mem (l := rowRects k) (n := 3) (by decide : 3 < 16), m 4#32 4 (off3_eq k 1 4 (by decide)) (by decide) y (by omega)⟩
    · exact ⟨_, List.getElem_mem (l := rowRects k) (n := 2) (by decide : 2 < 16), m 5#32 5 (off3_eq k 1 5 (by decide)) (by decide) y (by omega)⟩
    · exact ⟨_, List.getElem_mem (l := rowRects k) (n := 1) (by decide : 1 < 16), m 6#32 6 (off3_eq k 1 6 (by decide)) (by decide) y (by omega)⟩
    · exact ⟨_, List.getElem_mem (l := rowRects k) (n := 0) (by decide : 0 < 16), m 7#32 7 (off3_eq k 1 7 (by decide)) (by decide) y (by omega)⟩

set_option maxHeartbeats 400000 in
theorem trip_rects8 (k : Fin k0_t1_loop.trips) (f8) (f10) (f11) : ((trip_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 k).1 f8 f10 f11).map (fun p => p.1) = rowRects k := by
  unfold trip_k0_t1; rfl

theorem trip_cover8 (k : Fin k0_t1_loop.trips) (f8) (f10) (f11) (y : S8192x128.Idx) (h : k.val * 16 ≤ (y 0).val / 64) (h' : (y 0).val / 64 < (k.val + 1) * 16) :
    ∃ p ∈ (trip_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 k).1 f8 f10 f11, y ∈ p.1.set :=
  cover_of_map (trip_rects8 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 k f8 f10 f11) y (rows_cover k y h h')

/-- The loop: its stores to the output are rows of the output and cover the rows so far, and the first scratch holds the next group's exponentials. -/
theorem loop_facts (G8) (G10) (G11) (h10 : arg10.view.read (Elt F) G10 = (grp (arg2.view.read (Elt F) X2) (arg3.view.read (Elt F) X3) v6 (arg9.view.read (Elt F) X9)) 0) : ∀ K, K ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 K).1, ∀ x : p.1.shape.Idx, p.2 x = (rows64 (Orow (arg2.view.read (Elt F) X2) (arg3.view.read (Elt F) X3) (arg4.view.read (Elt F) X4) v6 (arg6.view.read (Elt F) X6) (arg9.view.read (Elt F) X9))) (p.1.emb x))
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 K).2.1) = (grp (arg2.view.read (Elt F) X2) (arg3.view.read (Elt F) X3) v6 (arg9.view.read (Elt F) X9)) (2 * K)
    ∧ ∀ y : S8192x128.Idx, (y 0).val / 64 < K * 16 → ∃ p ∈ (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 K).1, y ∈ p.1.set := by
  intro K
  induction K with
  | zero =>
    intro _
    exact ⟨fun p hp => absurd hp List.not_mem_nil, h10, fun y hy => absurd hy (by omega)⟩
  | succ K ih =>
    intro hK
    obtain ⟨h8, hr, hc⟩ := ih (by omega)
    have e := pb_k0_t1_succ (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 ⟨K, hK⟩
    rw [e]
    refine ⟨fun p hp => ?_, ?_, fun y hy => ?_⟩
    · rcases List.mem_append.mp hp with hp | hp
      · exact (trip_L8 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 ⟨K, hK⟩ _ _ _ hr).mem p hp
      · exact h8 p hp
    · funext y
      rw [View.writes_append]
      exact View.read_writes_apply_of_pieces _ _ ((grp (arg2.view.read (Elt F) X2) (arg3.view.read (Elt F) X3) v6 (arg9.view.read (Elt F) X9)) (2 * K + 2)) _ (trip_L10 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 ⟨K, hK⟩ _ _ _).mem y (trip_cover10 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 ⟨K, hK⟩ _ _ _ y)
    · by_cases h : (y 0).val / 64 < K * 16
      · obtain ⟨p, hp, hy⟩ := hc y h
        exact ⟨p, List.mem_append_right _ hp, hy⟩
      · obtain ⟨p, hp, hy⟩ := trip_cover8 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 ⟨K, hK⟩ _ _ _ y (by show K * 16 ≤ _; omega) (by show _ < (K + 1) * 16; omega)
        exact ⟨p, List.mem_append_left _ hp, hy⟩

theorem loop_done (G8) (G10) (G11) (h10 : arg10.view.read (Elt F) G10 = (grp (arg2.view.read (Elt F) X2) (arg3.view.read (Elt F) X3) v6 (arg9.view.read (Elt F) X9)) 0) :
    (∀ p ∈ (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 (Scf.trips k0_t1_loop.lb k0_t1_loop.ub k0_t1_loop.st)).1, ∀ x : p.1.shape.Idx, p.2 x = (rows64 (Orow (arg2.view.read (Elt F) X2) (arg3.view.read (Elt F) X3) (arg4.view.read (Elt F) X4) v6 (arg6.view.read (Elt F) X6) (arg9.view.read (Elt F) X9))) (p.1.emb x))
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 (Scf.trips k0_t1_loop.lb k0_t1_loop.ub k0_t1_loop.st)).2.1) = (grp (arg2.view.read (Elt F) X2) (arg3.view.read (Elt F) X3) v6 (arg9.view.read (Elt F) X9)) 14
    ∧ ∀ y : S8192x128.Idx, (y 0).val / 64 < 112 → ∃ p ∈ (pb_k0_t1 (F := F) 𝒱 c bd i arg2 harg2 arg3 harg3 arg4 harg4 arg5 harg5 arg6 harg6 arg7 harg7 arg8 harg8 arg9 harg9 arg10 harg10 arg11 harg11 (k0_pay241) v6 v266 v268 v305 v309 cst_124 X2 X3 X4 X6 X9 G8 G10 G11 (Scf.trips k0_t1_loop.lb k0_t1_loop.ub k0_t1_loop.st)).1, y ∈ p.1.set := by
  have h := loop_facts 𝒱 c bd i arg2 harg2 arg3 harg3 arg4 harg4 arg5 harg5 arg6 harg6 arg7 harg7 arg8 harg8 arg9 harg9 arg10 harg10 arg11 harg11 v6 v266 v268 v305 v309 cst_124 X2 X3 X4 X6 X9 G8 G10 G11 h10 _ (Nat.le_refl k0_t1_loop.trips)
  refine ⟨h.1, h.2.1.trans ?_, fun y hy => h.2.2 y ?_⟩
  · rw [trips_eq]
  · rw [trips_eq]; omega

end Trip

end Cert.KernelIdeal.Hand

end
-- ==== Proof.AttnBody.lean ====
/- The attention kernel's body, run: it builds the position bias at the first point of a head pair and otherwise
   finds it, and leaves every row of the output at that row's own value. -/
module

public import proofs.«01_k».proof.Proof.AttnTrip
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether a point is the first of its head pair. -/
abbrev FirstOf (i : grid0.Coords) : Prop :=
  Scalar.cmpi .ne (Scalar.extui (Scalar.cmpi .eq (BitVec.ofNat 32 (i 1).val) 0#32) : BitVec 32) 0#32 = 1#1

theorem inb_tile (b : Fin 8) (h : Fin 2) (j : Fin 4) :
    ∀ a : Fin S8x128x512.rank, (![b.val, h.val * 64, j.val * 128] : Fin S8x128x512.rank → ℕ) a + S1x64x128.size a ≤ S8x128x512.size a := fun a => by
  match a with
  | 0 => show b.val + 1 ≤ 8; omega
  | 1 => show h.val * 64 + 64 ≤ 128; omega
  | 2 => show j.val * 128 + 128 ≤ 512; omega

def tileRect (b : Fin 8) (h : Fin 2) (j : Fin 4) : Rect S8x128x512 :=
  Rect.unit (![b.val, h.val * 64, j.val * 128] : Fin S8x128x512.rank → ℕ) S1x64x128.size (inb_tile b h j)

/-- The stores of the bias, the last first. -/
def biasRects : List (Rect S8x128x512) :=
  (List.finRange 2).reverse.flatMap fun h => (List.finRange 8).reverse.flatMap fun b => (List.finRange 4).reverse.map fun j => tileRect b h j

theorem bias_cover (y : S8x128x512.Idx) : ∃ r ∈ biasRects, y ∈ r.set := by
  have h0 : (y 0).val < 8 := (y 0).isLt
  have h1 : (y 1).val < 128 := (y 1).isLt
  have h2 : (y 2).val < 512 := (y 2).isLt
  refine ⟨tileRect ⟨(y 0).val, h0⟩ ⟨(y 1).val / 64, by omega⟩ ⟨(y 2).val / 128, by omega⟩,
    List.mem_flatMap.mpr ⟨_, List.mem_reverse.mpr (List.mem_finRange _), List.mem_flatMap.mpr ⟨_, List.mem_reverse.mpr (List.mem_finRange _),
      List.mem_map.mpr ⟨_, List.mem_reverse.mpr (List.mem_finRange _), rfl⟩⟩⟩, Rect.mem_set_unit.mpr fun a => ?_⟩
  match a with
  | 0 => show (y 0).val ≤ (y 0).val ∧ (y 0).val < (y 0).val + 1; omega
  | 1 => show (y 1).val / 64 * 64 ≤ (y 1).val ∧ (y 1).val < (y 1).val / 64 * 64 + 64; omega
  | 2 => show (y 2).val / 128 * 128 ≤ (y 2).val ∧ (y 2).val < (y 2).val / 128 * 128 + 128; omega

theorem inb_last (u : Fin 16) : ∀ a : Fin S8192x128.rank, (![(112 + u.val) * 64, 0] : Fin S8192x128.rank → ℕ) a + S64x128.size a ≤ S8192x128.size a := fun a => by
  match a with
  | 0 => show (112 + u.val) * 64 + 64 ≤ 8192; omega
  | 1 => show 0 + 128 ≤ 128; omega

def lastRect (u : Fin 16) : Rect S8192x128 := Rect.unit (![(112 + u.val) * 64, 0] : Fin S8192x128.rank → ℕ) S64x128.size (inb_last u)

/-- The rows stored after the loop, the last first. -/
def lastRects : List (Rect S8192x128) := (List.finRange 16).reverse.map lastRect

theorem last_cover (y : S8192x128.Idx) (h : 112 ≤ (y 0).val / 64) : ∃ r ∈ lastRects, y ∈ r.set := by
  have h0 : (y 0).val < 8192 := (y 0).isLt
  have h1 : (y 1).val < 128 := (y 1).isLt
  refine ⟨lastRect ⟨(y 0).val / 64 - 112, by omega⟩, List.mem_map.mpr ⟨_, List.mem_reverse.mpr (List.mem_finRange _), rfl⟩, Rect.mem_set_unit.mpr fun a => ?_⟩
  match a with
  | 0 => show (112 + ((y 0).val / 64 - 112)) * 64 ≤ (y 0).val ∧ (y 0).val < (112 + ((y 0).val / 64 - 112)) * 64 + 64; omega
  | 1 => show 0 ≤ (y 1).val ∧ (y 1).val < 0 + 128; omega

/-- The loads of the first group's operands, which follow the building of the bias. -/
def rest44 (i : grid0.Coords) (arg2 : Memref sig .tc .vmem S8192x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x256 .bf16) (harg6 : arg6.IsWhole) (arg7 : Memref sig .tc .vmem S2x16x128 .f32) (harg7 : arg7.IsWhole) (arg8 : Memref sig .tc .vmem S8192x128 .bf16) (harg8 : arg8.IsWhole) (arg9 : Memref sig .tc .vmem S8x128x512 .f32) (harg9 : arg9.IsWhole) (arg10 : Memref sig .tc .vmem S1024x768 .bf16) (harg10 : arg10.IsWhole) (arg11 : Memref sig .tc .vmem S1024x768 .bf16) (harg11 : arg11.IsWhole) : Prog (TpuEff nD τ sig (Elt F) Λ₀ .tc) (Σ' (v5 : IVec S64x128 1) (v6 : Vec F S256x128 .bf16) (v20 : FVec F S128x128 .bf16) (v22 : FVec F S256x256 .f32) (v31 : FVec F S128x512 .f32), FVec F S128x512 .f32) := do
  let v6 : Vec F S256x128 .bf16 ← Prog.lift (.load arg5 (Rect.unit (s := S256x128) ![0, 0] S256x128.size inb_S256x128_S256x128_0_0).toLoadRect (View.loadsAt_vmem h_S256x128))
  let v9 : Vec F S64x128 .bf16 ← Prog.lift (.load arg2 (Rect.unit (s := S8192x128) ![0, 0] S64x128.size inb_S8192x128_S64x128_0_0).toLoadRect (View.loadsAt_vmem h_S64x128))
  let v16 : Vec F S64x128 .bf16 ← Prog.lift (.load arg2 (Rect.unit (s := S8192x128) ![64, 0] S64x128.size inb_S8192x128_S64x128_64_0).toLoadRect (View.loadsAt_vmem h_S64x128))
  let v30 : Vec F S512x128 .bf16 ← Prog.lift (.load arg3 (Rect.unit (s := S8192x128) (k0_off1 4294967292#32) S512x128.size (k0_off1_inb 0)).toLoadRect (View.loadsAt_vmem h_S512x128))
  let v33 : Vec F S1x128x512 .f32 ← Prog.lift (.load arg9 (Rect.unit (s := S8x128x512) (k0_off2 4294967292#32 0#32) S1x128x512.size (k0_off2_inb 0)).toLoadRect (View.loadsAt_vmem h_S1x128x512))
  pure ⟨k0_pay241, v6, k0_pay243 v16, k0_pay244 v6 v9 v16, k0_pay245 v9 v30, k0_pay246 v33⟩

set_option maxHeartbeats 1000000 in
theorem part44_cases (i : grid0.Coords) (arg2 : Memref sig .tc .vmem S8192x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x256 .bf16) (harg6 : arg6.IsWhole) (arg7 : Memref sig .tc .vmem S2x16x128 .f32) (harg7 : arg7.IsWhole) (arg8 : Memref sig .tc .vmem S8192x128 .bf16) (harg8 : arg8.IsWhole) (arg9 : Memref sig .tc .vmem S8x128x512 .f32) (harg9 : arg9.IsWhole) (arg10 : Memref sig .tc .vmem S1024x768 .bf16) (harg10 : arg10.IsWhole) (arg11 : Memref sig .tc .vmem S1024x768 .bf16) (harg11 : arg11.IsWhole) : k0_part44_skel (F := F) i arg2 harg2 arg3 harg3 arg4 harg4 arg5 harg5 arg6 harg6 arg7 harg7 arg8 harg8 arg9 harg9 arg10 harg10 arg11 harg11 =
    if _ : FirstOf i then do
      let ⟨v1036, v1043, v1048⟩ : Σ' (v1036 : IVec S64x128 1) (v1043 : FVec F S64x128 .f32), FVec F S64x128 .f32 ← k0_part1 i arg2 harg2 arg3 harg3 arg4 harg4 arg5 harg5 arg6 harg6 arg7 harg7 arg8 harg8 arg9 harg9 arg10 harg10 arg11 harg11
      let ⟨v1050, v1057, v1064, v1071, v1078, v1083⟩ : Σ' (v1050 : FVec F S64x128 .f32) (v1057 : FVec F S64x128 .f32) (v1064 : FVec F S64x128 .f32) (v1071 : FVec F S64x128 .f32) (v1078 : FVec F S64x128 .f32), FVec F S64x128 .f32 ← k0_part2 i arg2 harg2 arg3 harg3 arg4 harg4 arg5 harg5 arg6 harg6 arg7 harg7 arg8 harg8 arg9 harg9 arg10 harg10 arg11 harg11 v1036 v1048
      let ⟨v1085, v1092, v1099, v1106, v1113, v1118⟩ : Σ' (v1085 : FVec F S64x128 .f32) (v1092 : FVec F S64x128 .f32) (v1099 : FVec F S64x128 .f32) (v1106 : FVec F S64x128 .f32) (v1113 : FVec F S64x128 .f32), FVec F S64x128 .f32 ← k0_part3 i arg2 harg2 arg3 harg3 arg4 harg4 arg5 harg5 arg6 harg6 arg7 harg7 arg8 harg8 arg9 harg9 arg10 harg10 arg11 harg11 v1036 v1083
      let ⟨v1120, v1127, v1134⟩ : Σ' (v1120 : FVec F S64x128 .f32) (v1127 : FVec F S64x128 .f32), FVec F S64x128 .f32 ← k0_part4 i arg2 harg2 arg3 harg3 arg4 harg4 arg5 harg5 arg6 harg6 arg7 harg7 arg8 harg8 arg9 harg9 arg10 harg10 arg11 harg11 v1036 v1043 v1057 v1071 v1085 v1118
      k0_part5 i arg2 harg2 arg3 harg3 arg4 harg4 arg5 harg5 arg6 harg6 arg7 harg7 arg8 harg8 arg9 harg9 arg10 harg10 arg11 harg11 v1050 v1057 v1064 v1071 v1078 v1085 v1092 v1099
      let v1200 : FVec F S1x64x128 .f32 ← k0_part6 i arg2 harg2 arg3 harg3 arg4 harg4 arg5 harg5 arg6 harg6 arg7 harg7 arg8 harg8 arg9 harg9 arg10 harg10 arg11 harg11 v1071 v1078 v1085 v1092 v1099 v1106 v1113
      k0_part7 i arg2 harg2 arg3 harg3 arg4 harg4 arg5 harg5 arg6 harg6 arg7 harg7 arg8 harg8 arg9 harg9 arg10 harg10 arg11 harg11 v1085 v1092 v1099 v1106 v1113 v1120 v1127 v1200
      let ⟨v1237, v1244, v1251, v1258⟩ : Σ' (v1237 : FVec F S64x128 .f32) (v1244 : FVec F S64x128 .f32) (v1251 : FVec F S64x128 .f32), FVec F S64x128 .f32 ← k0_part8 i arg2 harg2 arg3 harg3 arg4 harg4 arg5 harg5 arg6 harg6 arg7 harg7 arg8 harg8 arg9 harg9 arg10 harg10 arg11 harg11 v1036 v1120 v1134
      let ⟨v1265, v1272, v1279, v1286, v1293⟩ : Σ' (v1265 : FVec F S64x128 .f32) (v1272 : FVec F S64x128 .f32) (v1279 : FVec F S64x128 .f32) (v1286 : FVec F S64x128 .f32), FVec F S64x128 .f32 ← k0_part9 i arg2 harg2 arg3 harg3 arg4 harg4 arg5 harg5 arg6 harg6 arg7 harg7 arg8 harg8 arg9 harg9 arg10 harg10 arg11 harg11 v1036
      let ⟨v1300, v1307, v1314, v1321, v1328⟩ : Σ' (v1300 : FVec F S64x128 .f32) (v1307 : FVec F S64x128 .f32) (v1314 : FVec F S64x128 .f32) (v1321 : FVec F S64x128 .f32), FVec F S64x128 .f32 ← k0_part10 i arg2 harg2 arg3 harg3 arg4 harg4 arg5 harg5 arg6 harg6 arg7 harg7 arg8 harg8 arg9 harg9 arg10 harg10 arg11 harg11 v1036
      k0_part11 i arg2 harg2 arg3 harg3 arg4 harg4 arg5 harg5 arg6 harg6 arg7 harg7 arg8 harg8 arg9 harg9 arg10 harg10 arg11 harg11 v1237 v1244 v1251 v1258 v1265 v1272 v1279 v1286
      k0_part12 i arg2 harg2 arg3 harg3 arg4 harg4 arg5 harg5 arg6 harg6 arg7 harg7 arg8 harg8 arg9 harg9 arg10 harg10 arg11 harg11 v1251 v1258 v1265 v1272 v1279 v1286 v1293 v1300
      let v1406 : FVec F S1x64x128 .f32 ← k0_part13 i arg2 harg2 arg3 harg3 arg4 harg4 arg5 harg5 arg6 harg6 arg7 harg7 arg8 harg8 arg9 harg9 arg10 harg10 arg11 harg11 v1272 v1279 v1286 v1293 v1300 v1307 v1314
      Prog.lift (.store arg9 (Rect.unit (s := S8x128x512) ![6, 64, 128] S1x64x128.size inb_S8x128x512_S1x64x128_6_64_128) v1406 Finset.univ (View.stores_vmem_bits_univ h_S1x64x128 rfl) (.inl rfl))
      let v1407 : Vec F S1x64x128 .f32 ← Prog.lift (.load arg9 (Rect.unit (s := S8x128x512) ![6, 64, 256] S1x64x128.size inb_S8x128x512_S1x64x128_6_64_256).toLoadRect (View.loadsAt_vmem h_S1x64x128))
      Prog.lift (.store arg9 (Rect.unit (s := S8x128x512) ![6, 64, 256] S1x64x128.size inb_S8x128x512_S1x64x128_6_64_256) (k0_pay235 v1307) Finset.univ (View.stores_vmem_bits_univ h_S1x64x128 rfl) (.inl rfl))
      let v1410 : Vec F S1x64x128 .f32 ← Prog.lift (.load arg9 (Rect.unit (s := S8x128x512) ![6, 64, 384] S1x64x128.size inb_S8x128x512_S1x64x128_6_64_384).toLoadRect (View.loadsAt_vmem h_S1x64x128))
      Prog.lift (.store arg9 (Rect.unit (s := S8x128x512) ![6, 64, 384] S1x64x128.size inb_S8x128x512_S1x64x128_6_64_384) (k0_pay236 v1321) Finset.univ (View.stores_vmem_bits_univ h_S1x64x128 rfl) (.inl rfl))
      let v1413 : Vec F S1x64x128 .f32 ← Prog.lift (.load arg9 (Rect.unit (s := S8x128x512) ![7, 64, 0] S1x64x128.size inb_S8x128x512_S1x64x128_7_64_0).toLoadRect (View.loadsAt_vmem h_S1x64x128))
      Prog.lift (.store arg9 (Rect.unit (s := S8x128x512) ![7, 64, 0] S1x64x128.size inb_S8x128x512_S1x64x128_7_64_0) (k0_pay237 v1286) Finset.univ (View.stores_vmem_bits_univ h_S1x64x128 rfl) (.inl rfl))
      let v1416 : Vec F S1x64x128 .f32 ← Prog.lift (.load arg9 (Rect.unit (s := S8x128x512) ![7, 64, 128] S1x64x128.size inb_S8x128x512_S1x64x128_7_64_128).toLoadRect (View.loadsAt_vmem h_S1x64x128))
      Prog.lift (.store arg9 (Rect.unit (s := S8x128x512) ![7, 64, 128] S1x64x128.size inb_S8x128x512_S1x64x128_7_64_128) (k0_pay238 v1300) Finset.univ (View.stores_vmem_bits_univ h_S1x64x128 rfl) (.inl rfl))
      let v1419 : Vec F S1x64x128 .f32 ← Prog.lift (.load arg9 (Rect.unit (s := S8x128x512) ![7, 64, 256] S1x64x128.size inb_S8x128x512_S1x64x128_7_64_256).toLoadRect (View.loadsAt_vmem h_S1x64x128))
      Prog.lift (.store arg9 (Rect.unit (s := S8x128x512) ![7, 64, 256] S1x64x128.size inb_S8x128x512_S1x64x128_7_64_256) (k0_pay239 v1314) Finset.univ (View.stores_vmem_bits_univ h_S1x64x128 rfl) (.inl rfl))
      let v1422 : Vec F S1x64x128 .f32 ← Prog.lift (.load arg9 (Rect.unit (s := S8x128x512) ![7, 64, 384] S1x64x128.size inb_S8x128x512_S1x64x128_7_64_384).toLoadRect (View.loadsAt_vmem h_S1x64x128))
      Prog.lift (.store arg9 (Rect.unit (s := S8x128x512) ![7, 64, 384] S1x64x128.size inb_S8x128x512_S1x64x128_7_64_384) (k0_pay240 v1328) Finset.univ (View.stores_vmem_bits_univ h_S1x64x128 rfl) (.inl rfl))
      rest44 i arg2 harg2 arg3 harg3 arg4 harg4 arg5 harg5 arg6 harg6 arg7 harg7 arg8 harg8 arg9 harg9 arg10 harg10 arg11 harg11
    else rest44 i arg2 harg2 arg3 harg3 arg4 harg4 arg5 harg5 arg6 harg6 arg7 harg7 arg8 harg8 arg9 harg9 arg10 harg10 arg11 harg11 := rfl

variable (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S8192x256 .bf16) (harg4 : arg4.IsWhole) (arg5 : Memref sig .tc .vmem S256x128 .bf16) (harg5 : arg5.IsWhole) (arg6 : Memref sig .tc .vmem S256x256 .bf16) (harg6 : arg6.IsWhole) (arg7 : Memref sig .tc .vmem S2x16x128 .f32) (harg7 : arg7.IsWhole) (arg8 : Memref sig .tc .vmem S8192x128 .bf16) (harg8 : arg8.IsWhole) (arg9 : Memref sig .tc .vmem S8x128x512 .f32) (harg9 : arg9.IsWhole) (arg10 : Memref sig .tc .vmem S1024x768 .bf16) (harg10 : arg10.IsWhole) (arg11 : Memref sig .tc .vmem S1024x768 .bf16) (harg11 : arg11.IsWhole)
    (x2 : Vec F S8192x128 .bf16) (x3 : Vec F S8192x128 .bf16) (x4 : Vec F S8192x256 .bf16) (x5 : Vec F S256x128 .bf16) (x6 : Vec F S256x256 .bf16) (x7 : Vec F S2x16x128 .f32)

set_option maxHeartbeats 4000000 in

/-- Building the bias: what follows may count on it. -/
theorem biasRun (hC : FirstOf i) {α : Type} (jp : Prog (TpuEff nD τ sig (Elt F) Λ₀ .tc) α) (R : sProp 𝕄) (W : α → sProp 𝕄)
    (h : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare (biasOf x7) ∗ (∃ d, owns (c : Thread nD τ) arg10 fullShare d) ∗ (∃ d, owns (c : Thread nD τ) arg11 fullShare d) ∗ (R))
      ⊢ wp frame (wpE (defs₀ (F := F)) Variants.none c none) Set.univ jp W) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, ⌜¬ FirstOf i → d = biasOf x7⌝ ∗ owns (c : Thread nD τ) arg9 fullShare d) ∗ (∃ d, owns (c : Thread nD τ) arg10 fullShare d) ∗ (∃ d, owns (c : Thread nD τ) arg11 fullShare d) ∗ (R))
      ⊢ wp frame (wpE (defs₀ (F := F)) Variants.none c none) Set.univ (do
      let ⟨v1036, v1043, v1048⟩ : Σ' (v1036 : IVec S64x128 1) (v1043 : FVec F S64x128 .f32), FVec F S64x128 .f32 ← k0_part1 i arg2 harg2 arg3 harg3 arg4 harg4 arg5 harg5 arg6 harg6 arg7 harg7 arg8 harg8 arg9 harg9 arg10 harg10 arg11 harg11
      let ⟨v1050, v1057, v1064, v1071, v1078, v1083⟩ : Σ' (v1050 : FVec F S64x128 .f32) (v1057 : FVec F S64x128 .f32) (v1064 : FVec F S64x128 .f32) (v1071 : FVec F S64x128 .f32) (v1078 : FVec F S64x128 .f32), FVec F S64x128 .f32 ← k0_part2 i arg2 harg2 arg3 harg3 arg4 harg4 arg5 harg5 arg6 harg6 arg7 harg7 arg8 harg8 arg9 harg9 arg10 harg10 arg11 harg11 v1036 v1048
      let ⟨v1085, v1092, v1099, v1106, v1113, v1118⟩ : Σ' (v1085 : FVec F S64x128 .f32) (v1092 : FVec F S64x128 .f32) (v1099 : FVec F S64x128 .f32) (v1106 : FVec F S64x128 .f32) (v1113 : FVec F S64x128 .f32), FVec F S64x128 .f32 ← k0_part3 i arg2 harg2 arg3 harg3 arg4 harg4 arg5 harg5 arg6 harg6 arg7 harg7 arg8 harg8 arg9 harg9 arg10 harg10 arg11 harg11 v1036 v1083
      let ⟨v1120, v1127, v1134⟩ : Σ' (v1120 : FVec F S64x128 .f32) (v1127 : FVec F S64x128 .f32), FVec F S64x128 .f32 ← k0_part4 i arg2 harg2 arg3 harg3 arg4 harg4 arg5 harg5 arg6 harg6 arg7 harg7 arg8 harg8 arg9 harg9 arg10 harg10 arg11 harg11 v1036 v1043 v1057 v1071 v1085 v1118
      k0_part5 i arg2 harg2 arg3 harg3 arg4 harg4 arg5 harg5 arg6 harg6 arg7 harg7 arg8 harg8 arg9 harg9 arg10 harg10 arg11 harg11 v1050 v1057 v1064 v1071 v1078 v1085 v1092 v1099
      let v1200 : FVec F S1x64x128 .f32 ← k0_part6 i arg2 harg2 arg3 harg3 arg4 harg4 arg5 harg5 arg6 harg6 arg7 harg7 arg8 harg8 arg9 harg9 arg10 harg10 arg11 harg11 v1071 v1078 v1085 v1092 v1099 v1106 v1113
      k0_part7 i arg2 harg2 arg3 harg3 arg4 harg4 arg5 harg5 arg6 harg6 arg7 harg7 arg8 harg8 arg9 harg9 arg10 harg10 arg11 harg11 v1085 v1092 v1099 v1106 v1113 v1120 v1127 v1200
      let ⟨v1237, v1244, v1251, v1258⟩ : Σ' (v1237 : FVec F S64x128 .f32) (v1244 : FVec F S64x128 .f32) (v1251 : FVec F S64x128 .f32), FVec F S64x128 .f32 ← k0_part8 i arg2 harg2 arg3 harg3 arg4 harg4 arg5 harg5 arg6 harg6 arg7 harg7 arg8 harg8 arg9 harg9 arg10 harg10 arg11 harg11 v1036 v1120 v1134
      let ⟨v1265, v1272, v1279, v1286, v1293⟩ : Σ' (v1265 : FVec F S64x128 .f32) (v1272 : FVec F S64x128 .f32) (v1279 : FVec F S64x128 .f32) (v1286 : FVec F S64x128 .f32), FVec F S64x128 .f32 ← k0_part9 i arg2 harg2 arg3 harg3 arg4 harg4 arg5 harg5 arg6 harg6 arg7 harg7 arg8 harg8 arg9 harg9 arg10 harg10 arg11 harg11 v1036
      let ⟨v1300, v1307, v1314, v1321, v1328⟩ : Σ' (v1300 : FVec F S64x128 .f32) (v1307 : FVec F S64x128 .f32) (v1314 : FVec F S64x128 .f32) (v1321 : FVec F S64x128 .f32), FVec F S64x128 .f32 ← k0_part10 i arg2 harg2 arg3 harg3 arg4 harg4 arg5 harg5 arg6 harg6 arg7 harg7 arg8 harg8 arg9 harg9 arg10 harg10 arg11 harg11 v1036
      k0_part11 i arg2 harg2 arg3 harg3 arg4 harg4 arg5 harg5 arg6 harg6 arg7 harg7 arg8 harg8 arg9 harg9 arg10 harg10 arg11 harg11 v1237 v1244 v1251 v1258 v1265 v1272 v1279 v1286
      k0_part12 i arg2 harg2 arg3 harg3 arg4 harg4 arg5 harg5 arg6 harg6 arg7 harg7 arg8 harg8 arg9 harg9 arg10 harg10 arg11 harg11 v1251 v1258 v1265 v1272 v1279 v1286 v1293 v1300
      let v1406 : FVec F S1x64x128 .f32 ← k0_part13 i arg2 harg2 arg3 harg3 arg4 harg4 arg5 harg5 arg6 harg6 arg7 harg7 arg8 harg8 arg9 harg9 arg10 harg10 arg11 harg11 v1272 v1279 v1286 v1293 v1300 v1307 v1314
      Prog.lift (.store arg9 (Rect.unit (s := S8x128x512) ![6, 64, 128] S1x64x128.size inb_S8x128x512_S1x64x128_6_64_128) v1406 Finset.univ (View.stores_vmem_bits_univ h_S1x64x128 rfl) (.inl rfl))
      let v1407 : Vec F S1x64x128 .f32 ← Prog.lift (.load arg9 (Rect.unit (s := S8x128x512) ![6, 64, 256] S1x64x128.size inb_S8x128x512_S1x64x128_6_64_256).toLoadRect (View.loadsAt_vmem h_S1x64x128))
      Prog.lift (.store arg9 (Rect.unit (s := S8x128x512) ![6, 64, 256] S1x64x128.size inb_S8x128x512_S1x64x128_6_64_256) (k0_pay235 v1307) Finset.univ (View.stores_vmem_bits_univ h_S1x64x128 rfl) (.inl rfl))
      let v1410 : Vec F S1x64x128 .f32 ← Prog.lift (.load arg9 (Rect.unit (s := S8x128x512) ![6, 64, 384] S1x64x128.size inb_S8x128x512_S1x64x128_6_64_384).toLoadRect (View.loadsAt_vmem h_S1x64x128))
      Prog.lift (.store arg9 (Rect.unit (s := S8x128x512) ![6, 64, 384] S1x64x128.size inb_S8x128x512_S1x64x128_6_64_384) (k0_pay236 v1321) Finset.univ (View.stores_vmem_bits_univ h_S1x64x128 rfl) (.inl rfl))
      let v1413 : Vec F S1x64x128 .f32 ← Prog.lift (.load arg9 (Rect.unit (s := S8x128x512) ![7, 64, 0] S1x64x128.size inb_S8x128x512_S1x64x128_7_64_0).toLoadRect (View.loadsAt_vmem h_S1x64x128))
      Prog.lift (.store arg9 (Rect.unit (s := S8x128x512) ![7, 64, 0] S1x64x128.size inb_S8x128x512_S1x64x128_7_64_0) (k0_pay237 v1286) Finset.univ (View.stores_vmem_bits_univ h_S1x64x128 rfl) (.inl rfl))
      let v1416 : Vec F S1x64x128 .f32 ← Prog.lift (.load arg9 (Rect.unit (s := S8x128x512) ![7, 64, 128] S1x64x128.size inb_S8x128x512_S1x64x128_7_64_128).toLoadRect (View.loadsAt_vmem h_S1x64x128))
      Prog.lift (.store arg9 (Rect.unit (s := S8x128x512) ![7, 64, 128] S1x64x128.size inb_S8x128x512_S1x64x128_7_64_128) (k0_pay238 v1300) Finset.univ (View.stores_vmem_bits_univ h_S1x64x128 rfl) (.inl rfl))
      let v1419 : Vec F S1x64x128 .f32 ← Prog.lift (.load arg9 (Rect.unit (s := S8x128x512) ![7, 64, 256] S1x64x128.size inb_S8x128x512_S1x64x128_7_64_256).toLoadRect (View.loadsAt_vmem h_S1x64x128))
      Prog.lift (.store arg9 (Rect.unit (s := S8x128x512) ![7, 64, 256] S1x64x128.size inb_S8x128x512_S1x64x128_7_64_256) (k0_pay239 v1314) Finset.univ (View.stores_vmem_bits_univ h_S1x64x128 rfl) (.inl rfl))
      let v1422 : Vec F S1x64x128 .f32 ← Prog.lift (.load arg9 (Rect.unit (s := S8x128x512) ![7, 64, 384] S1x64x128.size inb_S8x128x512_S1x64x128_7_64_384).toLoadRect (View.loadsAt_vmem h_S1x64x128))
      Prog.lift (.store arg9 (Rect.unit (s := S8x128x512) ![7, 64, 384] S1x64x128.size inb_S8x128x512_S1x64x128_7_64_384) (k0_pay240 v1328) Finset.univ (View.stores_vmem_bits_univ h_S1x64x128 rfl) (.inl rfl))
      jp) W := by
  unfold owns at h ⊢
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %hd9, %f9, %hf9, H9⟩, ⟨%d10, %f10, -, H10⟩, ⟨%d11, %f11, -, H11⟩, Hk⟩
  subst hf2 hf3 hf4 hf5 hf6 hf7
  sl_exec_parts
  skip
  iapply h
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, _; isplitr; swap; · iexact H8
    ipureintro; rfl
  isplitl [H9]
  · iexists _; isplitr; swap; · iexact H9
    ipureintro
    funext y
    have t := fun (b : Fin 8) (h : Fin 2) (j : Fin 4) {off : Fin 3 → ℕ} {inb} (e : off = ![h.val, b.val + 2 * j.val, 0]) (x : S1x64x128.Idx) =>
      bias_tile (arg7.view.read (Elt F) f7) b.val h.val j.val
        (load_rp arg7.view f7 h.val (b.val + 2 * j.val) h.isLt (by omega) (off := off) (inb := inb) e) rfl (inb := inb_tile b h j) x
    exact View.read_writes_apply_of_pieces _ _ (biasOf (arg7.view.read (Elt F) f7)) _
      (View.PiecesOf.mem (by
        unfold biasRun.sl.H9_49
        exact ⟨t 7 1 3 rfl, t 7 1 2 rfl, t 7 1 1 rfl, t 7 1 0 rfl, t 6 1 3 rfl, t 6 1 2 rfl, t 6 1 1 rfl, t 6 1 0 rfl, t 5 1 3 rfl, t 5 1 2 rfl, t 5 1 1 rfl, t 5 1 0 rfl, t 4 1 3 rfl, t 4 1 2 rfl, t 4 1 1 rfl, t 4 1 0 rfl, t 3 1 3 rfl, t 3 1 2 rfl, t 3 1 1 rfl, t 3 1 0 rfl, t 2 1 3 rfl, t 2 1 2 rfl, t 2 1 1 rfl, t 2 1 0 rfl, t 1 1 3 rfl, t 1 1 2 rfl, t 1 1 1 rfl, t 1 1 0 rfl, t 0 1 3 rfl, t 0 1 2 rfl, t 0 1 1 rfl, t 0 1 0 rfl, t 7 0 3 rfl, t 7 0 2 rfl, t 7 0 1 rfl, t 7 0 0 rfl, t 6 0 3 rfl, t 6 0 2 rfl, t 6 0 1 rfl, t 6 0 0 rfl, t 5 0 3 rfl, t 5 0 2 rfl, t 5 0 1 rfl, t 5 0 0 rfl, t 4 0 3 rfl, t 4 0 2 rfl, t 4 0 1 rfl, t 4 0 0 rfl, t 3 0 3 rfl, t 3 0 2 rfl, t 3 0 1 rfl, t 3 0 0 rfl, t 2 0 3 rfl, t 2 0 2 rfl, t 2 0 1 rfl, t 2 0 0 rfl, t 1 0 3 rfl, t 1 0 2 rfl, t 1 0 1 rfl, t 1 0 0 rfl, t 0 0 3 rfl, t 0 0 2 rfl, t 0 0 1 rfl, t 0 0 0 rfl, trivial⟩)) y
      (cover_of_map (R := biasRects) rfl y (bias_cover y))
  isplitl [H10]
  · iexists _, _; isplitr; swap; · iexact H10
    ipureintro; rfl
  isplitl [H11]
  · iexists _, _; isplitr; swap; · iexact H11
    ipureintro; rfl
  iexact Hk

theorem bias_cases {α : Type} (jp : Prog (TpuEff nD τ sig (Elt F) Λ₀ .tc) α)
    (R : sProp 𝕄) (W : α → sProp 𝕄)
    (h : iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare (biasOf x7) ∗ (∃ d, owns (c : Thread nD τ) arg10 fullShare d) ∗ (∃ d, owns (c : Thread nD τ) arg11 fullShare d) ∗ (R)) ⊢ wp frame (wpE (defs₀ (F := F)) Variants.none c none) Set.univ jp W) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, ⌜¬ FirstOf i → d = biasOf x7⌝ ∗ owns (c : Thread nD τ) arg9 fullShare d) ∗ (∃ d, owns (c : Thread nD τ) arg10 fullShare d) ∗ (∃ d, owns (c : Thread nD τ) arg11 fullShare d) ∗ (R))
      ⊢ wp frame (wpE (defs₀ (F := F)) Variants.none c none) Set.univ (if _ : FirstOf i then do
      let ⟨v1036, v1043, v1048⟩ : Σ' (v1036 : IVec S64x128 1) (v1043 : FVec F S64x128 .f32), FVec F S64x128 .f32 ← k0_part1 i arg2 harg2 arg3 harg3 arg4 harg4 arg5 harg5 arg6 harg6 arg7 harg7 arg8 harg8 arg9 harg9 arg10 harg10 arg11 harg11
      let ⟨v1050, v1057, v1064, v1071, v1078, v1083⟩ : Σ' (v1050 : FVec F S64x128 .f32) (v1057 : FVec F S64x128 .f32) (v1064 : FVec F S64x128 .f32) (v1071 : FVec F S64x128 .f32) (v1078 : FVec F S64x128 .f32), FVec F S64x128 .f32 ← k0_part2 i arg2 harg2 arg3 harg3 arg4 harg4 arg5 harg5 arg6 harg6 arg7 harg7 arg8 harg8 arg9 harg9 arg10 harg10 arg11 harg11 v1036 v1048
      let ⟨v1085, v1092, v1099, v1106, v1113, v1118⟩ : Σ' (v1085 : FVec F S64x128 .f32) (v1092 : FVec F S64x128 .f32) (v1099 : FVec F S64x128 .f32) (v1106 : FVec F S64x128 .f32) (v1113 : FVec F S64x128 .f32), FVec F S64x128 .f32 ← k0_part3 i arg2 harg2 arg3 harg3 arg4 harg4 arg5 harg5 arg6 harg6 arg7 harg7 arg8 harg8 arg9 harg9 arg10 harg10 arg11 harg11 v1036 v1083
      let ⟨v1120, v1127, v1134⟩ : Σ' (v1120 : FVec F S64x128 .f32) (v1127 : FVec F S64x128 .f32), FVec F S64x128 .f32 ← k0_part4 i arg2 harg2 arg3 harg3 arg4 harg4 arg5 harg5 arg6 harg6 arg7 harg7 arg8 harg8 arg9 harg9 arg10 harg10 arg11 harg11 v1036 v1043 v1057 v1071 v1085 v1118
      k0_part5 i arg2 harg2 arg3 harg3 arg4 harg4 arg5 harg5 arg6 harg6 arg7 harg7 arg8 harg8 arg9 harg9 arg10 harg10 arg11 harg11 v1050 v1057 v1064 v1071 v1078 v1085 v1092 v1099
      let v1200 : FVec F S1x64x128 .f32 ← k0_part6 i arg2 harg2 arg3 harg3 arg4 harg4 arg5 harg5 arg6 harg6 arg7 harg7 arg8 harg8 arg9 harg9 arg10 harg10 arg11 harg11 v1071 v1078 v1085 v1092 v1099 v1106 v1113
      k0_part7 i arg2 harg2 arg3 harg3 arg4 harg4 arg5 harg5 arg6 harg6 arg7 harg7 arg8 harg8 arg9 harg9 arg10 harg10 arg11 harg11 v1085 v1092 v1099 v1106 v1113 v1120 v1127 v1200
      let ⟨v1237, v1244, v1251, v1258⟩ : Σ' (v1237 : FVec F S64x128 .f32) (v1244 : FVec F S64x128 .f32) (v1251 : FVec F S64x128 .f32), FVec F S64x128 .f32 ← k0_part8 i arg2 harg2 arg3 harg3 arg4 harg4 arg5 harg5 arg6 harg6 arg7 harg7 arg8 harg8 arg9 harg9 arg10 harg10 arg11 harg11 v1036 v1120 v1134
      let ⟨v1265, v1272, v1279, v1286, v1293⟩ : Σ' (v1265 : FVec F S64x128 .f32) (v1272 : FVec F S64x128 .f32) (v1279 : FVec F S64x128 .f32) (v1286 : FVec F S64x128 .f32), FVec F S64x128 .f32 ← k0_part9 i arg2 harg2 arg3 harg3 arg4 harg4 arg5 harg5 arg6 harg6 arg7 harg7 arg8 harg8 arg9 harg9 arg10 harg10 arg11 harg11 v1036
      let ⟨v1300, v1307, v1314, v1321, v1328⟩ : Σ' (v1300 : FVec F S64x128 .f32) (v1307 : FVec F S64x128 .f32) (v1314 : FVec F S64x128 .f32) (v1321 : FVec F S64x128 .f32), FVec F S64x128 .f32 ← k0_part10 i arg2 harg2 arg3 harg3 arg4 harg4 arg5 harg5 arg6 harg6 arg7 harg7 arg8 harg8 arg9 harg9 arg10 harg10 arg11 harg11 v1036
      k0_part11 i arg2 harg2 arg3 harg3 arg4 harg4 arg5 harg5 arg6 harg6 arg7 harg7 arg8 harg8 arg9 harg9 arg10 harg10 arg11 harg11 v1237 v1244 v1251 v1258 v1265 v1272 v1279 v1286
      k0_part12 i arg2 harg2 arg3 harg3 arg4 harg4 arg5 harg5 arg6 harg6 arg7 harg7 arg8 harg8 arg9 harg9 arg10 harg10 arg11 harg11 v1251 v1258 v1265 v1272 v1279 v1286 v1293 v1300
      let v1406 : FVec F S1x64x128 .f32 ← k0_part13 i arg2 harg2 arg3 harg3 arg4 harg4 arg5 harg5 arg6 harg6 arg7 harg7 arg8 harg8 arg9 harg9 arg10 harg10 arg11 harg11 v1272 v1279 v1286 v1293 v1300 v1307 v1314
      Prog.lift (.store arg9 (Rect.unit (s := S8x128x512) ![6, 64, 128] S1x64x128.size inb_S8x128x512_S1x64x128_6_64_128) v1406 Finset.univ (View.stores_vmem_bits_univ h_S1x64x128 rfl) (.inl rfl))
      let v1407 : Vec F S1x64x128 .f32 ← Prog.lift (.load arg9 (Rect.unit (s := S8x128x512) ![6, 64, 256] S1x64x128.size inb_S8x128x512_S1x64x128_6_64_256).toLoadRect (View.loadsAt_vmem h_S1x64x128))
      Prog.lift (.store arg9 (Rect.unit (s := S8x128x512) ![6, 64, 256] S1x64x128.size inb_S8x128x512_S1x64x128_6_64_256) (k0_pay235 v1307) Finset.univ (View.stores_vmem_bits_univ h_S1x64x128 rfl) (.inl rfl))
      let v1410 : Vec F S1x64x128 .f32 ← Prog.lift (.load arg9 (Rect.unit (s := S8x128x512) ![6, 64, 384] S1x64x128.size inb_S8x128x512_S1x64x128_6_64_384).toLoadRect (View.loadsAt_vmem h_S1x64x128))
      Prog.lift (.store arg9 (Rect.unit (s := S8x128x512) ![6, 64, 384] S1x64x128.size inb_S8x128x512_S1x64x128_6_64_384) (k0_pay236 v1321) Finset.univ (View.stores_vmem_bits_univ h_S1x64x128 rfl) (.inl rfl))
      let v1413 : Vec F S1x64x128 .f32 ← Prog.lift (.load arg9 (Rect.unit (s := S8x128x512) ![7, 64, 0] S1x64x128.size inb_S8x128x512_S1x64x128_7_64_0).toLoadRect (View.loadsAt_vmem h_S1x64x128))
      Prog.lift (.store arg9 (Rect.unit (s := S8x128x512) ![7, 64, 0] S1x64x128.size inb_S8x128x512_S1x64x128_7_64_0) (k0_pay237 v1286) Finset.univ (View.stores_vmem_bits_univ h_S1x64x128 rfl) (.inl rfl))
      let v1416 : Vec F S1x64x128 .f32 ← Prog.lift (.load arg9 (Rect.unit (s := S8x128x512) ![7, 64, 128] S1x64x128.size inb_S8x128x512_S1x64x128_7_64_128).toLoadRect (View.loadsAt_vmem h_S1x64x128))
      Prog.lift (.store arg9 (Rect.unit (s := S8x128x512) ![7, 64, 128] S1x64x128.size inb_S8x128x512_S1x64x128_7_64_128) (k0_pay238 v1300) Finset.univ (View.stores_vmem_bits_univ h_S1x64x128 rfl) (.inl rfl))
      let v1419 : Vec F S1x64x128 .f32 ← Prog.lift (.load arg9 (Rect.unit (s := S8x128x512) ![7, 64, 256] S1x64x128.size inb_S8x128x512_S1x64x128_7_64_256).toLoadRect (View.loadsAt_vmem h_S1x64x128))
      Prog.lift (.store arg9 (Rect.unit (s := S8x128x512) ![7, 64, 256] S1x64x128.size inb_S8x128x512_S1x64x128_7_64_256) (k0_pay239 v1314) Finset.univ (View.stores_vmem_bits_univ h_S1x64x128 rfl) (.inl rfl))
      let v1422 : Vec F S1x64x128 .f32 ← Prog.lift (.load arg9 (Rect.unit (s := S8x128x512) ![7, 64, 384] S1x64x128.size inb_S8x128x512_S1x64x128_7_64_384).toLoadRect (View.loadsAt_vmem h_S1x64x128))
      Prog.lift (.store arg9 (Rect.unit (s := S8x128x512) ![7, 64, 384] S1x64x128.size inb_S8x128x512_S1x64x128_7_64_384) (k0_pay240 v1328) Finset.univ (View.stores_vmem_bits_univ h_S1x64x128 rfl) (.inl rfl))
      jp
    else jp) W := by
  by_cases hC : FirstOf i
  · rw [dif_pos hC]; exact biasRun c i arg2 harg2 arg3 harg3 arg4 harg4 arg5 harg5 arg6 harg6 arg7 harg7 arg8 harg8 arg9 harg9 arg10 harg10 arg11 harg11 x2 x3 x4 x5 x6 x7 hC jp R W h
  · rw [dif_neg hC]; refine BIBase.Entails.trans ?_ h
    iintro ⟨H2, H3, H4, H5, H6, H7, H8, ⟨%d9, %hd9, H9⟩, Hr⟩
    have e := hd9 hC
    subst e
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hr

set_option maxHeartbeats 4000000 in

/-- The body's triple for any continuation: the output at its rows' values, the bias at its own. -/
theorem valueRun (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, ⌜¬ FirstOf i → d = biasOf x7⌝ ∗ owns (c : Thread nD τ) arg9 fullShare d) ∗ (∃ d, owns (c : Thread nD τ) arg10 fullShare d) ∗ (∃ d, owns (c : Thread nD τ) arg11 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (rows64 (Orow x2 x3 x4 x5 x6 (biasOf x7))) ∗ owns (c : Thread nD τ) arg9 fullShare (biasOf x7) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part44_eq_skeleton, k0_part52_eq_skeleton]; unfold k0_part52_skel
  rw [wp_bind, part44_cases]
  refine bias_cases c i arg2 harg2 arg3 harg3 arg4 harg4 arg5 harg5 arg6 harg6 arg7 harg7 arg8 harg8 arg9 harg9 arg10 harg10 arg11 harg11 x2 x3 x4 x5 x6 x7 _ _ _ ?_
  unfold rest44
  rw [← wp_bind]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, Hk⟩
  subst hf2 hf3 hf4 hf5 hf6 hf7
  sl_exec_parts
  sl_step
  skip
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    have hr : (valueRun.sl.r c arg5 f5) = arg5.view.read (Elt F) f5 := View.readAt_full _ _ _
    rw [← hf9, ← hr]
    have h10 : arg10.view.read (Elt F) (arg10.view.writes (Elt F) arg10.view.junk (valueRun.sl.H10_16 c arg2 arg3 arg5 arg9 f2 f3 f5 f9)) = grp (arg2.view.read (Elt F) f2) (arg3.view.read (Elt F) f3) (valueRun.sl.r c arg5 f5) (arg9.view.read (Elt F) f9) 0 :=
      funext fun y => View.read_writes_apply_of_pieces _ _ (grp (arg2.view.read (Elt F) f2) (arg3.view.read (Elt F) f3) (valueRun.sl.r c arg5 f5) (arg9.view.read (Elt F) f9) 0) _ (View.PiecesOf.mem (by
        unfold valueRun.sl.H10_16
        exact ⟨ctx_odd 0 7 rfl rfl (load_Q arg2.view f2 (0 * 8 + 6) (by decide) rfl) (load_Q arg2.view f2 (0 * 8 + 7) (by decide) rfl) (load_K arg3.view f3 (0 * 8 + 7) (by decide +kernel)) (load_B arg9.view f9 (0 * 8 + 7) (by decide) (by decide +kernel)) rfl (inb := inb_ctx 7 (by decide)),
          loc_odd 0 7 rfl rfl (load_Q arg2.view f2 (0 * 8 + 6) (by decide) rfl) (load_Q arg2.view f2 (0 * 8 + 7) (by decide) rfl) (load_K arg3.view f3 (0 * 8 + 7) (by decide +kernel)) (load_B arg9.view f9 (0 * 8 + 7) (by decide) (by decide +kernel)) rfl (inb := inb_loc 7 (by decide)),
          ctx_even 0 6 rfl rfl (load_Q arg2.view f2 (0 * 8 + 6) (by decide) rfl) (load_Q arg2.view f2 (0 * 8 + 7) (by decide) rfl) (load_K arg3.view f3 (0 * 8 + 6) (by decide +kernel)) (load_B arg9.view f9 (0 * 8 + 6) (by decide) (by decide +kernel)) rfl (inb := inb_ctx 6 (by decide)),
          loc_even 0 6 rfl rfl (load_Q arg2.view f2 (0 * 8 + 6) (by decide) rfl) (load_Q arg2.view f2 (0 * 8 + 7) (by decide) rfl) (load_K arg3.view f3 (0 * 8 + 6) (by decide +kernel)) (load_B arg9.view f9 (0 * 8 + 6) (by decide) (by decide +kernel)) rfl (inb := inb_loc 6 (by decide)),
          ctx_odd 0 5 rfl rfl (load_Q arg2.view f2 (0 * 8 + 4) (by decide) rfl) (load_Q arg2.view f2 (0 * 8 + 5) (by decide) rfl) (load_K arg3.view f3 (0 * 8 + 5) (by decide +kernel)) (load_B arg9.view f9 (0 * 8 + 5) (by decide) (by decide +kernel)) rfl (inb := inb_ctx 5 (by decide)),
          loc_odd 0 5 rfl rfl (load_Q arg2.view f2 (0 * 8 + 4) (by decide) rfl) (load_Q arg2.view f2 (0 * 8 + 5) (by decide) rfl) (load_K arg3.view f3 (0 * 8 + 5) (by decide +kernel)) (load_B arg9.view f9 (0 * 8 + 5) (by decide) (by decide +kernel)) rfl (inb := inb_loc 5 (by decide)),
          ctx_even 0 4 rfl rfl (load_Q arg2.view f2 (0 * 8 + 4) (by decide) rfl) (load_Q arg2.view f2 (0 * 8 + 5) (by decide) rfl) (load_K arg3.view f3 (0 * 8 + 4) (by decide +kernel)) (load_B arg9.view f9 (0 * 8 + 4) (by decide) (by decide +kernel)) rfl (inb := inb_ctx 4 (by decide)),
          loc_even 0 4 rfl rfl (load_Q arg2.view f2 (0 * 8 + 4) (by decide) rfl) (load_Q arg2.view f2 (0 * 8 + 5) (by decide) rfl) (load_K arg3.view f3 (0 * 8 + 4) (by decide +kernel)) (load_B arg9.view f9 (0 * 8 + 4) (by decide) (by decide +kernel)) rfl (inb := inb_loc 4 (by decide)),
          ctx_odd 0 3 rfl rfl (load_Q arg2.view f2 (0 * 8 + 2) (by decide) rfl) (load_Q arg2.view f2 (0 * 8 + 3) (by decide) rfl) (load_K arg3.view f3 (0 * 8 + 3) (by decide +kernel)) (load_B arg9.view f9 (0 * 8 + 3) (by decide) (by decide +kernel)) rfl (inb := inb_ctx 3 (by decide)),
          loc_odd 0 3 rfl rfl (load_Q arg2.view f2 (0 * 8 + 2) (by decide) rfl) (load_Q arg2.view f2 (0 * 8 + 3) (by decide) rfl) (load_K arg3.view f3 (0 * 8 + 3) (by decide +kernel)) (load_B arg9.view f9 (0 * 8 + 3) (by decide) (by decide +kernel)) rfl (inb := inb_loc 3 (by decide)),
          ctx_even 0 2 rfl rfl (load_Q arg2.view f2 (0 * 8 + 2) (by decide) rfl) (load_Q arg2.view f2 (0 * 8 + 3) (by decide) rfl) (load_K arg3.view f3 (0 * 8 + 2) (by decide +kernel)) (load_B arg9.view f9 (0 * 8 + 2) (by decide) (by decide +kernel)) rfl (inb := inb_ctx 2 (by decide)),
          loc_even 0 2 rfl rfl (load_Q arg2.view f2 (0 * 8 + 2) (by decide) rfl) (load_Q arg2.view f2 (0 * 8 + 3) (by decide) rfl) (load_K arg3.view f3 (0 * 8 + 2) (by decide +kernel)) (load_B arg9.view f9 (0 * 8 + 2) (by decide) (by decide +kernel)) rfl (inb := inb_loc 2 (by decide)),
          ctx_odd 0 1 rfl rfl (load_Q arg2.view f2 (0 * 8 + 0) (by decide) rfl) (load_Q arg2.view f2 (0 * 8 + 1) (by decide) rfl) (load_K arg3.view f3 (0 * 8 + 1) (by decide +kernel)) (load_B arg9.view f9 (0 * 8 + 1) (by decide) (by decide +kernel)) rfl (inb := inb_ctx 1 (by decide)),
          loc_odd 0 1 rfl rfl (load_Q arg2.view f2 (0 * 8 + 0) (by decide) rfl) (load_Q arg2.view f2 (0 * 8 + 1) (by decide) rfl) (load_K arg3.view f3 (0 * 8 + 1) (by decide +kernel)) (load_B arg9.view f9 (0 * 8 + 1) (by decide) (by decide +kernel)) rfl (inb := inb_loc 1 (by decide)),
          ctx_even 0 0 rfl rfl (load_Q arg2.view f2 (0 * 8 + 0) (by decide) rfl) (load_Q arg2.view f2 (0 * 8 + 1) (by decide) rfl) (load_K arg3.view f3 (0 * 8 + 0) (by decide +kernel)) (load_B arg9.view f9 (0 * 8 + 0) (by decide) (by decide +kernel)) rfl (inb := inb_ctx 0 (by decide)),
          loc_even 0 0 rfl rfl (load_Q arg2.view f2 (0 * 8 + 0) (by decide) rfl) (load_Q arg2.view f2 (0 * 8 + 1) (by decide) rfl) (load_K arg3.view f3 (0 * 8 + 0) (by decide +kernel)) (load_B arg9.view f9 (0 * 8 + 0) (by decide) (by decide +kernel)) rfl (inb := inb_loc 0 (by decide)), trivial⟩))
        y (cover_of_map (R := scratchRects) rfl y (scratch_cover y))
    have LD := loop_done Variants.none c none i arg2 harg2 arg3 harg3 arg4 harg4 arg5 harg5 arg6 harg6 arg7 harg7 arg8 harg8 arg9 harg9 arg10 harg10 arg11 harg11 (valueRun.sl.r c arg5 f5) (valueRun.sl.v266 c arg2 f2) (valueRun.sl.v268 c arg2 arg5 f2 f5) 3#32
      (valueRun.sl.r_6 c arg3 f3) valueRun.sl.cst_25 f2 f3 f4 f6 f9 f8 (arg10.view.writes (Elt F) arg10.view.junk (valueRun.sl.H10_16 c arg2 arg3 arg5 arg9 f2 f3 f5 f9)) f11 h10
    have h14 := LD.2.1
    rw [← View.writes_append] at h14
    have h15 : arg11.view.read (Elt F) (arg11.view.writes (Elt F) arg11.view.junk (valueRun.sl.H11_16 c i arg2 harg2 arg3 harg3 arg4 harg4 arg5 harg5 arg6 harg6 arg7 harg7 arg8 harg8 arg9 harg9 arg10 harg10 arg11 harg11 f2 f3 f4 f5 f6 f8 f9 f11)) = grp (arg2.view.read (Elt F) f2) (arg3.view.read (Elt F) f3) (valueRun.sl.r c arg5 f5) (arg9.view.read (Elt F) f9) 15 := by
      funext y
      rw [← List.take_append_drop 16 (valueRun.sl.H11_16 c i arg2 harg2 arg3 harg3 arg4 harg4 arg5 harg5 arg6 harg6 arg7 harg7 arg8 harg8 arg9 harg9 arg10 harg10 arg11 harg11 f2 f3 f4 f5 f6 f8 f9 f11), View.writes_append]
      exact View.read_writes_apply_of_pieces _ _ (grp (arg2.view.read (Elt F) f2) (arg3.view.read (Elt F) f3) (valueRun.sl.r c arg5 f5) (arg9.view.read (Elt F) f9) 15) _ (View.PiecesOf.mem (by
        exact ⟨ctx_odd 15 7 rfl rfl (load_Q arg2.view f2 (15 * 8 + 6) (by decide) rfl) (load_Q arg2.view f2 (15 * 8 + 7) (by decide) rfl) (load_K arg3.view f3 (15 * 8 + 7) (by decide +kernel)) (load_B arg9.view f9 (15 * 8 + 7) (by decide) (by decide +kernel)) rfl (inb := inb_ctx 7 (by decide)),
          loc_odd 15 7 rfl rfl (load_Q arg2.view f2 (15 * 8 + 6) (by decide) rfl) (load_Q arg2.view f2 (15 * 8 + 7) (by decide) rfl) (load_K arg3.view f3 (15 * 8 + 7) (by decide +kernel)) (load_B arg9.view f9 (15 * 8 + 7) (by decide) (by decide +kernel)) rfl (inb := inb_loc 7 (by decide)),
          ctx_even 15 6 rfl rfl (load_Q arg2.view f2 (15 * 8 + 6) (by decide) rfl) (load_Q arg2.view f2 (15 * 8 + 7) (by decide) rfl) (load_K arg3.view f3 (15 * 8 + 6) (by decide +kernel)) (load_B arg9.view f9 (15 * 8 + 6) (by decide) (by decide +kernel)) rfl (inb := inb_ctx 6 (by decide)),
          loc_even 15 6 rfl rfl (load_Q arg2.view f2 (15 * 8 + 6) (by decide) rfl) (load_Q arg2.view f2 (15 * 8 + 7) (by decide) rfl) (load_K arg3.view f3 (15 * 8 + 6) (by decide +kernel)) (load_B arg9.view f9 (15 * 8 + 6) (by decide) (by decide +kernel)) rfl (inb := inb_loc 6 (by decide)),
          ctx_odd 15 5 rfl rfl (load_Q arg2.view f2 (15 * 8 + 4) (by decide) rfl) (load_Q arg2.view f2 (15 * 8 + 5) (by decide) rfl) (load_K arg3.view f3 (15 * 8 + 5) (by decide +kernel)) (load_B arg9.view f9 (15 * 8 + 5) (by decide) (by decide +kernel)) rfl (inb := inb_ctx 5 (by decide)),
          loc_odd 15 5 rfl rfl (load_Q arg2.view f2 (15 * 8 + 4) (by decide) rfl) (load_Q arg2.view f2 (15 * 8 + 5) (by decide) rfl) (load_K arg3.view f3 (15 * 8 + 5) (by decide +kernel)) (load_B arg9.view f9 (15 * 8 + 5) (by decide) (by decide +kernel)) rfl (inb := inb_loc 5 (by decide)),
          ctx_even 15 4 rfl rfl (load_Q arg2.view f2 (15 * 8 + 4) (by decide) rfl) (load_Q arg2.view f2 (15 * 8 + 5) (by decide) rfl) (load_K arg3.view f3 (15 * 8 + 4) (by decide +kernel)) (load_B arg9.view f9 (15 * 8 + 4) (by decide) (by decide +kernel)) rfl (inb := inb_ctx 4 (by decide)),
          loc_even 15 4 rfl rfl (load_Q arg2.view f2 (15 * 8 + 4) (by decide) rfl) (load_Q arg2.view f2 (15 * 8 + 5) (by decide) rfl) (load_K arg3.view f3 (15 * 8 + 4) (by decide +kernel)) (load_B arg9.view f9 (15 * 8 + 4) (by decide) (by decide +kernel)) rfl (inb := inb_loc 4 (by decide)),
          ctx_odd 15 3 rfl rfl (load_Q arg2.view f2 (15 * 8 + 2) (by decide) rfl) (load_Q arg2.view f2 (15 * 8 + 3) (by decide) rfl) (load_K arg3.view f3 (15 * 8 + 3) (by decide +kernel)) (load_B arg9.view f9 (15 * 8 + 3) (by decide) (by decide +kernel)) rfl (inb := inb_ctx 3 (by decide)),
          loc_odd 15 3 rfl rfl (load_Q arg2.view f2 (15 * 8 + 2) (by decide) rfl) (load_Q arg2.view f2 (15 * 8 + 3) (by decide) rfl) (load_K arg3.view f3 (15 * 8 + 3) (by decide +kernel)) (load_B arg9.view f9 (15 * 8 + 3) (by decide) (by decide +kernel)) rfl (inb := inb_loc 3 (by decide)),
          ctx_even 15 2 rfl rfl (load_Q arg2.view f2 (15 * 8 + 2) (by decide) rfl) (load_Q arg2.view f2 (15 * 8 + 3) (by decide) rfl) (load_K arg3.view f3 (15 * 8 + 2) (by decide +kernel)) (load_B arg9.view f9 (15 * 8 + 2) (by decide) (by decide +kernel)) rfl (inb := inb_ctx 2 (by decide)),
          loc_even 15 2 rfl rfl (load_Q arg2.view f2 (15 * 8 + 2) (by decide) rfl) (load_Q arg2.view f2 (15 * 8 + 3) (by decide) rfl) (load_K arg3.view f3 (15 * 8 + 2) (by decide +kernel)) (load_B arg9.view f9 (15 * 8 + 2) (by decide) (by decide +kernel)) rfl (inb := inb_loc 2 (by decide)),
          ctx_odd 15 1 rfl rfl (load_Q arg2.view f2 (15 * 8 + 0) (by decide) rfl) (load_Q arg2.view f2 (15 * 8 + 1) (by decide) rfl) (load_K arg3.view f3 (15 * 8 + 1) (by decide +kernel)) (load_B arg9.view f9 (15 * 8 + 1) (by decide) (by decide +kernel)) rfl (inb := inb_ctx 1 (by decide)),
          loc_odd 15 1 rfl rfl (load_Q arg2.view f2 (15 * 8 + 0) (by decide) rfl) (load_Q arg2.view f2 (15 * 8 + 1) (by decide) rfl) (load_K arg3.view f3 (15 * 8 + 1) (by decide +kernel)) (load_B arg9.view f9 (15 * 8 + 1) (by decide) (by decide +kernel)) rfl (inb := inb_loc 1 (by decide)),
          ctx_even 15 0 rfl rfl (load_Q arg2.view f2 (15 * 8 + 0) (by decide) rfl) (load_Q arg2.view f2 (15 * 8 + 1) (by decide) rfl) (load_K arg3.view f3 (15 * 8 + 0) (by decide +kernel)) (load_B arg9.view f9 (15 * 8 + 0) (by decide) (by decide +kernel)) rfl (inb := inb_ctx 0 (by decide)),
          loc_even 15 0 rfl rfl (load_Q arg2.view f2 (15 * 8 + 0) (by decide) rfl) (load_Q arg2.view f2 (15 * 8 + 1) (by decide) rfl) (load_K arg3.view f3 (15 * 8 + 0) (by decide +kernel)) (load_B arg9.view f9 (15 * 8 + 0) (by decide) (by decide +kernel)) rfl (inb := inb_loc 0 (by decide)), trivial⟩))
        y (cover_of_map (R := scratchRects) rfl y (scratch_cover y))
    funext y
    refine View.read_writes_apply_of_pieces _ _ (rows64 (Orow (arg2.view.read (Elt F) f2) (arg3.view.read (Elt F) f3) (arg4.view.read (Elt F) f4) (valueRun.sl.r c arg5 f5) (arg6.view.read (Elt F) f6) (arg9.view.read (Elt F) f9))) _
      (pieces_cons ?_ (pieces_cons ?_ (pieces_cons ?_ (pieces_cons ?_ (pieces_cons ?_ (pieces_cons ?_ (pieces_cons ?_ (pieces_cons ?_ (pieces_cons ?_ (pieces_cons ?_ (pieces_cons ?_ (pieces_cons ?_ (pieces_cons ?_ (pieces_cons ?_ (pieces_cons ?_ (pieces_cons ?_ (LD.1)))))))))))))))))
      y (cover_tail (R := lastRects) rfl y ?cov)
    case cov =>
      by_cases hy : (y 0).val / 64 < 112
      · exact Or.inr (LD.2.2 y hy)
      · exact Or.inl (last_cover y (by omega))
    · exact (out_odd 15 7 rfl (vc6 arg6 f6) (load_pair arg11.view _ 15 h15 6 rfl) (load_loc arg11.view _ 15 h15 7 rfl) (load_V arg4.view f4 (15 * 8 + 7) (by decide +kernel)) rfl (inb := inb_row (r := 15 * 8 + 7) rfl (by decide)))
    · exact (out_even 15 6 rfl (vc6 arg6 f6) (load_pair arg11.view _ 15 h15 6 rfl) (load_loc arg11.view _ 15 h15 6 rfl) (load_V arg4.view f4 (15 * 8 + 6) (by decide +kernel)) rfl (inb := inb_row (r := 15 * 8 + 6) rfl (by decide)))
    · exact (out_odd 15 5 rfl (vc6 arg6 f6) (load_pair arg11.view _ 15 h15 4 rfl) (load_loc arg11.view _ 15 h15 5 rfl) (load_V arg4.view f4 (15 * 8 + 5) (by decide +kernel)) rfl (inb := inb_row (r := 15 * 8 + 5) rfl (by decide)))
    · exact (out_even 15 4 rfl (vc6 arg6 f6) (load_pair arg11.view _ 15 h15 4 rfl) (load_loc arg11.view _ 15 h15 4 rfl) (load_V arg4.view f4 (15 * 8 + 4) (by decide +kernel)) rfl (inb := inb_row (r := 15 * 8 + 4) rfl (by decide)))
    · exact (out_odd 15 3 rfl (vc6 arg6 f6) (load_pair arg11.view _ 15 h15 2 rfl) (load_loc arg11.view _ 15 h15 3 rfl) (load_V arg4.view f4 (15 * 8 + 3) (by decide +kernel)) rfl (inb := inb_row (r := 15 * 8 + 3) rfl (by decide)))
    · exact (out_even 15 2 rfl (vc6 arg6 f6) (load_pair arg11.view _ 15 h15 2 rfl) (load_loc arg11.view _ 15 h15 2 rfl) (load_V arg4.view f4 (15 * 8 + 2) (by decide +kernel)) rfl (inb := inb_row (r := 15 * 8 + 2) rfl (by decide)))
    · exact (out_odd 15 1 rfl (vc6 arg6 f6) (load_pair arg11.view _ 15 h15 0 rfl) (load_loc arg11.view _ 15 h15 1 rfl) (load_V arg4.view f4 (15 * 8 + 1) (by decide +kernel)) rfl (inb := inb_row (r := 15 * 8 + 1) rfl (by decide)))
    · exact (out_even 15 0 rfl (vc6 arg6 f6) (load_pair arg11.view _ 15 h15 0 rfl) (load_loc arg11.view _ 15 h15 0 rfl) (load_V arg4.view f4 (15 * 8 + 0) (by decide +kernel)) rfl (inb := inb_row (r := 15 * 8 + 0) rfl (by decide)))
    · exact (out_odd 14 7 rfl (vc6 arg6 f6) (load_pair arg10.view _ 14 h14 6 rfl) (load_loc arg10.view _ 14 h14 7 rfl) (load_V arg4.view f4 (14 * 8 + 7) (by decide +kernel)) rfl (inb := inb_row (r := 14 * 8 + 7) rfl (by decide)))
    · exact (out_even 14 6 rfl (vc6 arg6 f6) (load_pair arg10.view _ 14 h14 6 rfl) (load_loc arg10.view _ 14 h14 6 rfl) (load_V arg4.view f4 (14 * 8 + 6) (by decide +kernel)) rfl (inb := inb_row (r := 14 * 8 + 6) rfl (by decide)))
    · exact (out_odd 14 5 rfl (vc6 arg6 f6) (load_pair arg10.view _ 14 h14 4 rfl) (load_loc arg10.view _ 14 h14 5 rfl) (load_V arg4.view f4 (14 * 8 + 5) (by decide +kernel)) rfl (inb := inb_row (r := 14 * 8 + 5) rfl (by decide)))
    · exact (out_even 14 4 rfl (vc6 arg6 f6) (load_pair arg10.view _ 14 h14 4 rfl) (load_loc arg10.view _ 14 h14 4 rfl) (load_V arg4.view f4 (14 * 8 + 4) (by decide +kernel)) rfl (inb := inb_row (r := 14 * 8 + 4) rfl (by decide)))
    · exact (out_odd 14 3 rfl (vc6 arg6 f6) (load_pair arg10.view _ 14 h14 2 rfl) (load_loc arg10.view _ 14 h14 3 rfl) (load_V arg4.view f4 (14 * 8 + 3) (by decide +kernel)) rfl (inb := inb_row (r := 14 * 8 + 3) rfl (by decide)))
    · exact (out_even 14 2 rfl (vc6 arg6 f6) (load_pair arg10.view _ 14 h14 2 rfl) (load_loc arg10.view _ 14 h14 2 rfl) (load_V arg4.view f4 (14 * 8 + 2) (by decide +kernel)) rfl (inb := inb_row (r := 14 * 8 + 2) rfl (by decide)))
    · exact (out_odd 14 1 rfl (vc6 arg6 f6) (load_pair arg10.view _ 14 h14 0 rfl) (load_loc arg10.view _ 14 h14 1 rfl) (load_V arg4.view f4 (14 * 8 + 1) (by decide +kernel)) rfl (inb := inb_row (r := 14 * 8 + 1) rfl (by decide)))
    · exact (out_even 14 0 rfl (vc6 arg6 f6) (load_pair arg10.view _ 14 h14 0 rfl) (load_loc arg10.view _ 14 h14 0 rfl) (load_V arg4.view f4 (14 * 8 + 0) (by decide +kernel)) rfl (inb := inb_row (r := 14 * 8 + 0) rfl (by decide)))
  isplitl [H9]
  · iexists f9; isplitr; · ipureintro; exact hf9
    iexact H9
  isplitl [H10]
  · iexists _, _; isplitr; swap; · iexact H10
    ipureintro; rfl
  iexists _, _; isplitr; swap; · iexact H11
  ipureintro; rfl

end Cert.KernelIdeal.Hand

end
-- ==== Proof.AttnRun.lean ====
/- The attention kernel's run with its result array named: every point's block is its rows' values, the position bias
   carried in the first scratch from a head pair's first point to its second. -/
module

public import proofs.«01_k».proof.Proof.AttnBody
public import proofs.«01_k».proof.Proof.AttnIdealFrame

@[expose] public section

set_option maxRecDepth 65536

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point leaves in its output block. -/
def rowsAt (c : Dev nD) (t : Fin cfg0.N) : Vec F S8192x128 .bf16 :=
  rows64 (Orow (X0_0 m c t) (X0_1 m c t) (X0_2 m c t) (iblk m c 3 t) (iblk m c 4 t) (biasOf (iblk m c 5 t)))

/-- Between points: the first scratch holds the bias if the next point is not a head pair's first; the rest at anything. -/
def Phi (c : Dev nD) (t : Fin (cfg0.N + 1)) : sProp 𝕄 :=
  iprop(iprop((∃ d, ⌜∀ s : Fin cfg0.N, s.val = t.val → ¬ FirstOf (grid0.coords s) → d = biasOf (iblk m c 5 s)⌝ ∗ owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => rowsAt m c t
  Φ t := Phi m c t
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = rowsAt m c t := by dsimp only [dats]
theorem before0_0 (c : Dev nD) (t : Fin cfg0.N) (d) : (dats m 0 c).before 0 t d = X0_0 m c t := before0_0_of m _ (A_eq m c 0) (after0_0 m c) t d
theorem before0_1 (c : Dev nD) (t : Fin cfg0.N) (d) : (dats m 0 c).before 1 t d = X0_1 m c t := before0_1_of m _ (A_eq m c 1) (after0_1 m c) t d
theorem before0_2 (c : Dev nD) (t : Fin cfg0.N) (d) : (dats m 0 c).before 2 t d = X0_2 m c t := before0_2_of m _ (A_eq m c 2) (after0_2 m c) t d
theorem before0_3 (c : Dev nD) (t : Fin cfg0.N) (d) : (dats m 0 c).before 3 t d = iblk m c 3 t := before0_3_of m _ (A_eq m c 3) (after0_3 m c) t d
theorem before0_4 (c : Dev nD) (t : Fin cfg0.N) (d) : (dats m 0 c).before 4 t d = iblk m c 4 t := before0_4_of m _ (A_eq m c 4) (after0_4 m c) t d
theorem before0_5 (c : Dev nD) (t : Fin cfg0.N) (d) : (dats m 0 c).before 5 t d = iblk m c 5 t := before0_5_of m _ (A_eq m c 5) (after0_5 m c) t d

/-- A head pair's second point sees the same bias rows as its first. -/
theorem same_block : ∀ t s : Fin cfg0.N, s.val = t.val + 1 → ¬ FirstOf (grid0.coords s) → win0_5.index s = win0_5.index t := by decide +kernel
theorem first0 : ∀ s : Fin cfg0.N, s.val = 0 → FirstOf (grid0.coords s) := by decide +kernel

theorem same_bias (c : Dev nD) (t s : Fin cfg0.N) (h : s.val = t.val + 1) (hs : ¬ FirstOf (grid0.coords s)) : iblk m c 5 t = iblk m c 5 s := by
  have e := same_block t s h hs
  funext y
  unfold iblk
  refine congrArg (V m c (Pipeline.arrRef spec0 5)) (funext fun a => Fin.ext ?_)
  have e' := congrFun e a
  show win0_5.index t a * _ + 1 * (y a).val = win0_5.index s a * _ + 1 * (y a).val
  rw [e']

theorem phi_in (c : Dev nD) : (Pipeline.ΦA spec0 c : sProp 𝕄) ⊢ Phi m c 0 := by
  rw [PhiA_eq]; unfold Phi
  iintro ⟨⟨⟨%d, S0⟩, S1, S2⟩, Hg⟩
  isplitl [S0 S1 S2]
  · isplitl [S0]
    · iexists d; isplitr
      · ipureintro; exact fun s hs hn => absurd (first0 s hs) hn
      iexact S0
    isplitl [S1]; · iexact S1
    iexact S2
  iexact Hg

theorem phi_out (c : Dev nD) (t : Fin (cfg0.N + 1)) : Phi m c t ⊢ (Pipeline.ΦA spec0 c : sProp 𝕄) := by
  rw [PhiA_eq]; unfold Phi
  iintro ⟨⟨⟨%d, -, S0⟩, S1, S2⟩, Hg⟩
  isplitl [S0 S1 S2]
  · isplitl [S0]; · iexists d; iexact S0
    isplitl [S1]; · iexact S1
    iexact S2
  iexact Hg

/-- What the body is called with at a point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.castSucc = Phi m c t.castSucc from rfl, show (dats m 0 c).Φ t.succ = Phi m c t.succ from rfl,
    after0_0, after0_1, after0_2, after0_3, after0_4, after0_5, after0_6]
  unfold Phi rowsAt
  iintro ⟨⟨⟨⟨%b, %hb, S0⟩, S1, S2⟩, Hg⟩, Ho, ⟨%d0, H0⟩, ⟨%d1, H1⟩, ⟨%d2, H2⟩, ⟨%d3, H3⟩, ⟨%d4, H4⟩, ⟨%d5, H5⟩, ⟨%d6, H6⟩⟩
  iapply (valueRun c (grid0.coords t) _ _ _ _ _ _ _ _ _ _ _ _ _ _ _ _ _ _ _ _ (X0_0 m c t) (X0_1 m c t) (X0_2 m c t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]
  · iexists b; isplitr
    · ipureintro; exact fun hn => hb t rfl hn
    iexact S0
  isplitl [S1]; · iexact S1
  isplitl [S2]; · iexact S2
  iintro ⟨H0, H1, H2, H3, H4, H5, H6, S0, S1, S2⟩
  isplitl [S0 S1 S2 Hg]
  · isplitl [S0 S1 S2]
    · isplitl [S0]
      · iexists _; isplitr; swap; · iexact S0
        ipureintro
        intro s hs hn
        rw [same_bias m c t s hs hn]
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program. -/
theorem run_main :
    θ_run defs (onTc (τ := τ) (main (F := F))) (s₀ m ρ)
      (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := phi_in m) (hout := fun c => phi_out m c _)

end Cert.KernelIdeal.Val

end
-- ==== Proof.AttnBlocks.lean ====
/- The blocks a grid point of the attention kernel reads, by their arrays' elements, and the element its output block writes. -/
module

public import proofs.«01_k».proof.Proof.AttnRun
public import Idealize.ShloMosaic.Lib.ValueIdx
public import Idealize.ShloMosaic.Lib.Pipeline.ValueKit
public import Idealize.ShloMosaic.Lib.Pointwise

@[expose] public section

set_option maxRecDepth 65536

noncomputable section

namespace Cert.KernelIdeal.Val

open Cert.KernelIdeal Cert.KernelIdeal.Gen Cert.KernelIdeal.Hand
open Idealize.ShloMosaic Idealize.ShloMosaic.TcCoe

theorem idx : ∀ t : Fin cfg0.N, win0_0.index t = ![t.val % 2, t.val / 2] ∧ win0_1.index t = ![t.val % 2, t.val / 2] ∧ win0_2.index t = ![t.val % 2, t.val / 2]
    ∧ win0_3.index t = ![64 + t.val % 2, t.val / 2] ∧ win0_4.index t = ![64 + t.val % 2, t.val / 2] ∧ win0_5.index t = ![t.val / 2, 0, 0]
    ∧ win0_6.index t = ![t.val % 2, t.val / 2] := by decide +kernel

variable (m : (ℓ : Loc nD τ sig) → Buf (Elt Ideal) ℓ) (c : Dev nD) (t : Fin cfg0.N)

theorem point_lt : t.val < 16 := t.isLt

theorem kc_blk (e : Fin 256) (l : Fin 128) : iblk m c 3 t (ix2 e l) = m ((c : Thread nD τ).loc main_arg1) (ix2 ⟨16384 + (t.val % 2 * 256 + e.val), by omega⟩ ⟨t.val / 2 * 128 + l.val, by have := point_lt t; omega⟩) := by
  obtain ⟨i0, i1, i2, i3, i4, i5, i6⟩ := idx t
  unfold iblk
  rw [show V m c (Pipeline.arrRef spec0 3) = m ((c : Thread nD τ).loc main_arg1) from V_main_arg1 m c]
  blk_ext [i3]
theorem vc_blk (e : Fin 256) (l : Fin 256) : iblk m c 4 t (ix2 e l) = m ((c : Thread nD τ).loc main_arg2) (ix2 ⟨16384 + (t.val % 2 * 256 + e.val), by omega⟩ ⟨t.val / 2 * 256 + l.val, by have := point_lt t; omega⟩) := by
  obtain ⟨i0, i1, i2, i3, i4, i5, i6⟩ := idx t
  unfold iblk
  rw [show V m c (Pipeline.arrRef spec0 4) = m ((c : Thread nD τ).loc main_arg2) from V_main_arg2 m c]
  blk_ext [i4]
theorem rp_blk (hh : Fin 2) (u : Fin 16) (l : Fin 128) : iblk m c 5 t (ix3 hh u l) = V m c main_v5 (ix3 ⟨t.val / 2 * 2 + hh.val, by have := point_lt t; omega⟩ u l) := by
  obtain ⟨i0, i1, i2, i3, i4, i5, i6⟩ := idx t
  unfold iblk
  show ((cfg0.win 5).blk t).view.read (Elt Ideal) (V m c main_v5) (ix3 hh u l) = _
  generalize V m c main_v5 = X
  blk_ext [i5]
theorem q_blk (n : Fin 8192) (l : Fin 128) : X0_0 m c t (ix2 n l) = m ((c : Thread nD τ).loc main_arg0) (ix2 ⟨t.val % 2 * 8192 + n.val, by omega⟩ ⟨t.val / 2 * 128 + l.val, by have := point_lt t; omega⟩) := by
  obtain ⟨i0, i1, i2, i3, i4, i5, i6⟩ := idx t
  unfold X0_0 Pipeline.Window.fill
  rw [dif_pos (moved0_0 t _)]
  unfold iblk
  rw [show V m c (Pipeline.arrRef spec0 0) = m ((c : Thread nD τ).loc main_arg0) from V_main_arg0 m c]
  blk_ext [i0]
theorem k_blk (n : Fin 8192) (l : Fin 128) : X0_1 m c t (ix2 n l) = m ((c : Thread nD τ).loc main_arg1) (ix2 ⟨t.val % 2 * 8192 + n.val, by omega⟩ ⟨t.val / 2 * 128 + l.val, by have := point_lt t; omega⟩) := by
  obtain ⟨i0, i1, i2, i3, i4, i5, i6⟩ := idx t
  unfold X0_1 Pipeline.Window.fill
  rw [dif_pos (moved0_1 t _)]
  unfold iblk
  rw [show V m c (Pipeline.arrRef spec0 1) = m ((c : Thread nD τ).loc main_arg1) from V_main_arg1 m c]
  blk_ext [i1]
theorem v_blk (n : Fin 8192) (l : Fin 256) : X0_2 m c t (ix2 n l) = m ((c : Thread nD τ).loc main_arg2) (ix2 ⟨t.val % 2 * 8192 + n.val, by omega⟩ ⟨t.val / 2 * 256 + l.val, by have := point_lt t; omega⟩) := by
  obtain ⟨i0, i1, i2, i3, i4, i5, i6⟩ := idx t
  unfold X0_2 Pipeline.Window.fill
  rw [dif_pos (moved0_2 t _)]
  unfold iblk
  rw [show V m c (Pipeline.arrRef spec0 2) = m ((c : Thread nD τ).loc main_arg2) from V_main_arg2 m c]
  blk_ext [i2]
theorem out_blk (n : Fin 8192) (l : Fin 128) : ((View.whole main_v6).slice (win0_6.rect t)).emb (ix2 n l)
    = (ix2 (⟨t.val % 2 * 8192 + n.val, by omega⟩ : Fin 16384) (⟨t.val / 2 * 128 + l.val, by have := point_lt t; omega⟩ : Fin 1024) : S16384x1024.Idx) := by
  obtain ⟨i0, i1, i2, i3, i4, i5, i6⟩ := idx t
  blk_ext [i6]

end Cert.KernelIdeal.Val

end
-- ==== Proof.AttnMath.lean ====
/- The arithmetic that joins the two computations of one output element of the attention: the kernel's softmax over 512 window scores with
   the ones outside the column window at minus infinity, divided once at the end, and the reference's over the 8 by 16 window, divided
   before the values are weighted. -/
module

public import Idealize.ShloMosaic.PureOps.Ideal
public import Idealize.ShloMosaic.PureOps.Ideal.Laws
public import Idealize.ShloMosaic.Lib.ValueIdx

@[expose] public section

noncomputable section

namespace Cert.Proof.Attn

open Idealize.ShloMosaic
open scoped BigOperators

/-! ## The two forms -/

/-- The kernel's: window scores `l`, context scores `x`, their values, one division at the end. -/
def kOut (l : Fin 512 → EReal) (x : Fin 256 → EReal) (v : Fin 512 → EReal) (vc : Fin 256 → EReal) : EReal :=
  let m := max (Finset.univ.fold max ⊥ l) (Finset.univ.fold max ⊥ x)
  Ideal.div (∑ u, Ideal.exp (l u - m) * v u + ∑ e, Ideal.exp (x e - m) * vc e)
    (∑ u, Ideal.exp (l u - m) * 1 + ∑ e, Ideal.exp (x e - m) * 1)

/-- The reference's scores: the window's 128 and then the context's. -/
def refS (a : Fin 8 → Fin 16 → EReal) (x : Fin 256 → EReal) (e : Fin 384) : EReal :=
  if h : e.val < 128 then a ⟨e.val / 16, by omega⟩ ⟨e.val % 16, by omega⟩ else x ⟨e.val - 128, by omega⟩

/-- The reference's: the softmax of the scores, and then the weighted values. -/
def refP (S : Fin 384 → EReal) (e : Fin 384) : EReal :=
  Ideal.div (Ideal.exp (S e - max ⊥ (Finset.univ.fold max ⊥ S))) (∑ e', Ideal.exp (S e' - max ⊥ (Finset.univ.fold max ⊥ S)))

def refOut (S : Fin 384 → EReal) (v : Fin 8 → Fin 16 → EReal) (vc : Fin 256 → EReal) : EReal :=
  ∑ i : Fin 8, ∑ j : Fin 16, refP S ⟨i.val * 16 + j.val, by omega⟩ * v i j + ∑ e : Fin 256, vc e * refP S ⟨128 + e.val, by omega⟩

/-! ## Sums over the window -/

/-- A sum over 512 places of which only a column window of each eight rows counts. -/
theorem sum_window (cs : ℕ) (hcs : cs ≤ 48) (f : Fin 512 → EReal)
    (h0 : ∀ u : Fin 512, ¬ (cs ≤ u.val % 64 ∧ u.val % 64 < cs + 16) → f u = 0) :
    ∑ u, f u = ∑ i : Fin 8, ∑ j : Fin 16, f ⟨i.val * 64 + (cs + j.val), by omega⟩ := by
  rw [← Finset.sum_product']
  symm
  refine Finset.sum_of_injOn (fun p : Fin 8 × Fin 16 => (⟨p.1.val * 64 + (cs + p.2.val), by omega⟩ : Fin 512)) ?_ ?_ ?_ ?_
  · rintro ⟨i, j⟩ - ⟨i', j'⟩ - h
    have h' := congrArg Fin.val h
    simp only at h'
    refine Prod.ext (Fin.ext ?_) (Fin.ext ?_) <;> simp only <;> omega
  · intro _ _; exact Finset.mem_coe.mpr (Finset.mem_univ _)
  · intro u _ hu
    refine h0 u fun hw => hu ⟨(⟨u.val / 64, by omega⟩, ⟨u.val % 64 - cs, by omega⟩), Finset.mem_coe.mpr (Finset.mem_univ _), Fin.ext ?_⟩
    simp only; omega
  · intro _ _; rfl

/-- A sum over 384 places by the window's and the context's. -/
theorem sum_384 (f : Fin 384 → EReal) :
    ∑ e, f e = ∑ i : Fin 8, ∑ j : Fin 16, f ⟨i.val * 16 + j.val, by omega⟩ + ∑ e : Fin 256, f ⟨128 + e.val, by omega⟩ := by
  rw [show (∑ e, f e) = ∑ e : Fin (128 + 256), f e from rfl, Fin.sum_univ_add (a := 128) (b := 256)]
  congr 1
  rw [← Finset.sum_product']
  symm
  refine Finset.sum_of_injOn (fun p : Fin 8 × Fin 16 => (⟨p.1.val * 16 + p.2.val, by omega⟩ : Fin 128)) ?_ ?_ ?_ ?_
  · rintro ⟨i, j⟩ - ⟨i', j'⟩ - h
    have h' := congrArg Fin.val h
    simp only at h'
    refine Prod.ext (Fin.ext ?_) (Fin.ext ?_) <;> simp only <;> omega
  · intro _ _; exact Finset.mem_coe.mpr (Finset.mem_univ _)
  · intro u _ hu
    refine absurd ⟨(⟨u.val / 16, by omega⟩, ⟨u.val % 16, by omega⟩), Finset.mem_coe.mpr (Finset.mem_univ _), Fin.ext ?_⟩ hu
    simp only; omega
  · intro _ _; rfl

/-- A sum times a number that is neither negative nor infinite. -/
theorem sum_mul_real {ι : Type} [Fintype ι] (f : ι → EReal) (c : ℝ) (hc : 0 ≤ c) : (∑ i, f i) * (c : EReal) = ∑ i, f i * (c : EReal) := by
  classical
  refine Finset.induction_on (motive := fun s => (∑ i ∈ s, f i) * (c : EReal) = ∑ i ∈ s, f i * (c : EReal)) Finset.univ (by simp) fun i s hi ih => ?_
  rw [Finset.sum_insert hi, Finset.sum_insert hi, EReal.right_distrib_of_nonneg_of_ne_top (EReal.coe_nonneg.mpr hc) (EReal.coe_ne_top _), ih]

theorem coe_sum {ι : Type} [Fintype ι] (f : ι → ℝ) : ∑ i, (f i : EReal) = ((∑ i, f i : ℝ) : EReal) := by
  classical
  refine Finset.induction_on (motive := fun s => ∑ i ∈ s, (f i : EReal) = ((∑ i ∈ s, f i : ℝ) : EReal)) Finset.univ (by simp) fun i s hi ih => ?_
  rw [Finset.sum_insert hi, Finset.sum_insert hi, EReal.coe_add, ih]

theorem fold_le {n : ℕ} (f : Fin n → EReal) (t : EReal) : Finset.univ.fold max ⊥ f ≤ t ↔ ∀ i, f i ≤ t := by
  rw [Finset.fold_max_le]; simp

/-! ## The two forms agree -/

theorem kOut_eq (cs : ℕ) (hcs : cs ≤ 48) (a : Fin 8 → Fin 16 → EReal) (x : Fin 256 → EReal) (l v : Fin 512 → EReal) (w : Fin 8 → Fin 16 → EReal)
    (vc : Fin 256 → EReal) (ha : ∀ i j, a i j ≠ ⊥ ∧ a i j ≠ ⊤) (hx : ∀ e, x e ≠ ⊥ ∧ x e ≠ ⊤)
    (hl : ∀ i : Fin 8, ∀ j : Fin 16, l ⟨i.val * 64 + (cs + j.val), by omega⟩ = a i j)
    (hl0 : ∀ u : Fin 512, ¬ (cs ≤ u.val % 64 ∧ u.val % 64 < cs + 16) → l u = ⊥)
    (hv : ∀ i : Fin 8, ∀ j : Fin 16, v ⟨i.val * 64 + (cs + j.val), by omega⟩ = w i j) :
    kOut l x v vc = refOut (refS a x) w vc := by
  have hSl : ∀ (i : Fin 8) (j : Fin 16), refS a x ⟨i.val * 16 + j.val, by omega⟩ = a i j := fun i j => by
    unfold refS
    rw [dif_pos (by simp only; omega)]
    congr 1 <;> exact Fin.ext (by simp only; omega)
  have hSc : ∀ e : Fin 256, refS a x ⟨128 + e.val, by omega⟩ = x e := fun e => by
    unfold refS
    rw [dif_neg (by simp only; omega)]
    congr 1; exact Fin.ext (by simp only; omega)
  have hSr : ∀ e, refS a x e ≠ ⊥ ∧ refS a x e ≠ ⊤ := fun e => by
    unfold refS; split
    · exact ha _ _
    · exact hx _
  generalize hS : refS a x = S at hSl hSc hSr ⊢
  -- the two maxima
  have hm : max (Finset.univ.fold max ⊥ l) (Finset.univ.fold max ⊥ x) = max ⊥ (Finset.univ.fold max ⊥ S) := by
    refine eq_of_forall_ge_iff fun t => ?_
    rw [max_le_iff, max_le_iff, fold_le, fold_le, fold_le]
    constructor
    · rintro ⟨h1, h2⟩
      refine ⟨bot_le, fun e => ?_⟩
      by_cases he : e.val < 128
      · have := h1 ⟨(e.val / 16) * 64 + (cs + e.val % 16), by omega⟩
        rw [hl ⟨e.val / 16, by omega⟩ ⟨e.val % 16, by omega⟩, ← hSl] at this
        convert this using 2; exact Fin.ext (by simp only; omega)
      · have := h2 ⟨e.val - 128, by omega⟩
        rw [← hSc] at this
        convert this using 2; exact Fin.ext (by simp only; omega)
    · rintro ⟨-, h⟩
      refine ⟨fun u => ?_, fun e => by rw [← hSc]; exact h _⟩
      by_cases hu : cs ≤ u.val % 64 ∧ u.val % 64 < cs + 16
      · have := h ⟨(u.val / 64) * 16 + (u.val % 64 - cs), by omega⟩
        rw [hSl ⟨u.val / 64, by omega⟩ ⟨u.val % 64 - cs, by omega⟩, ← hl] at this
        convert this using 2; exact Fin.ext (by simp only; omega)
      · rw [hl0 u hu]; exact bot_le
  unfold kOut refOut refP
  rw [hm]
  -- the maximum is a real number
  have hM : ∃ μ : ℝ, max ⊥ (Finset.univ.fold max ⊥ S) = (μ : EReal) := by
    refine ⟨(max ⊥ (Finset.univ.fold max ⊥ S)).toReal, (EReal.coe_toReal ?_ ?_).symm⟩
    · refine ne_of_lt (max_lt (by simp) ((Finset.fold_max_lt _).mpr ⟨by simp, fun e _ => lt_top_iff_ne_top.mpr (hSr e).2⟩))
    · refine ne_of_gt (lt_of_lt_of_le (bot_lt_iff_ne_bot.mpr (hSr 0).1) (le_max_of_le_right ((fold_le S _).mp le_rfl 0)))
  obtain ⟨μ, hμ⟩ := hM
  rw [hμ]
  obtain ⟨s, hs⟩ : ∃ s : Fin 384 → ℝ, ∀ e, S e = (s e : EReal) := ⟨fun e => (S e).toReal, fun e => (EReal.coe_toReal (hSr e).2 (hSr e).1).symm⟩
  have hE : ∀ e, Ideal.exp (S e - (μ : EReal)) = ((Real.exp (s e - μ) : ℝ) : EReal) := fun e => by
    rw [hs, ← EReal.coe_sub]; rfl
  have hl' : ∀ u : Fin 512, ¬ (cs ≤ u.val % 64 ∧ u.val % 64 < cs + 16) → Ideal.exp (l u - (μ : EReal)) = 0 := fun u hu => by
    rw [hl0 u hu, EReal.bot_sub]; rfl
  set L : ℝ := ∑ e, Real.exp (s e - μ) with hL
  have hLpos : 0 < L := Finset.sum_pos (fun e _ => Real.exp_pos _) ⟨0, Finset.mem_univ _⟩
  have hsum : ∑ e', Ideal.exp (S e' - (μ : EReal)) = (L : EReal) := by rw [hL, ← coe_sum]; exact Finset.sum_congr rfl fun e _ => hE e
  have hden : ∑ u, Ideal.exp (l u - (μ : EReal)) * 1 + ∑ e, Ideal.exp (x e - (μ : EReal)) * 1 = (L : EReal) := by
    rw [sum_window cs hcs _ (fun u hu => by rw [hl' u hu, zero_mul]), ← hsum, sum_384]
    simp only [mul_one, hl, hSl, hSc]
  have hdiv : ∀ y : EReal, Ideal.div y (L : EReal) = y * ((L⁻¹ : ℝ) : EReal) := fun y => by
    unfold Ideal.div
    rw [if_neg (by exact_mod_cast hLpos.ne'), EReal.coe_inv]
  simp only [hden, hsum, hdiv]
  have hi : 0 ≤ L⁻¹ := inv_nonneg.mpr hLpos.le
  rw [EReal.right_distrib_of_nonneg_of_ne_top (EReal.coe_nonneg.mpr hi) (EReal.coe_ne_top _), sum_mul_real _ _ hi, sum_mul_real _ _ hi,
    sum_window cs hcs _ (fun u hu => by rw [hl' u hu, zero_mul, zero_mul])]
  congr 1
  · refine Finset.sum_congr rfl fun i _ => Finset.sum_congr rfl fun j _ => ?_
    rw [hl, hv, hSl, mul_right_comm]
  · refine Finset.sum_congr rfl fun e _ => ?_
    rw [hSc, mul_comm (vc e), mul_right_comm]

/-- A finite sum of products of real numbers is one. -/
theorem sum_real {n : ℕ} (f g : Fin n → EReal) (hf : ∀ i, f i ≠ ⊥ ∧ f i ≠ ⊤) (hg : ∀ i, g i ≠ ⊥ ∧ g i ≠ ⊤) :
    (∑ i, f i * g i) ≠ ⊥ ∧ (∑ i, f i * g i) ≠ ⊤ := by
  have e : (∑ i, f i * g i) = ((∑ i, (f i).toReal * (g i).toReal : ℝ) : EReal) := by
    rw [← coe_sum]
    refine Finset.sum_congr rfl fun i _ => ?_
    rw [EReal.coe_mul, EReal.coe_toReal (hf i).2 (hf i).1, EReal.coe_toReal (hg i).2 (hg i).1]
  rw [e]; exact ⟨EReal.coe_ne_bot _, EReal.coe_ne_top _⟩

theorem add_real {a b : EReal} (ha : a ≠ ⊥ ∧ a ≠ ⊤) (hb : b ≠ ⊥ ∧ b ≠ ⊤) : a + b ≠ ⊥ ∧ a + b ≠ ⊤ := by
  rw [← EReal.coe_toReal ha.2 ha.1, ← EReal.coe_toReal hb.2 hb.1, ← EReal.coe_add]
  exact ⟨EReal.coe_ne_bot _, EReal.coe_ne_top _⟩

end Cert.Proof.Attn

end
-- ==== Proof.AttnPoint.lean ====
/- The attention kernel's rows at one output element, over the reals: a query's scores, their softmax and the weighted values. -/
module

public import proofs.«01_k».proof.Proof.AttnMath
public import proofs.«01_k».proof.Proof.AttnSpec

@[expose] public section

set_option maxRecDepth 65536

noncomputable section

namespace Cert.KernelIdeal.Val

open Cert.KernelIdeal Cert.KernelIdeal.Gen Cert.KernelIdeal.Hand Cert.Proof.Attn
open Idealize.ShloMosaic Idealize.ShloMosaic.TcCoe
open scoped BigOperators

/-! ## The scores -/

/-- A sum over 128 lanes of which only one head's 64 count. -/
theorem sum_half (hh : ℕ) (hlt : hh < 2) (f : Fin 128 → EReal) (h0 : ∀ x : Fin 128, x.val / 64 ≠ hh → f x = 0) :
    ∑ x, f x = ∑ d : Fin 64, f ⟨hh * 64 + d.val, by omega⟩ := by
  symm
  refine Finset.sum_of_injOn (fun d : Fin 64 => (⟨hh * 64 + d.val, by omega⟩ : Fin 128)) ?_ ?_ ?_ ?_
  · intro a _ b _ h
    have h' := congrArg Fin.val h
    simp only at h'
    exact Fin.ext (by omega)
  · intro _ _; exact Finset.mem_coe.mpr (Finset.mem_univ _)
  · intro x _ hx
    refine h0 x fun hw => hx ⟨⟨x.val % 64, by omega⟩, Finset.mem_coe.mpr (Finset.mem_univ _), Fin.ext ?_⟩
    simp only; omega
  · intro _ _; rfl

/-- The lane mask of the first head. -/
theorem lane_word : ∀ d : Fin 128, IntOp.cmpi .slt (BitVec.ofNat 32 d.val) 64#32 = if d.val < 64 then 1#1 else 0#1 := by decide +kernel

theorem stackQ_at (q : Vec Ideal S64x128 .bf16) (y d : Fin 128) :
    stackQ (F := Ideal) q (ix2 y d) = if d.val / 64 = y.val / 64 then q (ix2 ⟨y.val % 64, by omega⟩ d) else 0 := by
  unfold stackQ k0_pay241
  pointwise []
  rw [lane_word]
  unfold Scalar.select
  by_cases hy : y.val < 64 <;> by_cases hd : d.val < 64
  · refine (dif_pos hy).trans (Eq.trans ?_ (if_pos (show d.val / 64 = y.val / 64 by omega)).symm)
    rw [if_pos hd]
    exact (if_pos rfl).trans (congrArg (fun a => q (ix2 a d)) (Fin.ext (Nat.mod_eq_of_lt hy).symm))
  · refine (dif_pos hy).trans (Eq.trans ?_ (if_neg (show ¬ d.val / 64 = y.val / 64 by omega)).symm)
    rw [if_neg hd]
    exact if_neg (by decide)
  · refine (dif_neg hy).trans (Eq.trans ?_ (if_neg (show ¬ d.val / 64 = y.val / 64 by omega)).symm)
    rw [if_pos hd]
    exact if_pos rfl
  · refine (dif_neg hy).trans (Eq.trans ?_ (if_pos (show d.val / 64 = y.val / 64 by omega)).symm)
    rw [if_neg hd]
    exact (if_neg (by decide)).trans (congrArg (fun a => q (ix2 a d)) (Fin.ext (show y.val - 64 = y.val % 64 by omega)))

/-- One head's queries against the keys. -/
theorem dotQ (q : Vec Ideal S64x128 .bf16) (k : Fin 128 → EReal) (hh : ℕ) (hlt : hh < 2) (c : Fin 64) :
    ∑ x : Fin 128, stackQ (F := Ideal) q (ix2 ⟨hh * 64 + c.val, by omega⟩ x) * k x
      = ∑ d : Fin 64, q (ix2 c ⟨hh * 64 + d.val, by omega⟩) * k ⟨hh * 64 + d.val, by omega⟩ := by
  rw [sum_half hh hlt _ (fun x hx => by rw [stackQ_at, if_neg (by simp only; omega)]; exact zero_mul _)]
  refine Finset.sum_congr rfl fun d _ => ?_
  rw [stackQ_at, if_pos (by simp only; omega)]
  exact congrArg (fun a => q (ix2 a _) * _) (Fin.ext (by simp only; omega))

theorem locScore_at (q : Vec Ideal S64x128 .bf16) (kw : Vec Ideal S512x128 .bf16) (b : Vec Ideal S1x128x512 .f32) (hh : ℕ) (hlt : hh < 2) (c : Fin 64) (u : Fin 512) :
    locScore (F := Ideal) q kw b (ix2 ⟨hh * 64 + c.val, by omega⟩ u)
      = ∑ d : Fin 64, q (ix2 c ⟨hh * 64 + d.val, by omega⟩) * kw (ix2 u ⟨hh * 64 + d.val, by omega⟩) + b (ix3 0 ⟨hh * 64 + c.val, by omega⟩ u) := by
  rw [← dotQ q (fun x => kw (ix2 u x)) hh hlt c]
  unfold locScore
  generalize stackQ q = Q
  pointwise []

theorem ctxFst_at (kc : Vec Ideal S256x128 .bf16) (qa qb : Vec Ideal S64x128 .bf16) (y : Fin 128) (e : Fin 256) :
    ctxFst (F := Ideal) kc qa qb (ix2 y e) = ∑ x : Fin 128, stackQ (F := Ideal) qa (ix2 y x) * kc (ix2 e x) := by
  unfold ctxFst ctxPair
  generalize stackQ qa = A
  generalize stackQ qb = B
  pointwise []
theorem ctxSnd_at (kc : Vec Ideal S256x128 .bf16) (qa qb : Vec Ideal S64x128 .bf16) (y : Fin 128) (e : Fin 256) :
    ctxSnd (F := Ideal) kc qa qb (ix2 y e) = ∑ x : Fin 128, stackQ (F := Ideal) qb (ix2 y x) * kc (ix2 e x) := by
  unfold ctxSnd ctxPair
  generalize stackQ qa = A
  generalize stackQ qb = B
  pointwise []

theorem ctxRow_at (x2 : Vec Ideal S8192x128 .bf16) (x5 : Vec Ideal S256x128 .bf16) (r : ℕ) (hh : ℕ) (hlt : hh < 2) (c : Fin 64) (e : Fin 256) :
    ctxRow (F := Ideal) x2 x5 r (ix2 ⟨hh * 64 + c.val, by omega⟩ e)
      = ∑ d : Fin 64, x2 (ix2 (Fin.ofNat 8192 (r * 64 + c.val)) ⟨hh * 64 + d.val, by omega⟩) * x5 (ix2 e ⟨hh * 64 + d.val, by omega⟩) := by
  unfold ctxRow
  split
  · rw [ctxFst_at, dotQ _ (fun x => x5 (ix2 e x)) hh hlt c]; rfl
  · rw [ctxSnd_at, dotQ _ (fun x => x5 (ix2 e x)) hh hlt c]; rfl

/-! ## The softmax -/

theorem bot_bits : Ideal.ofBits FTy.f32 4286578688#32 = ⊥ := by simp [Ideal.ofBits, Ideal.ieee]

theorem rowMax_at (l : FVec Ideal S128x512 .f32) (x : FVec Ideal S128x256 .f32) (y : Fin 128) :
    rowMax (F := Ideal) l x (ix2 y 0) = max (Finset.univ.fold max ⊥ fun u => l (ix2 y u)) (Finset.univ.fold max ⊥ fun e => x (ix2 y e)) := by
  rw [← bot_bits]
  unfold rowMax
  pointwise []

theorem expLoc_at (l : FVec Ideal S128x512 .f32) (x : FVec Ideal S128x256 .f32) (y : Fin 128) (u : Fin 512) :
    expLoc (F := Ideal) l x (ix2 y u) = Ideal.exp (l (ix2 y u) - max (Finset.univ.fold max ⊥ fun u => l (ix2 y u)) (Finset.univ.fold max ⊥ fun e => x (ix2 y e))) := by
  rw [← rowMax_at]
  unfold expLoc
  generalize rowMax l x = M
  pointwise []
theorem expCtx_at (l : FVec Ideal S128x512 .f32) (x : FVec Ideal S128x256 .f32) (y : Fin 128) (u : Fin 256) :
    expCtx (F := Ideal) l x (ix2 y u) = Ideal.exp (x (ix2 y u) - max (Finset.univ.fold max ⊥ fun u => l (ix2 y u)) (Finset.univ.fold max ⊥ fun e => x (ix2 y e))) := by
  rw [← rowMax_at]
  unfold expCtx
  generalize rowMax l x = M
  pointwise []

/-! ## The weighted values -/

theorem pick_at (o : FVec Ideal S128x256 .f32) (c : Fin 64) (hh : ℕ) (hlt : hh < 2) (d : Fin 64) :
    pick (F := Ideal) o (ix2 c ⟨hh * 64 + d.val, by omega⟩)
      = Ideal.div (o (ix2 ⟨hh * 64 + c.val, by omega⟩ ⟨hh * 64 + d.val, by omega⟩)) (o (ix2 ⟨hh * 64 + c.val, by omega⟩ ⟨128 + (hh * 64 + d.val), by omega⟩)) := by
  unfold pick k0_pay241
  pointwise []
  rw [lane_word ⟨hh * 64 + d.val, by omega⟩]
  rcases (show hh = 0 ∨ hh = 1 by omega) with rfl | rfl
  · rw [if_pos (by simp only; omega)]
    refine congrArg₂ Ideal.div (congrArg o ?_) (congrArg o ?_) <;> exact congrArg (fun a => ix2 a _) (Fin.ext (by first | omega | (simp only; done) | (simp only; omega)))
  · rw [if_neg (by simp only; omega)]
    refine congrArg₂ Ideal.div (congrArg o ?_) (congrArg o ?_) <;> exact congrArg (fun a => ix2 a _) (Fin.ext (by first | omega | (simp only; done) | (simp only; omega)))

theorem outF (pc : Vec Ideal S256x256 .bf16) (vc : Vec Ideal S256x256 .bf16) (pl : Vec Ideal S128x512 .bf16) (vw : Vec Ideal S512x256 .bf16) (y : Fin 128) (z : Fin 256) :
    (addf (matmul (φ₁ := .bf16) (φ₂ := .bf16) dot_S128x512_S512x256_S128x256_1_0_0_1_n_n none pl vw (constant S128x256 .f32 0x00000000#32))
      (extractStridedSlice S128x256 ![0, 0] (ctxOut pc vc) slices_S256x256_o0_0_S128x256) : FVec Ideal S128x256 .f32) (ix2 y z)
      = ∑ u, pl (ix2 y u) * vw (ix2 u z) + ∑ e, pc (ix2 ⟨y.val, by omega⟩ e) * vc (ix2 e z) := by
  unfold ctxOut
  pointwise []
theorem outS (pc : Vec Ideal S256x256 .bf16) (vc : Vec Ideal S256x256 .bf16) (pl : Vec Ideal S128x512 .bf16) (vw : Vec Ideal S512x256 .bf16) (y : Fin 128) (z : Fin 256) :
    (addf (matmul (φ₁ := .bf16) (φ₂ := .bf16) dot_S128x512_S512x256_S128x256_1_0_0_1_n_n none pl vw (constant S128x256 .f32 0x00000000#32))
      (extractStridedSlice S128x256 ![128, 0] (ctxOut pc vc) slices_S256x256_o128_0_S128x256) : FVec Ideal S128x256 .f32) (ix2 y z)
      = ∑ u, pl (ix2 y u) * vw (ix2 u z) + ∑ e, pc (ix2 ⟨128 + y.val, by omega⟩ e) * vc (ix2 e z) := by
  unfold ctxOut
  pointwise []

theorem under_fst (a b : Vec Ideal S128x256 .bf16) (y : Fin 128) (e : Fin 256) : under (F := Ideal) a b (ix2 ⟨y.val, by omega⟩ e) = a (ix2 y e) := by
  unfold under
  exact dif_pos y.isLt
theorem under_snd (a b : Vec Ideal S128x256 .bf16) (y : Fin 128) (e : Fin 256) : under (F := Ideal) a b (ix2 ⟨128 + y.val, by omega⟩ e) = b (ix2 y e) := by
  unfold under
  refine (dif_neg (by show ¬ (128 + y.val < 128); omega)).trans ?_
  exact congrArg (fun z => b (ix2 z e)) (Fin.ext (by show 128 + y.val - 128 = y.val; omega))

variable (x2 x3 : Vec Ideal S8192x128 .bf16) (x4 : Vec Ideal S8192x256 .bf16) (x5 : Vec Ideal S256x128 .bf16) (x6 : Vec Ideal S256x256 .bf16) (x9 : Vec Ideal S8x128x512 .f32)

/-- A row of the output: the weights' sum is read off the lanes of the values that hold ones. -/
theorem Orow_at (r : ℕ) (hh : ℕ) (hlt : hh < 2) (c d : Fin 64)
    (hv : ∀ u, Vwin (F := Ideal) x4 r (ix2 u ⟨128 + (hh * 64 + d.val), by omega⟩) = (1 : EReal))
    (hc : ∀ e, x6 (ix2 e ⟨128 + (hh * 64 + d.val), by omega⟩) = (1 : EReal)) :
    Orow (F := Ideal) x2 x3 x4 x5 x6 x9 r (ix2 c ⟨hh * 64 + d.val, by omega⟩)
      = kOut (fun u => locScore (F := Ideal) (Qrow x2 r) (Kwin x3 r) (Brow x9 r) (ix2 ⟨hh * 64 + c.val, by omega⟩ u))
          (fun e => ctxRow (F := Ideal) x2 x5 r (ix2 ⟨hh * 64 + c.val, by omega⟩ e))
          (fun u => Vwin (F := Ideal) x4 r (ix2 u ⟨hh * 64 + d.val, by omega⟩))
          (fun e => x6 (ix2 e ⟨hh * 64 + d.val, by omega⟩)) := by
  unfold Orow kOut
  split
  · unfold outFst
    rw [pick_at _ c hh hlt d, outF, outF]
    simp only [under_fst _ _ ⟨hh * 64 + c.val, by omega⟩, hv, hc]
    unfold Lrow Crow
    simp only [expLoc_at, expCtx_at]
  · unfold outSnd
    rw [pick_at _ c hh hlt d, outS, outS]
    simp only [under_snd _ _ ⟨hh * 64 + c.val, by omega⟩, hv, hc]
    unfold Lrow Crow
    simp only [expLoc_at, expCtx_at]

end Cert.KernelIdeal.Val

end
-- ==== Proof.AttnBias.lean ====
/- The position bias as the kernel builds it: the tiles of its scratch at one place, and the pairs of rows the host makes for it. -/
module

public import proofs.«01_k».proof.Proof.AttnSpec

@[expose] public section

set_option maxRecDepth 65536

noncomputable section

namespace Cert.KernelIdeal.Val

open Cert.KernelIdeal Cert.KernelIdeal.Gen Cert.KernelIdeal.Hand
open Idealize.ShloMosaic Idealize.ShloMosaic.TcCoe
open scoped BigOperators

/-- A key column's place in a query's window, as the tile's mask computes it. -/
theorem valid_at (c : Fin 64) (w : Fin 128) :
    k0_pay2 (ix2 c w) = if min (c.val - 8) 48 ≤ w.val % 64 ∧ w.val % 64 < min (c.val - 8) 48 + 16 then 1#1 else 0#1 := by
  unfold k0_pay2
  pointwise []
  revert c w
  decide +kernel

theorem tileB_at (row : Vec Ideal S1x1x128 .f32) (c : Fin 64) (w : Fin 128) :
    tileB (F := Ideal) row (ix2 c w)
      = if min (c.val - 8) 48 ≤ w.val % 64 ∧ w.val % 64 < min (c.val - 8) 48 + 16
        then row (ix3 0 0 ⟨(w.val + 128 - (113 + c.val) % 128) % 128, by omega⟩) else ⊥ := by
  have e := valid_at c w
  unfold tileB
  generalize k0_pay2 = P at e ⊢
  pointwise []
  rw [e]
  split
  · rfl
  · have h : (Named.named (F := Ideal) κ "mask" (φ := .f32) 0xF149F2CA#32 : EReal) = ⊥ := IdealRules.named_const.ideal_named_scalar κ "mask" (φ := .f32) 0xF149F2CA#32 ⊥ rfl
    exact (if_neg (by decide)).trans h

theorem bias_in (x7 : Vec Ideal S2x16x128 .f32) (b hh : ℕ) (hb : b < 8) (hlt : hh < 2) (c : Fin 64) (i : Fin 8) (j : Fin 16) :
    biasOf (F := Ideal) x7 (ix3 ⟨b, hb⟩ ⟨hh * 64 + c.val, by omega⟩ ⟨i.val * 64 + (min (c.val - 8) 48 + j.val), by omega⟩)
      = x7 (ix3 ⟨hh, hlt⟩ ⟨b + 2 * (i.val / 2), by omega⟩ ⟨i.val % 2 * 64 + (min (c.val - 8) 48 + j.val + 15 - c.val), by omega⟩) := by
  unfold biasOf
  show tileB (F := Ideal) (rp7 x7 ((hh * 64 + c.val) / 64) (b + 2 * ((i.val * 64 + (min (c.val - 8) 48 + j.val)) / 128)))
    (ix2 ⟨(hh * 64 + c.val) % 64, _⟩ ⟨(i.val * 64 + (min (c.val - 8) 48 + j.val)) % 128, _⟩) = _
  rw [tileB_at, if_pos (by simp only; omega)]
  unfold rp7
  refine congrArg x7 (funext fun a => ?_)
  rcases (show ∀ a : Fin 3, a = 0 ∨ a = 1 ∨ a = 2 by decide) a with rfl | rfl | rfl <;> refine Fin.ext ?_
  · show ((hh * 64 + c.val) / 64) % 2 = hh; omega
  · show (b + 2 * ((i.val * 64 + (min (c.val - 8) 48 + j.val)) / 128)) % 16 = b + 2 * (i.val / 2); omega
  · show ((i.val * 64 + (min (c.val - 8) 48 + j.val)) % 128 + 128 - (113 + (hh * 64 + c.val) % 64) % 128) % 128 = i.val % 2 * 64 + (min (c.val - 8) 48 + j.val + 15 - c.val)
    omega

theorem bias_out (x7 : Vec Ideal S2x16x128 .f32) (b : Fin 8) (hh : ℕ) (hlt : hh < 2) (c : Fin 64) (u : Fin 512)
    (hu : ¬ (min (c.val - 8) 48 ≤ u.val % 64 ∧ u.val % 64 < min (c.val - 8) 48 + 16)) :
    biasOf (F := Ideal) x7 (ix3 b ⟨hh * 64 + c.val, by omega⟩ u) = (⊥ : EReal) := by
  unfold biasOf
  show tileB (F := Ideal) _ (ix2 ⟨(hh * 64 + c.val) % 64, _⟩ ⟨u.val % 128, _⟩) = _
  rw [tileB_at, if_neg (by simp only; omega)]

/-! ## The pairs of rows the host makes -/

variable (m : (ℓ : Loc nD τ sig) → Buf (Elt Ideal) ℓ)

/-- What the host computes of the bias table: row `u` in the first 64 lanes, row `u + 1` in the last. -/
theorem pairs_eq (c : Dev nD) : (V m c main_v5 : Vec Ideal S16x16x128 .f32)
    = addf (pad S16x16x128 ![0, 0, 0] ![0, 2, 97] ![0, 0, 0]
        (extractStridedSlice S16x14x31 ![0, 0, 0] (shapeCast S16x15x31 (m (c, main_arg3) : Vec Ideal S1x16x15x31 .f32) shapeCasts_S1x16x15x31_S16x15x31) slices_S16x15x31_S16x14x31_0_0_0)
        (sitofp .f32 (constantI S_ 32 0#32) : FVec Ideal S_ .f32) pads_S16x14x31_S16x16x128_000_020_0970 h_S_)
      (pad S16x16x128 ![0, 0, 64] ![0, 2, 33] ![0, 0, 0]
        (extractStridedSlice S16x14x31 ![0, 1, 0] (shapeCast S16x15x31 (m (c, main_arg3) : Vec Ideal S1x16x15x31 .f32) shapeCasts_S1x16x15x31_S16x15x31) slices_S16x15x31_S16x14x31_0_1_0)
        (sitofp .f32 (constantI S_ 32 0#32) : FVec Ideal S_ .f32) pads_S16x14x31_S16x16x128_000_020_64330 h_S_) := by
  rfl

end Cert.KernelIdeal.Val

end
-- ==== Proof.AttnPairs.lean ====
/- The pairs of bias rows the host makes, at the places the kernel reads. -/
module

public import proofs.«01_k».proof.Proof.AttnBias

@[expose] public section

set_option maxRecDepth 65536

noncomputable section

namespace Cert.KernelIdeal.Val

open Cert.KernelIdeal Cert.KernelIdeal.Gen Cert.KernelIdeal.Hand
open Idealize.ShloMosaic Idealize.ShloMosaic.TcCoe

/-- The pairs: the table's rows but its last in the first 64 lanes, its rows but its first in the last. -/
def pairs (x3 : Vec Ideal S1x16x15x31 .f32) : FVec Ideal S16x16x128 .f32 :=
  addf (pad S16x16x128 ![0, 0, 0] ![0, 2, 97] ![0, 0, 0]
      (extractStridedSlice S16x14x31 ![0, 0, 0] (shapeCast S16x15x31 x3 shapeCasts_S1x16x15x31_S16x15x31) slices_S16x15x31_S16x14x31_0_0_0)
      (sitofp .f32 (constantI S_ 32 0#32) : FVec Ideal S_ .f32) pads_S16x14x31_S16x16x128_000_020_0970 h_S_)
    (pad S16x16x128 ![0, 0, 64] ![0, 2, 33] ![0, 0, 0]
      (extractStridedSlice S16x14x31 ![0, 1, 0] (shapeCast S16x15x31 x3 shapeCasts_S1x16x15x31_S16x15x31) slices_S16x15x31_S16x14x31_0_1_0)
      (sitofp .f32 (constantI S_ 32 0#32) : FVec Ideal S_ .f32) pads_S16x14x31_S16x16x128_000_020_64330 h_S_)

theorem zero_word : (FloatOps.sitofp (F := Ideal) FTy.f32 (0#32) : EReal) = 0 := by
  show (((0#32 : BitVec 32).toInt : ℝ) : EReal) = 0
  simp

theorem pairs_at (x3 : Vec Ideal S1x16x15x31 .f32) (h u : Fin 16) (w : Fin 128) :
    pairs x3 (ix3 h u w)
      = ((if h' : u.val < 14 ∧ w.val < 31 then x3 (ix4 0 h ⟨u.val, by omega⟩ ⟨w.val, h'.2⟩) else (0 : EReal))
        + if h' : u.val < 14 ∧ 64 ≤ w.val ∧ w.val - 64 < 31 then x3 (ix4 0 h ⟨1 + u.val, by omega⟩ ⟨w.val - 64, h'.2.2⟩) else (0 : EReal) : EReal) := by
  unfold pairs
  pointwise []
  rw [zero_word]

/-- An even window row's bias: the first 64 lanes. -/
theorem pairs_lo (x3 : Vec Ideal S1x16x15x31 .f32) (h u : Fin 16) (w : Fin 31) (hu : u.val < 14) :
    pairs x3 (ix3 h u ⟨w.val, by omega⟩) = x3 (ix4 0 h ⟨u.val, by omega⟩ w) := by
  rw [pairs_at, dif_pos ⟨hu, w.isLt⟩, dif_neg (by simp only; omega)]
  exact add_zero _

/-- An odd window row's: the last 64. -/
theorem pairs_hi (x3 : Vec Ideal S1x16x15x31 .f32) (h u : Fin 16) (w : Fin 31) (hu : u.val < 14) :
    pairs x3 (ix3 h u ⟨64 + w.val, by omega⟩) = x3 (ix4 0 h ⟨u.val + 1, by omega⟩ w) := by
  rw [pairs_at, dif_neg (by simp only; omega), dif_pos (by simp only; omega)]
  refine (zero_add _).trans (congrArg₂ (fun a b => x3 (ix4 0 h a b)) (Fin.ext ?_) (Fin.ext ?_))
  · show 1 + u.val = u.val + 1; omega
  · show 64 + w.val - 64 = w.val; omega

end Cert.KernelIdeal.Val

end
-- ==== Proof.AttnRef.lean ====
/- The reference's attention at one output element: the eight by sixteen window and the context, their softmax and the weighted values. -/
module

public import proofs.«01_k».proof.Proof.AttnMath
public import proofs.«01_k».proof.Proof.Gen.ReferenceIdeal.Read
public import Idealize.ShloMosaic.Lib.Pointwise

@[expose] public section

set_option maxRecDepth 65536

noncomputable section

namespace Cert.ReferenceIdeal.Val

open Cert.ReferenceIdeal Cert.ReferenceIdeal.Gen Cert.ReferenceIdeal.Read Cert.Proof.Attn
open Idealize.ShloMosaic Idealize.ShloMosaic.TcCoe
open scoped BigOperators

/-! ## The two gathers -/

/-- The gather of the window's keys (and values) at an index. -/
theorem gather_rows (x : FVec Ideal S2x128x64x16x64 .bf16) (idx : IVec S128x64x8x16x2 32) (b : Fin 2) (r : Fin 128) (c : Fin 64) (h : Fin 16) (i : Fin 8) (j : Fin 16) (d : Fin 64) :
    Host.gather gather_S2x128x64x16x64_S128x64x8x16x2_S2x128x64x8x16x16x64_056_12_n_n_12_4_2111664 x idx (ix7 b r c i j h d)
      = x (ix5 b ⟨min (idx (ix5 r c i j 0)).toInt.toNat 127, by omega⟩ ⟨min (idx (ix5 r c i j 1)).toInt.toNat 63, by omega⟩ h d) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  rcases (show ∀ a : Fin 5, a = 0 ∨ a = 1 ∨ a = 2 ∨ a = 3 ∨ a = 4 by decide) a with rfl | rfl | rfl | rfl | rfl
  · unfold GatherDims.start
    rw [dif_neg (by decide)]
    unfold GatherDims.offCoord
    rw [dif_pos (by decide)]
    refine (Nat.zero_add _).trans ?_
    rfl
  · rw [GatherDims.offCoord_eq_zero _ _ _ (by decide)]
    unfold GatherDims.start
    rw [dif_pos (by decide)]
    refine congrArg₂ min (congrArg (fun z => (idx z).toInt.toNat) (funext fun k => Fin.ext ?_)) rfl
    rcases (show ∀ k : Fin 5, k = 0 ∨ k = 1 ∨ k = 2 ∨ k = 3 ∨ k = 4 by decide) k with rfl | rfl | rfl | rfl | rfl <;> rfl
  · rw [GatherDims.offCoord_eq_zero _ _ _ (by decide)]
    unfold GatherDims.start
    rw [dif_pos (by decide)]
    refine congrArg₂ min (congrArg (fun z => (idx z).toInt.toNat) (funext fun k => Fin.ext ?_)) rfl
    rcases (show ∀ k : Fin 5, k = 0 ∨ k = 1 ∨ k = 2 ∨ k = 3 ∨ k = 4 by decide) k with rfl | rfl | rfl | rfl | rfl <;> rfl
  · unfold GatherDims.start
    rw [dif_neg (by decide)]
    unfold GatherDims.offCoord
    rw [dif_pos (by decide)]
    refine (Nat.zero_add _).trans ?_
    rfl
  · unfold GatherDims.start
    rw [dif_neg (by decide)]
    unfold GatherDims.offCoord
    rw [dif_pos (by decide)]
    refine (Nat.zero_add _).trans ?_
    rfl

/-- The gather of the bias table at an index. -/
theorem gather_bias (x : FVec Ideal S16x15x31 .f32) (idx : IVec S128x64x8x16x2 32) (r : Fin 128) (c : Fin 64) (h : Fin 16) (i : Fin 8) (j : Fin 16) :
    Host.gather gather_S16x15x31_S128x64x8x16x2_S16x128x64x8x16_0_12_n_n_12_4_1611 x idx (ix5 h r c i j)
      = x (ix3 h ⟨min (idx (ix5 r c i j 0)).toInt.toNat 14, by omega⟩ ⟨min (idx (ix5 r c i j 1)).toInt.toNat 30, by omega⟩) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil]
  rcases (show ∀ a : Fin 3, a = 0 ∨ a = 1 ∨ a = 2 by decide) a with rfl | rfl | rfl
  · unfold GatherDims.start
    rw [dif_neg (by decide)]
    unfold GatherDims.offCoord
    rw [dif_pos (by decide)]
    refine (Nat.zero_add _).trans ?_
    rfl
  · rw [GatherDims.offCoord_eq_zero _ _ _ (by decide)]
    unfold GatherDims.start
    rw [dif_pos (by decide)]
    refine congrArg₂ min (congrArg (fun z => (idx z).toInt.toNat) (funext fun k => Fin.ext ?_)) rfl
    rcases (show ∀ k : Fin 5, k = 0 ∨ k = 1 ∨ k = 2 ∨ k = 3 ∨ k = 4 by decide) k with rfl | rfl | rfl | rfl | rfl <;> rfl
  · rw [GatherDims.offCoord_eq_zero _ _ _ (by decide)]
    unfold GatherDims.start
    rw [dif_pos (by decide)]
    refine congrArg₂ min (congrArg (fun z => (idx z).toInt.toNat) (funext fun k => Fin.ext ?_)) rfl
    rcases (show ∀ k : Fin 5, k = 0 ∨ k = 1 ∨ k = 2 ∨ k = 3 ∨ k = 4 by decide) k with rfl | rfl | rfl | rfl | rfl <;> rfl

/-! ## The index tables -/

/-- A window's rows, and a query's columns. -/
theorem row_at (r : Fin 128) (i : Fin 8) : val_main_v37 (F := Ideal) (ix2 r i) = BitVec.ofNat 32 (min (r.val - 4) 120 + i.val) := by
  pointwise [val_main_v37, val_main_v36, val_main_v35, val_main_v34, val_main_v33, val_main_v32, val_main_v31, val_main_call1_v4, val_main_call1_v2, val_main_call1_v3, val_main_call1_v1, val_main_call1_v0,
    val_main_v30, val_main_v29, val_main_v28, val_main_c_4, val_main_c_5, val_main_c_6, val_main_c_3, val_main_c_2]
  revert r i
  decide +kernel
theorem col_at (c : Fin 64) (j : Fin 16) : val_main_v22 (F := Ideal) (ix2 c j) = BitVec.ofNat 32 (min (c.val - 8) 48 + j.val) := by
  pointwise [val_main_v22, val_main_v21, val_main_v20, val_main_v19, val_main_v18, val_main_v17, val_main_v16, val_main_call0_v4, val_main_call0_v2, val_main_call0_v3, val_main_call0_v1, val_main_call0_v0,
    val_main_v15, val_main_v14, val_main_v13, val_main_c, val_main_c_0, val_main_c_1]
  revert c j
  decide +kernel

/-- The offsets of the rows and of the columns from the query's, in the bias table. -/
theorem rowoff_at (r : Fin 128) (i : Fin 8) : val_main_v42 (F := Ideal) (ix2 r i) = BitVec.ofNat 32 (min (r.val - 4) 120 + i.val + 7 - r.val) := by
  pointwise [val_main_v42, val_main_v41, val_main_v40, val_main_v39, val_main_v38, val_main_v28, val_main_c_6, row_at]
  revert r i
  decide +kernel
theorem coloff_at (c : Fin 64) (j : Fin 16) : val_main_v27 (F := Ideal) (ix2 c j) = BitVec.ofNat 32 (min (c.val - 8) 48 + j.val + 15 - c.val) := by
  pointwise [val_main_v27, val_main_v26, val_main_v25, val_main_v24, val_main_v23, val_main_v13, val_main_c_2, col_at]
  revert c j
  decide +kernel

/-- The start indices of the gathers. -/
theorem idx77_0 (r : Fin 128) (c : Fin 64) (i : Fin 8) (j : Fin 16) : (val_main_v77 (F := Ideal) (ix5 r c i j 0)).toInt.toNat = min (r.val - 4) 120 + i.val := by
  have e : val_main_v77 (F := Ideal) (ix5 r c i j 0) = val_main_v67 (F := Ideal) (ix4 r 0 i 0) := by
    unfold val_main_v77
    pointwise [val_main_v75, val_main_v73]
  rw [e]
  clear e
  pointwise [val_main_v67, val_main_v64, val_main_v66, val_main_v63, val_main_v65, val_main_c_11, val_main_c_12, val_main_v61, row_at]
  revert r i
  decide +kernel
theorem idx77_1 (r : Fin 128) (c : Fin 64) (i : Fin 8) (j : Fin 16) : (val_main_v77 (F := Ideal) (ix5 r c i j 1)).toInt.toNat = min (c.val - 8) 48 + j.val := by
  have e : val_main_v77 (F := Ideal) (ix5 r c i j 1) = val_main_v72 (F := Ideal) (ix4 0 c 0 j) := by
    unfold val_main_v77
    pointwise [val_main_v76, val_main_v74]
  rw [e]
  clear e
  pointwise [val_main_v72, val_main_v69, val_main_v71, val_main_v68, val_main_v70, val_main_c_13, val_main_c_14, val_main_v62, col_at]
  revert c j
  decide +kernel
theorem idx93_0 (r : Fin 128) (c : Fin 64) (i : Fin 8) (j : Fin 16) : (val_main_v93 (F := Ideal) (ix5 r c i j 0)).toInt.toNat = min (r.val - 4) 120 + i.val := by
  have e : val_main_v93 (F := Ideal) (ix5 r c i j 0) = val_main_v83 (F := Ideal) (ix4 r 0 i 0) := by
    unfold val_main_v93
    pointwise [val_main_v91, val_main_v89]
  rw [e]
  clear e
  pointwise [val_main_v83, val_main_v80, val_main_v82, val_main_v79, val_main_v81, val_main_c_15, val_main_c_16, val_main_v61, row_at]
  revert r i
  decide +kernel
theorem idx93_1 (r : Fin 128) (c : Fin 64) (i : Fin 8) (j : Fin 16) : (val_main_v93 (F := Ideal) (ix5 r c i j 1)).toInt.toNat = min (c.val - 8) 48 + j.val := by
  have e : val_main_v93 (F := Ideal) (ix5 r c i j 1) = val_main_v88 (F := Ideal) (ix4 0 c 0 j) := by
    unfold val_main_v93
    pointwise [val_main_v92, val_main_v90]
  rw [e]
  clear e
  pointwise [val_main_v88, val_main_v85, val_main_v87, val_main_v84, val_main_v86, val_main_c_17, val_main_c_18, val_main_v62, col_at]
  revert c j
  decide +kernel
theorem idx59_0 (r : Fin 128) (c : Fin 64) (i : Fin 8) (j : Fin 16) : (val_main_v59 (F := Ideal) (ix5 r c i j 0)).toInt.toNat = min (r.val - 4) 120 + i.val + 7 - r.val := by
  have e : val_main_v59 (F := Ideal) (ix5 r c i j 0) = val_main_v49 (F := Ideal) (ix4 r 0 i 0) := by
    unfold val_main_v59
    pointwise [val_main_v57, val_main_v55]
  rw [e]
  clear e
  pointwise [val_main_v49, val_main_v46, val_main_v48, val_main_v45, val_main_v47, val_main_c_7, val_main_c_8, val_main_v43, rowoff_at]
  revert r i
  decide +kernel
theorem idx59_1 (r : Fin 128) (c : Fin 64) (i : Fin 8) (j : Fin 16) : (val_main_v59 (F := Ideal) (ix5 r c i j 1)).toInt.toNat = min (c.val - 8) 48 + j.val + 15 - c.val := by
  have e : val_main_v59 (F := Ideal) (ix5 r c i j 1) = val_main_v54 (F := Ideal) (ix4 0 c 0 j) := by
    unfold val_main_v59
    pointwise [val_main_v58, val_main_v56]
  rw [e]
  clear e
  pointwise [val_main_v54, val_main_v51, val_main_v53, val_main_v50, val_main_v52, val_main_c_9, val_main_c_10, val_main_v44, coloff_at]
  revert c j
  decide +kernel

/-! ## The stages -/

variable (x0 x1 : Vec Ideal S16896x1024 .bf16) (x2 : Vec Ideal S16896x2048 .bf16) (x3 : Vec Ideal S1x16x15x31 .f32)

theorem q_at (b : Fin 2) (r : Fin 128) (c : Fin 64) (h : Fin 16) (d : Fin 64) :
    val_main_v3 (F := Ideal) x0 (ix5 b r c h d) = x0 (ix2 ⟨b.val * 8192 + r.val * 64 + c.val, by omega⟩ ⟨h.val * 64 + d.val, by omega⟩) := by
  pointwise [val_main_v3, val_main_v2]
theorem k_at (b : Fin 2) (r : Fin 128) (c : Fin 64) (h : Fin 16) (d : Fin 64) :
    val_main_v5 (F := Ideal) x1 (ix5 b r c h d) = x1 (ix2 ⟨b.val * 8192 + r.val * 64 + c.val, by omega⟩ ⟨h.val * 64 + d.val, by omega⟩) := by
  pointwise [val_main_v5, val_main_v4]
theorem v_at (b : Fin 2) (r : Fin 128) (c : Fin 64) (h : Fin 16) (d : Fin 64) :
    val_main_v7 (F := Ideal) x2 (ix5 b r c h d)
      = x2 (ix2 ⟨b.val * 8192 + r.val * 64 + c.val, by omega⟩ ⟨h.val / 2 * 256 + (h.val % 2 * 64 + d.val), by omega⟩) := by
  pointwise [val_main_v7, val_main_v6, val_main_v1, val_main_v0]
theorem kc_at (b : Fin 2) (e : Fin 256) (h : Fin 16) (d : Fin 64) :
    val_main_v9 (F := Ideal) x1 (ix4 b e h d) = x1 (ix2 ⟨16384 + (b.val * 256 + e.val), by omega⟩ ⟨h.val * 64 + d.val, by omega⟩) := by
  pointwise [val_main_v9, val_main_v8]
theorem vc_at (b : Fin 2) (e : Fin 256) (h : Fin 16) (d : Fin 64) :
    val_main_v11 (F := Ideal) x2 (ix4 b e h d)
      = x2 (ix2 ⟨16384 + (b.val * 256 + e.val), by omega⟩ ⟨h.val / 2 * 256 + (h.val % 2 * 64 + d.val), by omega⟩) := by
  pointwise [val_main_v11, val_main_v10, val_main_v1, val_main_v0]
theorem rpb_at (h : Fin 16) (u : Fin 15) (w : Fin 31) : val_main_v12 (F := Ideal) x3 (ix3 h u w) = x3 (ix4 0 h u w) := by
  pointwise [val_main_v12]

theorem kwin_at (b : Fin 2) (r : Fin 128) (c : Fin 64) (h : Fin 16) (i : Fin 8) (j : Fin 16) (d : Fin 64) :
    val_main_v78 (F := Ideal) x1 (ix7 b r c i j h d)
      = x1 (ix2 ⟨b.val * 8192 + (min (r.val - 4) 120 + i.val) * 64 + (min (c.val - 8) 48 + j.val), by omega⟩ ⟨h.val * 64 + d.val, by omega⟩) := by
  unfold val_main_v78
  rw [gather_rows, k_at]
  simp only [idx77_0, idx77_1]
  congr 3 <;> omega
theorem vwin_at (b : Fin 2) (r : Fin 128) (c : Fin 64) (h : Fin 16) (i : Fin 8) (j : Fin 16) (d : Fin 64) :
    val_main_v94 (F := Ideal) x2 (ix7 b r c i j h d)
      = x2 (ix2 ⟨b.val * 8192 + (min (r.val - 4) 120 + i.val) * 64 + (min (c.val - 8) 48 + j.val), by omega⟩
          ⟨h.val / 2 * 256 + (h.val % 2 * 64 + d.val), by omega⟩) := by
  unfold val_main_v94
  rw [gather_rows, v_at]
  simp only [idx93_0, idx93_1]
  congr 3 <;> omega
theorem bias_at (r : Fin 128) (c : Fin 64) (h : Fin 16) (i : Fin 8) (j : Fin 16) :
    val_main_v60 (F := Ideal) x3 (ix5 h r c i j)
      = x3 (ix4 0 h ⟨min (r.val - 4) 120 + i.val + 7 - r.val, by omega⟩ ⟨min (c.val - 8) 48 + j.val + 15 - c.val, by omega⟩) := by
  unfold val_main_v60
  rw [gather_bias, rpb_at]
  simp only [idx59_0, idx59_1]
  congr 2 <;> exact Fin.ext (Nat.min_eq_left (by omega))

/-- The scores of a query against its window, and against the context. -/
def locS (b : Fin 2) (r : Fin 128) (c : Fin 64) (h : Fin 16) (i : Fin 8) (j : Fin 16) : EReal :=
  ∑ d : Fin 64, x0 (ix2 ⟨b.val * 8192 + r.val * 64 + c.val, by omega⟩ ⟨h.val * 64 + d.val, by omega⟩)
      * x1 (ix2 ⟨b.val * 8192 + (min (r.val - 4) 120 + i.val) * 64 + (min (c.val - 8) 48 + j.val), by omega⟩ ⟨h.val * 64 + d.val, by omega⟩)
    + x3 (ix4 0 h ⟨min (r.val - 4) 120 + i.val + 7 - r.val, by omega⟩ ⟨min (c.val - 8) 48 + j.val + 15 - c.val, by omega⟩)
def ctxS (b : Fin 2) (r : Fin 128) (c : Fin 64) (h : Fin 16) (e : Fin 256) : EReal :=
  ∑ d : Fin 64, x0 (ix2 ⟨b.val * 8192 + r.val * 64 + c.val, by omega⟩ ⟨h.val * 64 + d.val, by omega⟩)
      * x1 (ix2 ⟨16384 + (b.val * 256 + e.val), by omega⟩ ⟨h.val * 64 + d.val, by omega⟩)

theorem loc_at (b : Fin 2) (r : Fin 128) (c : Fin 64) (h : Fin 16) (i : Fin 8) (j : Fin 16) :
    val_main_v98 (F := Ideal) x0 x1 x3 (ix6 b h r c i j) = locS x0 x1 x3 b r c h i j := by
  have e : val_main_v95 (F := Ideal) x0 x1 (ix6 b h r c i j) = ∑ d : Fin 64, val_main_v3 (F := Ideal) x0 (ix5 b r c h d) * val_main_v78 (F := Ideal) x1 (ix7 b r c i j h d) := by
    unfold val_main_v95
    generalize val_main_v3 x0 = A
    generalize val_main_v78 x1 = B
    pointwise []
  unfold val_main_v98 val_main_v97 val_main_v96
  generalize hB : val_main_v60 (F := Ideal) x3 = B
  generalize hA : val_main_v95 (F := Ideal) x0 x1 = A at e ⊢
  pointwise []
  rw [e, ← hB, bias_at]
  simp only [q_at, kwin_at]
  rfl
theorem ctx_at (b : Fin 2) (r : Fin 128) (c : Fin 64) (h : Fin 16) (e : Fin 256) :
    val_main_v99 (F := Ideal) x0 x1 (ix5 b h r c e) = ctxS x0 x1 b r c h e := by
  have e' : val_main_v99 (F := Ideal) x0 x1 (ix5 b h r c e) = ∑ d : Fin 64, val_main_v3 (F := Ideal) x0 (ix5 b r c h d) * val_main_v9 (F := Ideal) x1 (ix4 b e h d) := by
    unfold val_main_v99
    generalize val_main_v3 x0 = A
    generalize val_main_v9 x1 = B
    pointwise []
  rw [e']
  simp only [q_at, kc_at]
  rfl
theorem S_at (b : Fin 2) (r : Fin 128) (c : Fin 64) (h : Fin 16) (e : Fin 384) :
    val_main_v101 (F := Ideal) x0 x1 x3 (ix5 b h r c e) = refS (locS x0 x1 x3 b r c h) (ctxS x0 x1 b r c h) e := by
  have e' : val_main_v101 (F := Ideal) x0 x1 x3 (ix5 b h r c e)
      = if h' : e.val < 128 then val_main_v98 (F := Ideal) x0 x1 x3 (ix6 b h r c ⟨e.val / 16, by omega⟩ ⟨e.val % 16, by omega⟩)
        else val_main_v99 (F := Ideal) x0 x1 (ix5 b h r c ⟨e.val - 128, by omega⟩) := by
    unfold val_main_v101 val_main_v100
    generalize val_main_v98 x0 x1 x3 = A
    generalize val_main_v99 x0 x1 = B
    pointwise []
  rw [e']
  unfold refS
  simp only [loc_at, ctx_at]

end Cert.ReferenceIdeal.Val

end
-- ==== Proof.AttnRef2.lean ====
/- The reference's softmax, weighted values and result at one output element. -/
module

public import proofs.«01_k».proof.Proof.AttnRef
public import Idealize.ShloMosaic.Lib.Pointwise

@[expose] public section

set_option maxRecDepth 65536

noncomputable section

namespace Cert.ReferenceIdeal.Val

open Cert.ReferenceIdeal Cert.ReferenceIdeal.Gen Cert.ReferenceIdeal.Read Cert.Proof.Attn
open Idealize.ShloMosaic Idealize.ShloMosaic.TcCoe
open scoped BigOperators

variable (x0 x1 : Vec Ideal S16896x1024 .bf16) (x2 : Vec Ideal S16896x2048 .bf16) (x3 : Vec Ideal S1x16x15x31 .f32)

theorem bot_bits : Ideal.ofBits FTy.f32 4286578688#32 = ⊥ := by simp [Ideal.ofBits, Ideal.ieee]

/-- A maximum over the scores. -/
theorem max_fold (A : FVec Ideal S2x16x128x64x384 .f32) (init : FVec Ideal S_ .f32) (hr : S2x16x128x64x384.ReducesTo [4] S2x16x128x64) (hu : 0 < S_.numel)
    (b : Fin 2) (r : Fin 128) (c : Fin 64) (h : Fin 16) :
    (Host.reduce FloatOps.maximumf A init hr hu : FVec Ideal S2x16x128x64 .f32) (ix4 b h r c)
      = Finset.univ.fold max (init (Shape.Idx.first hu)) fun e : Fin 384 => A (ix5 b h r c e) := by
  simp only [pointwise]

theorem M_at (b : Fin 2) (r : Fin 128) (c : Fin 64) (h : Fin 16) :
    val_main_v104 (F := Ideal) x0 x1 x3 (ix4 b h r c)
      = max ⊥ (Finset.univ.fold max ⊥ (refS (locS x0 x1 x3 b r c h) (ctxS x0 x1 b r c h))) := by
  have e0 : val_main_v103 (F := Ideal) (ix4 b h r c) = ⊥ := by
    rw [val_main_v103_apply, val_main_cst_19_apply]; exact bot_bits
  have e1 : val_main_cst (F := Ideal) (Shape.Idx.first h_S_) = ⊥ := (val_main_cst_apply _).trans bot_bits
  have e2 : val_main_v102 (F := Ideal) x0 x1 x3 (ix4 b h r c) = Finset.univ.fold max ⊥ (refS (locS x0 x1 x3 b r c h) (ctxS x0 x1 b r c h)) := by
    unfold val_main_v102
    rw [max_fold]
    simp only [S_at]
    rw [e1]
  rw [val_main_v104_apply, e0, e2]
  exact congrFun (congrFun Ideal.maximumf_eq_max _) _

theorem P_at (b : Fin 2) (r : Fin 128) (c : Fin 64) (h : Fin 16) (e : Fin 384) :
    val_main_v113 (F := Ideal) x0 x1 x3 (ix5 b h r c e) = refP (refS (locS x0 x1 x3 b r c h) (ctxS x0 x1 b r c h)) e := by
  have e' : val_main_v113 (F := Ideal) x0 x1 x3 (ix5 b h r c e)
      = Ideal.div (Ideal.exp (val_main_v101 (F := Ideal) x0 x1 x3 (ix5 b h r c e) - val_main_v104 (F := Ideal) x0 x1 x3 (ix4 b h r c)))
        (∑ e', Ideal.exp (val_main_v101 (F := Ideal) x0 x1 x3 (ix5 b h r c e') - val_main_v104 (F := Ideal) x0 x1 x3 (ix4 b h r c))) := by
    unfold val_main_v113 val_main_v112 val_main_v111 val_main_v110 val_main_v109 val_main_v108 val_main_v107 val_main_v106 val_main_v105
    generalize val_main_v101 x0 x1 x3 = A
    generalize val_main_v104 x0 x1 x3 = B
    pointwise [val_main_cst_20]
  rw [e']
  simp only [S_at, M_at]
  rfl

theorem wsum_at (A : FVec Ideal S2x16x128x64x8x16 .bf16) (B : FVec Ideal S2x128x64x8x16x16x64 .bf16) (b : Fin 2) (r : Fin 128) (c : Fin 64) (h : Fin 16) (d : Fin 64) :
   (Host.dotGeneral dot_S2x16x128x64x8x16_S2x128x64x8x16x16x64_S2x128x64x16x64_45_34_n_6_0231_0125 none A B : FVec Ideal S2x128x64x16x64 .f32) (ix5 b r c h d)
     = ∑ i, ∑ j, A (ix6 b h r c i j) * B (ix7 b r c i j h d) := by
  pointwise []
theorem csum_at (C : FVec Ideal S2x256x16x64 .bf16) (A : FVec Ideal S2x16x128x64x256 .bf16) (b : Fin 2) (r : Fin 128) (c : Fin 64) (h : Fin 16) (d : Fin 64) :
   (Host.dotGeneral dot_S2x256x16x64_S2x16x128x64x256_S2x16x64x128x64_1_4_3_23_02_01 none C A : FVec Ideal S2x16x64x128x64 .f32) (ix5 b h d r c)
     = ∑ e, C (ix4 b e h d) * A (ix5 b h r c e) := by
  pointwise []
theorem Ploc_at (b : Fin 2) (r : Fin 128) (c : Fin 64) (h : Fin 16) (i : Fin 8) (j : Fin 16) :
    val_main_v115 (F := Ideal) x0 x1 x3 (ix6 b h r c i j) = val_main_v113 (F := Ideal) x0 x1 x3 (ix5 b h r c ⟨i.val * 16 + j.val, by omega⟩) := by
  unfold val_main_v115 val_main_v114
  generalize val_main_v113 x0 x1 x3 = A
  pointwise []
theorem Pctx_at (b : Fin 2) (r : Fin 128) (c : Fin 64) (h : Fin 16) (e : Fin 256) :
    val_main_v116 (F := Ideal) x0 x1 x3 (ix5 b h r c e) = val_main_v113 (F := Ideal) x0 x1 x3 (ix5 b h r c ⟨128 + e.val, by omega⟩) := by
  unfold val_main_v116
  generalize val_main_v113 x0 x1 x3 = A
  pointwise []

/-- The reference's result at a query's head and lane. -/
theorem ref_at (b : Fin 2) (r : Fin 128) (c : Fin 64) (h : Fin 16) (d : Fin 64) :
    val_main_v120 (F := Ideal) x0 x1 x2 x3 (ix5 b r c h d)
      = refOut (refS (locS x0 x1 x3 b r c h) (ctxS x0 x1 b r c h))
        (fun i j => x2 (ix2 ⟨b.val * 8192 + (min (r.val - 4) 120 + i.val) * 64 + (min (c.val - 8) 48 + j.val), by omega⟩
          ⟨h.val / 2 * 256 + (h.val % 2 * 64 + d.val), by omega⟩))
        (fun e => x2 (ix2 ⟨16384 + (b.val * 256 + e.val), by omega⟩ ⟨h.val / 2 * 256 + (h.val % 2 * 64 + d.val), by omega⟩)) := by
  have e1 : val_main_v117 (F := Ideal) x0 x1 x2 x3 (ix5 b r c h d)
      = ∑ i, ∑ j, val_main_v115 (F := Ideal) x0 x1 x3 (ix6 b h r c i j) * val_main_v94 (F := Ideal) x2 (ix7 b r c i j h d) := by
    unfold val_main_v117
    generalize val_main_v115 x0 x1 x3 = A
    generalize val_main_v94 x2 = B
    exact wsum_at A B b r c h d
  have e2 : val_main_v119 (F := Ideal) x0 x1 x2 x3 (ix5 b r c h d)
      = ∑ e, val_main_v11 (F := Ideal) x2 (ix4 b e h d) * val_main_v116 (F := Ideal) x0 x1 x3 (ix5 b h r c e) := by
    rw [val_main_v119_apply]
    unfold val_main_v118
    generalize val_main_v116 x0 x1 x3 = A
    generalize val_main_v11 x2 = B
    refine Eq.trans (congrArg _ ?_) (csum_at B A b r c h d)
    funext a
    rcases (show ∀ a : Fin 5, a = 0 ∨ a = 1 ∨ a = 2 ∨ a = 3 ∨ a = 4 by decide) a with rfl | rfl | rfl | rfl | rfl <;> rfl
  rw [val_main_v120_apply, e1, e2]
  unfold refOut
  refine congrArg₂ (· + ·) (Finset.sum_congr rfl fun i _ => Finset.sum_congr rfl fun j _ => ?_) (Finset.sum_congr rfl fun e _ => ?_)
  · rw [Ploc_at, P_at, vwin_at]
  · rw [Pctx_at, P_at, vc_at]
theorem res_at (b : Fin 2) (r : Fin 128) (c : Fin 64) (h : Fin 16) (d : Fin 64) :
    val_main_v122 (F := Ideal) x0 x1 x2 x3 (ix2 ⟨b.val * 8192 + r.val * 64 + c.val, by omega⟩ ⟨h.val * 64 + d.val, by omega⟩)
      = val_main_v120 (F := Ideal) x0 x1 x2 x3 (ix5 b r c h d) := by
  unfold val_main_v122 val_main_v121
  generalize val_main_v120 x0 x1 x2 x3 = A
  pointwise []

end Cert.ReferenceIdeal.Val

end
-- ==== Proof.AttnFinal.lean ====
/- The attention kernel's output elements are the reference's, over the reals. -/
module

public import proofs.«01_k».proof.Proof.AttnPoint
public import proofs.«01_k».proof.Proof.AttnPairs
public import proofs.«01_k».proof.Proof.AttnRef2

@[expose] public section

set_option maxRecDepth 65536

noncomputable section

namespace Cert.Proof.Attn

open Cert.KernelIdeal Cert.KernelIdeal.Hand Cert.KernelIdeal.Val
open Cert.ReferenceIdeal.Val (locS ctxS ref_at res_at)
open Idealize.ShloMosaic Idealize.ShloMosaic.TcCoe
open scoped BigOperators

/-- The blocks of one grid point (`b` the batch, `p` the pair of heads) over the whole arrays. -/
structure Blocks (a0 a1 : Vec Ideal S16896x1024 .bf16) (a2 : Vec Ideal S16896x2048 .bf16) (a3 : Vec Ideal S1x16x15x31 .f32)
    (x2 x3 : Vec Ideal S8192x128 .bf16) (x4 : Vec Ideal S8192x256 .bf16) (x5 : Vec Ideal S256x128 .bf16) (x6 : Vec Ideal S256x256 .bf16) (x7 : Vec Ideal S2x16x128 .f32)
    (b : Fin 2) (p : Fin 8) : Prop where
  hq : ∀ (n : Fin 8192) (l : Fin 128), x2 (ix2 n l) = a0 (ix2 ⟨b.val * 8192 + n.val, by omega⟩ ⟨p.val * 128 + l.val, by omega⟩)
  hk : ∀ (n : Fin 8192) (l : Fin 128), x3 (ix2 n l) = a1 (ix2 ⟨b.val * 8192 + n.val, by omega⟩ ⟨p.val * 128 + l.val, by omega⟩)
  hv : ∀ (n : Fin 8192) (l : Fin 256), x4 (ix2 n l) = a2 (ix2 ⟨b.val * 8192 + n.val, by omega⟩ ⟨p.val * 256 + l.val, by omega⟩)
  hkc : ∀ (e : Fin 256) (l : Fin 128), x5 (ix2 e l) = a1 (ix2 ⟨16384 + (b.val * 256 + e.val), by omega⟩ ⟨p.val * 128 + l.val, by omega⟩)
  hvc : ∀ (e : Fin 256) (l : Fin 256), x6 (ix2 e l) = a2 (ix2 ⟨16384 + (b.val * 256 + e.val), by omega⟩ ⟨p.val * 256 + l.val, by omega⟩)
  hrp : ∀ (hh : Fin 2) (u : Fin 16) (l : Fin 128), x7 (ix3 hh u l) = pairs a3 (ix3 ⟨p.val * 2 + hh.val, by omega⟩ u l)

/-- The precondition, element by element: queries, keys and bias are real, and the lanes beside the values hold ones. -/
structure Usable (a0 a1 : Vec Ideal S16896x1024 .bf16) (a2 : Vec Ideal S16896x2048 .bf16) (a3 : Vec Ideal S1x16x15x31 .f32) : Prop where
  rq : ∀ (n : Fin 16896) (d : Fin 1024), (a0 (ix2 n d) : EReal) ≠ ⊥ ∧ (a0 (ix2 n d) : EReal) ≠ ⊤
  rk : ∀ (n : Fin 16896) (d : Fin 1024), (a1 (ix2 n d) : EReal) ≠ ⊥ ∧ (a1 (ix2 n d) : EReal) ≠ ⊤
  rb : ∀ (z : Fin 1) (t : Fin 16) (u : Fin 15) (w : Fin 31), (a3 (ix4 z t u w) : EReal) ≠ ⊥ ∧ (a3 (ix4 z t u w) : EReal) ≠ ⊤
  one : ∀ (n : Fin 16896) (p : Fin 8) (d : Fin 128), (a2 (ix2 n ⟨p.val * 256 + (128 + d.val), by omega⟩) : EReal) = 1

variable {a0 a1 : Vec Ideal S16896x1024 .bf16} {a2 : Vec Ideal S16896x2048 .bf16} {a3 : Vec Ideal S1x16x15x31 .f32}
  {x2 x3 : Vec Ideal S8192x128 .bf16} {x4 : Vec Ideal S8192x256 .bf16} {x5 : Vec Ideal S256x128 .bf16} {x6 : Vec Ideal S256x256 .bf16} {x7 : Vec Ideal S2x16x128 .f32}
  {b : Fin 2} {p : Fin 8}

/-- A score inside a query's window is the reference's. -/
theorem score_in (B : Blocks a0 a1 a2 a3 x2 x3 x4 x5 x6 x7 b p) (r : Fin 128) (c : Fin 64) (hh : Fin 2) (i : Fin 8) (j : Fin 16) :
    locScore (F := Ideal) (Qrow x2 r.val) (Kwin x3 r.val) (Brow (biasOf x7) r.val) (ix2 ⟨hh.val * 64 + c.val, by omega⟩ ⟨i.val * 64 + (min (c.val - 8) 48 + j.val), by omega⟩)
      = locS a0 a1 a3 b r c ⟨p.val * 2 + hh.val, by omega⟩ i j := by
  rw [locScore_at _ _ _ hh.val hh.isLt c]
  unfold locS
  refine congrArg₂ (fun s t : EReal => s + t) (Finset.sum_congr rfl fun d _ => ?_) ?_
  · refine congrArg₂ (fun s t : EReal => s * t) ?_ ?_
    · unfold Qrow
      refine (B.hq _ _).trans (congrArg₂ (fun s t => a0 (ix2 s t)) (Fin.ext ?_) (Fin.ext ?_))
      · show b.val * 8192 + (r.val * 64 + c.val) % 8192 = b.val * 8192 + r.val * 64 + c.val; omega
      · show p.val * 128 + (hh.val * 64 + d.val) = (p.val * 2 + hh.val) * 64 + d.val; omega
    · unfold Kwin win
      refine (B.hk _ _).trans (congrArg₂ (fun s t => a1 (ix2 s t)) (Fin.ext ?_) (Fin.ext ?_))
      · show b.val * 8192 + (min (r.val - 4) 120 * 64 + (i.val * 64 + (min (c.val - 8) 48 + j.val))) % 8192 = b.val * 8192 + (min (r.val - 4) 120 + i.val) * 64 + (min (c.val - 8) 48 + j.val); omega
      · show p.val * 128 + (hh.val * 64 + d.val) = (p.val * 2 + hh.val) * 64 + d.val; omega
  · have hb : win r.val + 7 - r.val < 8 := by unfold win; omega
    have e : (Fin.ofNat 8 (win r.val + 7 - r.val) : Fin 8) = ⟨win r.val + 7 - r.val, hb⟩ := Fin.ext (Nat.mod_eq_of_lt hb)
    unfold Brow
    show biasOf (F := Ideal) x7 (ix3 (Fin.ofNat 8 (win r.val + 7 - r.val)) ⟨hh.val * 64 + c.val, _⟩ ⟨i.val * 64 + (min (c.val - 8) 48 + j.val), _⟩) = _
    rw [e, bias_in x7 _ hh.val hb hh.isLt c i j, B.hrp]
    rcases Nat.mod_two_eq_zero_or_one i.val with hi | hi
    · refine Eq.trans (congrArg (fun w => pairs a3 (ix3 _ _ w)) (Fin.ext ?_)) ((pairs_lo a3 ⟨p.val * 2 + hh.val, by omega⟩ ⟨win r.val + 7 - r.val + 2 * (i.val / 2), by omega⟩ ⟨min (c.val - 8) 48 + j.val + 15 - c.val, by omega⟩ (by simp only; omega)).trans
        (congrArg (fun u => a3 (ix4 0 _ u _)) (Fin.ext ?_)))
      · show i.val % 2 * 64 + (min (c.val - 8) 48 + j.val + 15 - c.val) = min (c.val - 8) 48 + j.val + 15 - c.val; omega
      · show win r.val + 7 - r.val + 2 * (i.val / 2) = min (r.val - 4) 120 + i.val + 7 - r.val
        unfold win; omega
    · refine Eq.trans (congrArg (fun w => pairs a3 (ix3 _ _ w)) (Fin.ext ?_)) ((pairs_hi a3 ⟨p.val * 2 + hh.val, by omega⟩ ⟨win r.val + 7 - r.val + 2 * (i.val / 2), by omega⟩ ⟨min (c.val - 8) 48 + j.val + 15 - c.val, by omega⟩ (by simp only; omega)).trans
        (congrArg (fun u => a3 (ix4 0 _ u _)) (Fin.ext ?_)))
      · show i.val % 2 * 64 + (min (c.val - 8) 48 + j.val + 15 - c.val) = 64 + (min (c.val - 8) 48 + j.val + 15 - c.val); omega
      · show win r.val + 7 - r.val + 2 * (i.val / 2) + 1 = min (r.val - 4) 120 + i.val + 7 - r.val
        unfold win; omega

/-- A score outside it is minus infinity. -/
theorem score_out (r : Fin 128) (c : Fin 64) (hh : Fin 2) (u : Fin 512) (hu : ¬ (min (c.val - 8) 48 ≤ u.val % 64 ∧ u.val % 64 < min (c.val - 8) 48 + 16)) :
    locScore (F := Ideal) (Qrow x2 r.val) (Kwin x3 r.val) (Brow (biasOf x7) r.val) (ix2 ⟨hh.val * 64 + c.val, by omega⟩ u) = (⊥ : EReal) := by
  rw [locScore_at _ _ _ hh.val hh.isLt c]
  have e : Brow (F := Ideal) (biasOf x7) r.val (ix3 0 ⟨hh.val * 64 + c.val, by omega⟩ u) = (⊥ : EReal) := by
    unfold Brow
    exact bias_out x7 _ hh.val hh.isLt c u hu
  rw [e]
  exact EReal.add_bot _

/-- A context score is the reference's. -/
theorem score_ctx (B : Blocks a0 a1 a2 a3 x2 x3 x4 x5 x6 x7 b p) (r : Fin 128) (c : Fin 64) (hh : Fin 2) (e : Fin 256) :
    ctxRow (F := Ideal) x2 x5 r.val (ix2 ⟨hh.val * 64 + c.val, by omega⟩ e) = ctxS a0 a1 b r c ⟨p.val * 2 + hh.val, by omega⟩ e := by
  rw [ctxRow_at _ _ _ hh.val hh.isLt c]
  unfold ctxS
  refine Finset.sum_congr rfl fun d _ => congrArg₂ (fun s t : EReal => s * t) ?_ ?_
  · refine (B.hq _ _).trans (congrArg₂ (fun s t => a0 (ix2 s t)) (Fin.ext ?_) (Fin.ext ?_))
    · show b.val * 8192 + (r.val * 64 + c.val) % 8192 = b.val * 8192 + r.val * 64 + c.val; omega
    · show p.val * 128 + (hh.val * 64 + d.val) = (p.val * 2 + hh.val) * 64 + d.val; omega
  · refine (B.hkc _ _).trans (congrArg (fun t => a1 (ix2 _ t)) (Fin.ext ?_))
    show p.val * 128 + (hh.val * 64 + d.val) = (p.val * 2 + hh.val) * 64 + d.val; omega

/-- An output element of a grid point is the reference's. -/
theorem point_eq (B : Blocks a0 a1 a2 a3 x2 x3 x4 x5 x6 x7 b p) (U : Usable a0 a1 a2 a3) (r : Fin 128) (c d : Fin 64) (hh : Fin 2) :
    rows64 (F := Ideal) (Orow x2 x3 x4 x5 x6 (biasOf x7)) (ix2 ⟨r.val * 64 + c.val, by omega⟩ ⟨hh.val * 64 + d.val, by omega⟩)
      = Cert.ReferenceIdeal.Read.val_main_v122 (F := Ideal) a0 a1 a2 a3 (ix2 ⟨b.val * 8192 + r.val * 64 + c.val, by omega⟩ ⟨(p.val * 2 + hh.val) * 64 + d.val, by omega⟩) := by
  have e1 : (r.val * 64 + c.val) / 64 = r.val := by omega
  have e2 : (⟨(r.val * 64 + c.val) % 64, Nat.mod_lt _ (by decide)⟩ : Fin 64) = c := Fin.ext (by show (r.val * 64 + c.val) % 64 = c.val; omega)
  have eo : rows64 (F := Ideal) (Orow x2 x3 x4 x5 x6 (biasOf x7)) (ix2 ⟨r.val * 64 + c.val, by omega⟩ ⟨hh.val * 64 + d.val, by omega⟩)
      = Orow (F := Ideal) x2 x3 x4 x5 x6 (biasOf x7) r.val (ix2 c ⟨hh.val * 64 + d.val, by omega⟩) := by
    unfold rows64
    show Orow (F := Ideal) x2 x3 x4 x5 x6 (biasOf x7) ((r.val * 64 + c.val) / 64) (ix2 ⟨(r.val * 64 + c.val) % 64, _⟩ _) = _
    rw [e1, e2]
    rfl
  have o1 : ∀ u, Vwin (F := Ideal) x4 r.val (ix2 u ⟨128 + (hh.val * 64 + d.val), by omega⟩) = (1 : EReal) := fun u => by
    unfold Vwin
    exact (B.hv _ ⟨128 + (hh.val * 64 + d.val), by omega⟩).trans (U.one _ p ⟨hh.val * 64 + d.val, by omega⟩)
  have o2 : ∀ e, x6 (ix2 e ⟨128 + (hh.val * 64 + d.val), by omega⟩) = (1 : EReal) := fun e =>
    (B.hvc e ⟨128 + (hh.val * 64 + d.val), by omega⟩).trans (U.one _ p ⟨hh.val * 64 + d.val, by omega⟩)
  have ec : (fun e => ctxRow (F := Ideal) x2 x5 r.val (ix2 ⟨hh.val * 64 + c.val, by omega⟩ e)) = ctxS a0 a1 b r c ⟨p.val * 2 + hh.val, by omega⟩ :=
    funext fun e => score_ctx B r c hh e
  have ev : (fun e => x6 (ix2 e ⟨hh.val * 64 + d.val, by omega⟩))
      = fun e => a2 (ix2 ⟨16384 + (b.val * 256 + e.val), by omega⟩ ⟨(p.val * 2 + hh.val) / 2 * 256 + ((p.val * 2 + hh.val) % 2 * 64 + d.val), by omega⟩) :=
    funext fun e => (B.hvc _ _).trans (congrArg (fun t => a2 (ix2 _ t)) (Fin.ext (by
      show p.val * 256 + (hh.val * 64 + d.val) = (p.val * 2 + hh.val) / 2 * 256 + ((p.val * 2 + hh.val) % 2 * 64 + d.val); omega)))
  rw [eo, Orow_at _ _ _ _ _ _ r.val hh.val hh.isLt c d o1 o2, ec, ev, res_at a0 a1 a2 a3 b r c ⟨p.val * 2 + hh.val, by omega⟩ d, ref_at]
  refine kOut_eq (min (c.val - 8) 48) (by omega) (locS a0 a1 a3 b r c ⟨p.val * 2 + hh.val, by omega⟩) _ _ _ _ _ (fun i j => ?_) (fun e => ?_) (fun i j => ?_) (fun u hu => ?_) (fun i j => ?_)
  · exact add_real (sum_real _ _ (fun d => U.rq _ _) (fun d => U.rk _ _)) (U.rb _ _ _ _)
  · exact sum_real _ _ (fun d => U.rq _ _) (fun d => U.rk _ _)
  · exact score_in B r c hh i j
  · exact score_out r c hh u hu
  · unfold Vwin win
    refine (B.hv _ _).trans (congrArg₂ (fun s t => a2 (ix2 s t)) (Fin.ext ?_) (Fin.ext ?_))
    · show b.val * 8192 + (min (r.val - 4) 120 * 64 + (i.val * 64 + (min (c.val - 8) 48 + j.val))) % 8192 = b.val * 8192 + (min (r.val - 4) 120 + i.val) * 64 + (min (c.val - 8) 48 + j.val); omega
    · show p.val * 256 + (hh.val * 64 + d.val) = (p.val * 2 + hh.val) / 2 * 256 + ((p.val * 2 + hh.val) % 2 * 64 + d.val); omega

end Cert.Proof.Attn

end
-- ==== Proof.AttnPre.lean ====
/- What the precondition says of the arguments, element by element. -/
module

public import proofs.«01_k».proof.Proof.Gen.Pre_usable
public import Idealize.ShloMosaic.Lib.Pointwise

@[expose] public section

set_option maxRecDepth 65536

noncomputable section

namespace Cert.Proof.Pre

open Cert.Pre_usable Cert.Pre_usable.Facts
open Idealize.ShloMosaic Idealize.ShloMosaic.TcCoe

theorem top_bits : Ideal.ofBits FTy.f32 2139095040#32 = ⊤ := by simp [Ideal.ofBits, Ideal.ieee]

variable [Cert.Pre_usable.Facts] (a0 a1 : FVec Ideal S16896x1024 .bf16) (a2 : FVec Ideal S16896x2048 .bf16) (a3 : FVec Ideal S1x16x15x31 .f32)

/-- An element whose absolute value is below infinity is a real number. -/
theorem real_of_abs (x : EReal) (h : BitVec.ofBool (decide ((show EReal from FloatOps.absf (F := Ideal) (show Ideal .f32 from x)) < Ideal.ofBits FTy.f32 2139095040#32)) = 1#1) : x ≠ ⊥ ∧ x ≠ ⊤ := by
  have h' : (show EReal from FloatOps.absf (F := Ideal) (show Ideal .f32 from x)) < ⊤ := by
    rw [top_bits] at h
    by_contra hn
    rw [decide_eq_false hn] at h
    exact absurd h (by decide)
  have h2 : max x (-x) < ⊤ := h'
  refine ⟨fun e => ?_, fun e => ?_⟩
  · rw [e] at h2; simp at h2
  · rw [e] at h2; simp at h2

theorem real_q (h : (Cert.Pre_usable.fn (F := Ideal) a0 a1 a2 a3).1 = fun _ => 1#1) (n : Fin 16896) (d : Fin 1024) :
    (a0 (ix2 n d) : EReal) ≠ ⊥ ∧ (a0 (ix2 n d) : EReal) ≠ ⊤ := by
  have h' := congrFun h (ix2 n d)
  unfold Cert.Pre_usable.fn at h'
  simp only [pointwise] at h'
  exact real_of_abs _ h'
theorem real_k (h : (Cert.Pre_usable.fn (F := Ideal) a0 a1 a2 a3).2.1 = fun _ => 1#1) (n : Fin 16896) (d : Fin 1024) :
    (a1 (ix2 n d) : EReal) ≠ ⊥ ∧ (a1 (ix2 n d) : EReal) ≠ ⊤ := by
  have h' := congrFun h (ix2 n d)
  unfold Cert.Pre_usable.fn at h'
  simp only [pointwise] at h'
  exact real_of_abs _ h'
theorem real_rpb (h : (Cert.Pre_usable.fn (F := Ideal) a0 a1 a2 a3).2.2.1 = fun _ => 1#1) (z : Fin 1) (t : Fin 16) (u : Fin 15) (w : Fin 31) :
    (a3 (ix4 z t u w) : EReal) ≠ ⊥ ∧ (a3 (ix4 z t u w) : EReal) ≠ ⊤ := by
  have h' := congrFun h (ix4 z t u w)
  unfold Cert.Pre_usable.fn at h'
  simp only [pointwise] at h'
  exact real_of_abs _ h'
/-- The lanes beside the values hold ones. -/
theorem ones_v (h : (Cert.Pre_usable.fn (F := Ideal) a0 a1 a2 a3).2.2.2 = fun _ => 1#1) (n : Fin 16896) (p : Fin 8) (d : Fin 128) :
    (a2 (ix2 n ⟨p.val * 256 + (128 + d.val), by omega⟩) : EReal) = 1 := by
  have h' := congrFun h (ix3 n p d)
  unfold Cert.Pre_usable.fn at h'
  simp only [pointwise] at h'
  have e : (a2 (ix2 n ⟨p.val * 256 + (128 + d.val), by omega⟩) : EReal)
      = a2 (ix2 ⟨![0, 0, 128] 0 + n.val, by show 0 + n.val < 16896; omega⟩ ⟨(![0, 0, 128] 1 + p.val) * 256 + (![0, 0, 128] 2 + d.val), by show (0 + p.val) * 256 + (128 + d.val) < 2048; omega⟩) := by
    refine congrArg₂ (fun a b => a2 (ix2 a b)) (Fin.ext ?_) (Fin.ext ?_)
    · show n.val = 0 + n.val; omega
    · show p.val * 256 + (128 + d.val) = (0 + p.val) * 256 + (128 + d.val); omega
  rw [e]
  by_contra hn
  rw [decide_eq_false hn] at h'
  exact absurd h' (by decide)

end Cert.Proof.Pre

end
-- ==== Proof.AttnClaim.lean ====
/- The attention call's value claim: its result array over the reals is the reference's. -/
module

public import proofs.«01_k».proof.Defs
public import proofs.«01_k».proof.Proof.AttnBlocks
public import proofs.«01_k».proof.Proof.AttnFinal
public import proofs.«01_k».proof.Proof.AttnPre
public import proofs.«01_k».proof.Proof.Gen.ReferenceIdeal.Run
public import Idealize.ShloMosaic.Lib.Claim

@[expose] public section

set_option maxRecDepth 65536

noncomputable section

namespace Cert.Proof.Attn

open Cert.KernelIdeal Cert.KernelIdeal.Gen Cert.KernelIdeal.Hand Cert.KernelIdeal.Val
open Idealize.ShloMosaic Idealize.ShloMosaic.TcCoe Idealize.SL.Sem

/-- The reference's result, of the kernel's argument arrays. -/
def G (m : (ℓ : Loc nD τ sig) → Buf (Elt Ideal) ℓ) (c : Dev nD) : Vec Ideal S16384x1024 .bf16 :=
  Cert.ReferenceIdeal.Read.val_main_v122 (F := Ideal) (m ((c : Thread nD τ).loc main_arg0)) (m ((c : Thread nD τ).loc main_arg1)) (m ((c : Thread nD τ).loc main_arg2)) (m ((c : Thread nD τ).loc main_arg3))

/-- The kernel's result array after the run. -/
theorem final (m : (ℓ : Loc nD τ sig) → Buf (Elt Ideal) ℓ) (hm : Cert.Pre_KernelIdeal_usable m) (c : Dev nD) :
    (Cert.KernelIdeal.Val.dats m 0 c).arrAt 6 cfg0.N = G m c := by
  obtain ⟨p0, p1, p2, p3⟩ := hm c
  refine (Cert.KernelIdeal.Val.dats m 0 c).arrAt_eq_of_covers 6 _ (by decide +kernel) fun t hf y => ?_
  obtain ⟨i0, i1, i2, i3, i4, i5, i6⟩ := idx t
  blk_simp
  rw [after0_6]
  idx_vars y
  have ht := point_lt t
  have he := out_blk t y0 y1
  have e0 : y0 = ⟨y0.val / 64 * 64 + y0.val % 64, by omega⟩ := Fin.ext (by simp only; omega)
  have e1 : y1 = ⟨y1.val / 64 * 64 + y1.val % 64, by omega⟩ := Fin.ext (by simp only; omega)
  have B : Blocks (m ((c : Thread nD τ).loc main_arg0)) (m ((c : Thread nD τ).loc main_arg1)) (m ((c : Thread nD τ).loc main_arg2)) (m ((c : Thread nD τ).loc main_arg3))
      (X0_0 m c t) (X0_1 m c t) (X0_2 m c t) (iblk m c 3 t) (iblk m c 4 t) (iblk m c 5 t) ⟨t.val % 2, by omega⟩ ⟨t.val / 2, by omega⟩ :=
    ⟨q_blk m c t, k_blk m c t, v_blk m c t, kc_blk m c t, vc_blk m c t, fun hh u l => (rp_blk m c t hh u l).trans (congrFun (pairs_eq m c) _)⟩
  have U : Usable (m ((c : Thread nD τ).loc main_arg0)) (m ((c : Thread nD τ).loc main_arg1)) (m ((c : Thread nD τ).loc main_arg2)) (m ((c : Thread nD τ).loc main_arg3)) :=
    ⟨Cert.Proof.Pre.real_q _ _ _ _ p0, Cert.Proof.Pre.real_k _ _ _ _ p1, Cert.Proof.Pre.real_rpb _ _ _ _ p2, Cert.Proof.Pre.ones_v _ _ _ _ p3⟩
  have key := point_eq B U ⟨y0.val / 64, by omega⟩ ⟨y0.val % 64, by omega⟩ ⟨y1.val % 64, by omega⟩ ⟨y1.val / 64, by omega⟩
  rw [he]
  refine (congrArg (rowsAt m c t) (congrArg₂ (fun a b => ix2 a b) e0 e1)).trans (key.trans ?_)
  unfold G
  refine congrArg _ (congrArg₂ (fun a b => ix2 a b) (Fin.ext ?_) (Fin.ext ?_))
  · show t.val % 2 * 8192 + y0.val / 64 * 64 + y0.val % 64 = t.val % 2 * 8192 + y0.val; omega
  · show (t.val / 2 * 2 + y1.val / 64) * 64 + y1.val % 64 = t.val / 2 * 128 + y1.val; omega

/-- The attention call's run with its result array named. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = (Cert.KernelIdeal.Val.dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h.1 c).1 6, ?_, ?_, ?_, ?_⟩) (Cert.KernelIdeal.Val.run_main m ρ)
  · exact (Pipeline.FramePost.in_eq h.1 c 0 rfl).trans ((Cert.KernelIdeal.Val.A_eq m c 0).trans (V_main_arg0 m c))
  · exact (Pipeline.FramePost.in_eq h.1 c 3 rfl).trans ((Cert.KernelIdeal.Val.A_eq m c 3).trans (V_main_arg1 m c))
  · exact (Pipeline.FramePost.in_eq h.1 c 4 rfl).trans ((Cert.KernelIdeal.Val.A_eq m c 4).trans (V_main_arg2 m c))
  · exact ((h.1 c).2 main_arg3 (Pipeline.mem_restRefs_of main_arg3 (by decide) (by decide))).trans (V_main_arg3 m c)

/-- The algebraic claim of the call. -/
theorem algebraic : Cert.algebraic_KernelIdeal_ReferenceIdeal_pre_usable := by
  intro m g m' g' hp hm
  refine ⟨fun c => (Cert.KernelIdeal.Val.dats m 0 c).arrAt 6 Cert.KernelIdeal.cfg0.N, run_blocks m g,
    (θ_run _ _ _).mono (fun r h c => ?_) (Cert.ReferenceIdeal.Value.run m' g')⟩
  obtain ⟨h0, h1, h2, h3⟩ := hm c
  refine ⟨(h c).1.trans ?_, (h c).2⟩
  refine Eq.trans ?_ (final m hp c).symm
  unfold G
  rw [Cert.ReferenceIdeal.Read.val_main_v122_eq, h0, h1, h2, h3]

end Cert.Proof.Attn

end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel.Skeleton
public import proofs.«01_k».proof.Proof.Gen.Kernel.Launch
public import proofs.«01_k».proof.Proof.Gen.Kernel.Loops
public import proofs.«01_k».proof.Proof.Gen.Kernel.Points
public import proofs.«01_k».proof.Proof.Gen.Kernel.Frame
public import proofs.«01_k».proof.Proof.Gen.Kernel
public import proofs.«01_k».proof.Proof.Gen.KernelIdeal.Skeleton
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_usable
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.OutMlp
public import proofs.«01_k».proof.Proof.ConvMlp
public import proofs.«01_k».proof.Proof.Ada
public import proofs.«01_k».proof.Proof.AttnFrame
public import proofs.«01_k».proof.Proof.AttnIdealFrame
public import proofs.«01_k».proof.Proof.AttnClaim
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_usable.Gen.facts,
    fun m ρ _ => Cert.Kernel.Hand.frame m ρ, fun m ρ _ => Cert.KernelIdeal.Hand.frame m ρ, fun m ρ _ => Cert.KernelIdeal.Hand.frame m ρ,
    fun m ρ _ => (θ_run _ _ _).mono (fun r h => ⟨fun c => (h c).2, sem_eq_zero_of_no_sems rfl r.2⟩) (Cert.ReferenceIdeal.Value.run m ρ),
    fun m ρ _ => (θ_run _ _ _).mono (fun r h => ⟨fun c => (h c).2, sem_eq_zero_of_no_sems rfl r.2⟩) (Cert.ReferenceIdeal.Value.run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems rfl r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems rfl r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems rfl r.2⟩) (Cert.Reference4Ideal.Value.run m ρ),
    IdealRules.named_const.statement Cert.KernelIdeal.κ "mask" .f32 0xF149F2CA#32 ⊥ rfl, Attn.algebraic,
    trivial, OutMlp.algebraic,
    trivial, ConvMlp.algebraic,
    trivial, Ada.algebraic⟩

end Cert.Proof

end
